-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_convolution [hPre_finite_convolution : Cert.Pre_finite_convolution.Facts] (m : (ℓ : Loc Cert.KernelIdeal.nD Cert.KernelIdeal.τ Cert.KernelIdeal.sig) → Buf (Elt Ideal) ℓ) : Prop :=
  ∀ c : Dev Cert.KernelIdeal.nD,
    (Cert.Pre_finite_convolution.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_convolution.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_convolution.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_convolution [hPre_finite_convolution : Cert.Pre_finite_convolution.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_convolution.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_convolution.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_convolution.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel4 (m : (ℓ : Loc Cert.Kernel4.nD Cert.Kernel4.τ Cert.Kernel4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_convolution [hKernelIdeal : Cert.KernelIdeal.Facts] [hPre_finite_convolution : Cert.Pre_finite_convolution.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_convolution m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_convolution [hReferenceIdeal : Cert.ReferenceIdeal.Facts] [hPre_finite_convolution : Cert.Pre_finite_convolution.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_convolution m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def preserves_Kernel_KernelIdeal : Prop :=
  True

def algebraic_KernelIdeal_ReferenceIdeal_pre_finite_convolution [hKernelIdeal : Cert.KernelIdeal.Facts] [hReferenceIdeal : Cert.ReferenceIdeal.Facts] [hPre_finite_convolution : Cert.Pre_finite_convolution.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_convolution m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel4 : Cert.Kernel4.Facts) (hPre_finite_convolution : Cert.Pre_finite_convolution.Facts),
    quiescent_Kernel (hKernel := hKernel)
    ∧ quiescent_KernelIdeal (hKernelIdeal := hKernelIdeal)
    ∧ quiescent_KernelIdeal_pre_finite_convolution (hKernelIdeal := hKernelIdeal) (hPre_finite_convolution := hPre_finite_convolution)
    ∧ quiescent_ReferenceIdeal (hReferenceIdeal := hReferenceIdeal)
    ∧ quiescent_ReferenceIdeal_pre_finite_convolution (hReferenceIdeal := hReferenceIdeal) (hPre_finite_convolution := hPre_finite_convolution)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel4 (hKernel4 := hKernel4)
    ∧ preserves_Kernel_KernelIdeal
    ∧ algebraic_KernelIdeal_ReferenceIdeal_pre_finite_convolution (hKernelIdeal := hKernelIdeal) (hReferenceIdeal := hReferenceIdeal) (hPre_finite_convolution := hPre_finite_convolution)
    ∧ preserves_Kernel2_Kernel2Ideal
    ∧ algebraic_Kernel2Ideal_Reference2Ideal (hKernel2Ideal := hKernel2Ideal) (hReference2Ideal := hReference2Ideal)
-- ==== Pre_finite_convolution.lean ====
abbrev S4x2048x2048 : Shape := ⟨3, ![4, 2048, 2048]⟩
abbrev S1x2048 : Shape := ⟨2, ![1, 2048]⟩
abbrev S1x2048x12304 : Shape := ⟨3, ![1, 2048, 12304]⟩
abbrev S1x4x3072 : Shape := ⟨3, ![1, 4, 3072]⟩
abbrev S_ : Shape := ⟨0, ![]⟩
abbrev S1x2048x3072 : Shape := ⟨3, ![1, 2048, 3072]⟩

class Facts : Prop where
  bcast_S_S1x2048 : S_.BroadcastsInDim S1x2048 (![] : Fin 0 → Fin S1x2048.rank)
  bcast_S_S1x4x3072 : S_.BroadcastsInDim S1x4x3072 (![] : Fin 0 → Fin S1x4x3072.rank)
  slices_S1x2048x12304_S1x2048x3072_0_0_4096 : S1x2048x12304.Slices ![0, 0, 4096] S1x2048x3072
  bcast_S_S1x2048x3072 : S_.BroadcastsInDim S1x2048x3072 (![] : Fin 0 → Fin S1x2048x3072.rank)

variable [Facts]

def fn {F : FTy → Type} [FloatOps F] (main_arg0 : FVec F S4x2048x2048 .f32) (main_arg1 : FVec F S1x2048 .f32) (main_arg2 : FVec F S1x2048x12304 .f32) (main_arg3 : FVec F S1x4x3072 .f32) : IVec S1x2048 1 × IVec S1x4x3072 1 × IVec S1x2048x3072 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x4x3072 .f32 := Host.absf main_arg3
  let main_cst_0 : FVec F S_ .f32 := constant S_ .f32 0x7F800000#32
  let main_v4 : FVec F S1x4x3072 .f32 := broadcastInDim S1x4x3072 ![] bcast_S_S1x4x3072 main_cst_0
  let main_v5 : IVec S1x4x3072 1 := cmpf .olt main_v3 main_v4
  let main_v6 : FVec F S1x2048x3072 .f32 := (extractStridedSlice S1x2048x3072 ![0, 0, 4096] · slices_S1x2048x12304_S1x2048x3072_0_0_4096) main_arg2
  let main_v7 : FVec F S1x2048x3072 .f32 := Host.absf main_v6
  let main_cst_1 : FVec F S_ .f32 := constant S_ .f32 0x7F800000#32
  let main_v8 : FVec F S1x2048x3072 .f32 := broadcastInDim S1x2048x3072 ![] bcast_S_S1x2048x3072 main_cst_1
  let main_v9 : IVec S1x2048x3072 1 := cmpf .olt main_v7 main_v8
  (main_v2, main_v5, main_v9)
-- ==== Kernel.lean ====
abbrev S4x2048x2048 : Shape := ⟨3, ![4, 2048, 2048]⟩
abbrev S1x2048 : Shape := ⟨2, ![1, 2048]⟩
abbrev S1x2048x12304 : Shape := ⟨3, ![1, 2048, 12304]⟩
abbrev S1x4x3072 : Shape := ⟨3, ![1, 4, 3072]⟩
abbrev S8192x2048 : Shape := ⟨2, ![8192, 2048]⟩
abbrev S2048 : Shape := ⟨1, ![2048]⟩
abbrev S2048x12304 : Shape := ⟨2, ![2048, 12304]⟩
abbrev S12304x2048 : Shape := ⟨2, ![12304, 2048]⟩
abbrev S4x3072 : Shape := ⟨2, ![4, 3072]⟩
abbrev S8192x12288 : Shape := ⟨2, ![8192, 12288]⟩
abbrev S8192x128 : Shape := ⟨2, ![8192, 128]⟩
abbrev S1024x2048 : Shape := ⟨2, ![1024, 2048]⟩
abbrev S16x2048 : Shape := ⟨2, ![16, 2048]⟩
abbrev S4x1024 : Shape := ⟨2, ![4, 1024]⟩
abbrev S1024x1024 : Shape := ⟨2, ![1024, 1024]⟩
abbrev S1024x128 : Shape := ⟨2, ![1024, 128]⟩
abbrev S4x1024x2048 : Shape := ⟨3, ![4, 1024, 2048]⟩
abbrev S128x2048 : Shape := ⟨2, ![128, 2048]⟩
abbrev S3x8x1024 : Shape := ⟨3, ![3, 8, 1024]⟩
abbrev S112x2048 : Shape := ⟨2, ![112, 2048]⟩
abbrev S1024 : Shape := ⟨1, ![1024]⟩
abbrev S1024x1 : Shape := ⟨2, ![1024, 1]⟩
abbrev S1x1024x2048 : Shape := ⟨3, ![1, 1024, 2048]⟩
abbrev S256x2048 : Shape := ⟨2, ![256, 2048]⟩
abbrev S256x256 : Shape := ⟨2, ![256, 256]⟩
abbrev S1x8x1024 : Shape := ⟨3, ![1, 8, 1024]⟩
abbrev S8x1024 : Shape := ⟨2, ![8, 1024]⟩
abbrev S8x256 : Shape := ⟨2, ![8, 256]⟩
abbrev S264x256 : Shape := ⟨2, ![264, 256]⟩
abbrev S1x256 : Shape := ⟨2, ![1, 256]⟩
abbrev S256x128 : Shape := ⟨2, ![256, 128]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x12304, .f32⟩
  | .hbm, ⟨3, _⟩ => ⟨S1x4x3072, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S2048x12304, .f32⟩
  | .hbm, ⟨8, _⟩ => ⟨S12304x2048, .f32⟩
  | .hbm, ⟨9, _⟩ => ⟨S4x3072, .f32⟩
  | .hbm, ⟨10, _⟩ => ⟨S8192x12288, .bf16⟩
  | .hbm, ⟨11, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S16x2048, .f32⟩
  | .local _ .vmem, ⟨6, _⟩ => ⟨S4x1024, .f32⟩
  | .local _ .vmem, ⟨7, _⟩ => ⟨S4x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S4x1024x2048, .bf16⟩
  | .local _ .vmem, ⟨13, _⟩ => ⟨S1024x2048, .bf16⟩
  | .local _ .vmem, ⟨14, _⟩ => ⟨S128x2048, .bf16⟩
  | .local _ .vmem, ⟨15, _⟩ => ⟨S3x8x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 12, 4], ![false, false, false]⟩

def k0_cond3 (i : grid0.Coords) : BitVec 1 :=
  let arg1 : BitVec 32 := BitVec.ofNat 32 (i 1).val
  let c0_i32_6 : BitVec 32 := 0#32
  let v16 : BitVec 1 := Scalar.cmpi .eq arg1 c0_i32_6
  let v17 : BitVec 32 := Scalar.extui v16
  let c0_i32_7 : BitVec 32 := 0#32
  let v18 : BitVec 1 := Scalar.cmpi .ne v17 c0_i32_7
  v18

def k0_off1 (i : grid0.Coords) : Fin 3 → Nat :=
  let arg2 : BitVec 32 := BitVec.ofNat 32 (i 2).val
  let v49 : Index := Scalar.indexCast arg2
  let c0_18 : Index := 0#32
  let c0_19 : Index := 0#32
  ![v49.toNat, 0, 0]
def k0_cond4 (i : grid0.Coords) : BitVec 1 :=
  let arg1 : BitVec 32 := BitVec.ofNat 32 (i 1).val
  let c4_i32_0 : BitVec 32 := 4#32
  let v2 : BitVec 1 := Scalar.cmpi .sge arg1 c4_i32_0
  let c7_i32 : BitVec 32 := 7#32
  let v3 : BitVec 1 := Scalar.cmpi .slt arg1 c7_i32
  let v4 : BitVec 1 := Scalar.andi v2 v3
  let c8_i32 : BitVec 32 := 8#32
  let v5 : BitVec 1 := Scalar.cmpi .sge arg1 c8_i32
  let v19 : BitVec 1 := Scalar.ori v4 v5
  let v_true : BitVec 1 := 1#1
  let v20 : BitVec 1 := Scalar.xori v19 v_true
  let v21 : BitVec 32 := Scalar.extui v20
  let c0_i32_8 : BitVec 32 := 0#32
  let v22 : BitVec 1 := Scalar.cmpi .ne v21 c0_i32_8
  v22

def k0_off2 (i : grid0.Coords) : Fin 3 → Nat :=
  let arg2 : BitVec 32 := BitVec.ofNat 32 (i 2).val
  let c0_i32_14 : BitVec 32 := 0#32
  let c0_i32_15 : BitVec 32 := 0#32
  ![arg2.toNat, 0, 0]
def k0_cond5 (i : grid0.Coords) : BitVec 1 :=
  let arg1 : BitVec 32 := BitVec.ofNat 32 (i 1).val
  let c4_i32_0 : BitVec 32 := 4#32
  let v2 : BitVec 1 := Scalar.cmpi .sge arg1 c4_i32_0
  let c7_i32 : BitVec 32 := 7#32
  let v3 : BitVec 1 := Scalar.cmpi .slt arg1 c7_i32
  let v4 : BitVec 1 := Scalar.andi v2 v3
  let c6_i32 : BitVec 32 := 6#32
  let v23 : BitVec 1 := Scalar.cmpi .slt arg1 c6_i32
  let v24 : BitVec 1 := Scalar.andi v4 v23
  let v25 : BitVec 32 := Scalar.extui v24
  let c0_i32_9 : BitVec 32 := 0#32
  let v26 : BitVec 1 := Scalar.cmpi .ne v25 c0_i32_9
  v26

def k0_off3 (i : grid0.Coords) : Fin 3 → Nat :=
  let arg1 : BitVec 32 := BitVec.ofNat 32 (i 1).val
  let c4_i32_13 : BitVec 32 := 4#32
  let v32 : BitVec 32 := Scalar.subi arg1 c4_i32_13
  let v40 : Index := Scalar.indexCast v32
  let c0_16 : Index := 0#32
  let c0_17 : Index := 0#32
  ![v40.toNat, 0, 0]
def k0_off4 (i : grid0.Coords) : Fin 3 → Nat :=
  let arg2 : BitVec 32 := BitVec.ofNat 32 (i 2).val
  let c0_i32_22 : BitVec 32 := 0#32
  let c0_i32_23 : BitVec 32 := 0#32
  ![arg2.toNat, 0, 0]
def k0_cond6 (i : grid0.Coords) : BitVec 1 :=
  let arg1 : BitVec 32 := BitVec.ofNat 32 (i 1).val
  let c6_i32_10 : BitVec 32 := 6#32
  let v27 : BitVec 1 := Scalar.cmpi .eq arg1 c6_i32_10
  let v28 : BitVec 32 := Scalar.extui v27
  let c0_i32_11 : BitVec 32 := 0#32
  let v29 : BitVec 1 := Scalar.cmpi .ne v28 c0_i32_11
  v29

def k0_off5 (i : grid0.Coords) : Fin 3 → Nat :=
  let arg1 : BitVec 32 := BitVec.ofNat 32 (i 1).val
  let c4_i32_13 : BitVec 32 := 4#32
  let v32 : BitVec 32 := Scalar.subi arg1 c4_i32_13
  let v40 : Index := Scalar.indexCast v32
  let c0_16 : Index := 0#32
  let c0_17 : Index := 0#32
  ![v40.toNat, 0, 0]
def k0_off6 (i : grid0.Coords) : Fin 3 → Nat :=
  let arg2 : BitVec 32 := BitVec.ofNat 32 (i 2).val
  let c0_i32_19 : BitVec 32 := 0#32
  let c0_i32_20 : BitVec 32 := 0#32
  ![arg2.toNat, 0, 0]
def k0_cond7 (i : grid0.Coords) : BitVec 1 :=
  let arg1 : BitVec 32 := BitVec.ofNat 32 (i 1).val
  let c8_i32 : BitVec 32 := 8#32
  let v5 : BitVec 1 := Scalar.cmpi .sge arg1 c8_i32
  let v30 : BitVec 32 := Scalar.extui v5
  let c0_i32_12 : BitVec 32 := 0#32
  let v31 : BitVec 1 := Scalar.cmpi .ne v30 c0_i32_12
  v31

def k0_off7 (i : grid0.Coords) : Fin 3 → Nat :=
  let arg2 : BitVec 32 := BitVec.ofNat 32 (i 2).val
  let c0_i32_13 : BitVec 32 := 0#32
  let c0_i32_14 : BitVec 32 := 0#32
  ![arg2.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .eq arg1 c0_i32
  let c3_i32 : BitVec 32 := 3#32
  let v2 : BitVec 32 := Scalar.select v1 arg2 c3_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c8_i32 : BitVec 32 := 8#32
  let v1 : BitVec 1 := Scalar.cmpi .slt arg1 c8_i32
  let c0_i32 : BitVec 32 := 0#32
  let c2_i32 : BitVec 32 := 2#32
  let v2 : BitVec 32 := Scalar.select v1 c0_i32 c2_i32
  let v3 : BitVec 32 := Scalar.addi v0 v2
  let c8_i32_0 : BitVec 32 := 8#32
  let v4 : BitVec 32 := Scalar.muli c8_i32_0 v3
  let c0_i32_1 : BitVec 32 := 0#32
  let c0_i32_2 : BitVec 32 := 0#32
  ![v4.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let c0_i32 : BitVec 32 := 0#32
  let c0_i32_0 : BitVec 32 := 0#32
  ![c512_i32.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 1 := Scalar.cmpi .eq arg1 c0_i32
  let c3_i32 : BitVec 32 := 3#32
  let v2 : BitVec 32 := Scalar.select v1 arg2 c3_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S4x2048x2048 : Shape := ⟨3, ![4, 2048, 2048]⟩
abbrev S1x2048 : Shape := ⟨2, ![1, 2048]⟩
abbrev S1x2048x12304 : Shape := ⟨3, ![1, 2048, 12304]⟩
abbrev S1x4x3072 : Shape := ⟨3, ![1, 4, 3072]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x12304 : Shape := ⟨2, ![2048, 12304]⟩
abbrev S4x2048x12304 : Shape := ⟨3, ![4, 2048, 12304]⟩
abbrev S4x2048x1024 : Shape := ⟨3, ![4, 2048, 1024]⟩
abbrev S4x2048x3072 : Shape := ⟨3, ![4, 2048, 3072]⟩
abbrev S4x2048x8 : Shape := ⟨3, ![4, 2048, 8]⟩
abbrev S4x3072 : Shape := ⟨2, ![4, 3072]⟩
abbrev S4x2051x3072 : Shape := ⟨3, ![4, 2051, 3072]⟩
abbrev S1x3072 : Shape := ⟨2, ![1, 3072]⟩
abbrev S3072 : Shape := ⟨1, ![3072]⟩
abbrev S1x1x3072 : Shape := ⟨3, ![1, 1, 3072]⟩
abbrev S4x2048x8x128 : Shape := ⟨4, ![4, 2048, 8, 128]⟩
abbrev S4x2048x8x1 : Shape := ⟨4, ![4, 2048, 8, 1]⟩
abbrev S4x2048x12288 : Shape := ⟨3, ![4, 2048, 12288]⟩
abbrev S4x2048x112 : Shape := ⟨3, ![4, 2048, 112]⟩
abbrev S4x2048x128 : Shape := ⟨3, ![4, 2048, 128]⟩
abbrev S8192x12288 : Shape := ⟨2, ![8192, 12288]⟩
abbrev S8192x128 : Shape := ⟨2, ![8192, 128]⟩

abbrev nBuf : Space → Nat
  | .hbm => 144
  | .vmem => 0
  | .smem => 0
  | _ => 0

abbrev hbmTy0_0 (i : Nat) : BufTy := match i % 128 with
  | 0 => ⟨S4x2048x2048, .f32⟩
  | 1 => ⟨S1x2048, .f32⟩
  | 2 => ⟨S1x2048x12304, .f32⟩
  | 3 => ⟨S1x4x3072, .f32⟩
  | 4 => ⟨S2048, .f32⟩
  | 5 => ⟨S4x2048x2048, .f32⟩
  | 6 => ⟨S_, .f32⟩
  | 7 => ⟨S4x2048, .f32⟩
  | 8 => ⟨S4x2048x1, .f32⟩
  | 9 => ⟨S_, .f32⟩
  | 10 => ⟨S4x2048x1, .f32⟩
  | 11 => ⟨S4x2048x1, .f32⟩
  | 12 => ⟨S_, .f32⟩
  | 13 => ⟨S4x2048x1, .f32⟩
  | 14 => ⟨S4x2048x1, .f32⟩
  | 15 => ⟨S4x2048x1, .f32⟩
  | 16 => ⟨S4x2048x2048, .f32⟩
  | 17 => ⟨S4x2048x2048, .f32⟩
  | 18 => ⟨S1x1x2048, .f32⟩
  | 19 => ⟨S4x2048x2048, .f32⟩
  | 20 => ⟨S4x2048x2048, .f32⟩
  | 21 => ⟨S2048x12304, .f32⟩
  | 22 => ⟨S4x2048x12304, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x3072, .f32⟩
  | 28 => ⟨S4x2048x1024, .f32⟩
  | 29 => ⟨S4x2048x8, .f32⟩
  | 30 => ⟨S4x2048x8, .f32⟩
  | 31 => ⟨S4x2048x2048, .f32⟩
  | 32 => ⟨S4x2048x2048, .f32⟩
  | 33 => ⟨S4x3072, .f32⟩
  | 34 => ⟨S_, .i32⟩
  | 35 => ⟨S_, .f32⟩
  | 36 => ⟨S4x2051x3072, .f32⟩
  | 37 => ⟨S4x2048x3072, .f32⟩
  | 38 => ⟨S1x3072, .f32⟩
  | 39 => ⟨S3072, .f32⟩
  | 40 => ⟨S1x1x3072, .f32⟩
  | 41 => ⟨S4x2048x3072, .f32⟩
  | 42 => ⟨S4x2048x3072, .f32⟩
  | 43 => ⟨S4x2048x3072, .f32⟩
  | 44 => ⟨S1x3072, .f32⟩
  | 45 => ⟨S3072, .f32⟩
  | 46 => ⟨S1x1x3072, .f32⟩
  | 47 => ⟨S4x2048x3072, .f32⟩
  | 48 => ⟨S4x2048x3072, .f32⟩
  | 49 => ⟨S4x2048x3072, .f32⟩
  | 50 => ⟨S4x2048x3072, .f32⟩
  | 51 => ⟨S1x3072, .f32⟩
  | 52 => ⟨S3072, .f32⟩
  | 53 => ⟨S1x1x3072, .f32⟩
  | 54 => ⟨S4x2048x3072, .f32⟩
  | 55 => ⟨S4x2048x3072, .f32⟩
  | 56 => ⟨S4x2048x3072, .f32⟩
  | 57 => ⟨S4x2048x3072, .f32⟩
  | 58 => ⟨S1x3072, .f32⟩
  | 59 => ⟨S3072, .f32⟩
  | 60 => ⟨S1x1x3072, .f32⟩
  | 61 => ⟨S4x2048x3072, .f32⟩
  | 62 => ⟨S4x2048x3072, .f32⟩
  | 63 => ⟨S4x2048x3072, .f32⟩
  | 64 => ⟨S4x2048x3072, .f32⟩
  | 65 => ⟨S4x2048x3072, .f32⟩
  | 66 => ⟨S_, .f32⟩
  | 67 => ⟨S4x2048x3072, .f32⟩
  | 68 => ⟨S4x2048x3072, .f32⟩
  | 69 => ⟨S_, .f32⟩
  | 70 => ⟨S4x2048x3072, .f32⟩
  | 71 => ⟨S4x2048x3072, .f32⟩
  | 72 => ⟨S4x2048x3072, .f32⟩
  | 73 => ⟨S4x2048x1024, .f32⟩
  | 74 => ⟨S4x2048x1024, .f32⟩
  | 75 => ⟨S4x2048x1024, .f32⟩
  | 76 => ⟨S4x2048x8x128, .f32⟩
  | 77 => ⟨S4x2048x8x128, .f32⟩
  | 78 => ⟨S_, .f32⟩
  | 79 => ⟨S4x2048x8, .f32⟩
  | 80 => ⟨S4x2048x8x1, .f32⟩
  | 81 => ⟨S_, .f32⟩
  | 82 => ⟨S4x2048x8x1, .f32⟩
  | 83 => ⟨S4x2048x8x1, .f32⟩
  | 84 => ⟨S4x2048x8x1, .f32⟩
  | 85 => ⟨S4x2048x8x128, .f32⟩
  | 86 => ⟨S4x2048x8x128, .f32⟩
  | 87 => ⟨S_, .f32⟩
  | 88 => ⟨S4x2048x8x128, .f32⟩
  | 89 => ⟨S4x2048x8x128, .f32⟩
  | 90 => ⟨S4x2048x1024, .f32⟩
  | 91 => ⟨S4x2048x8x128, .f32⟩
  | 92 => ⟨S4x2048x8x128, .f32⟩
  | 93 => ⟨S_, .f32⟩
  | 94 => ⟨S4x2048x8, .f32⟩
  | 95 => ⟨S4x2048x8x1, .f32⟩
  | 96 => ⟨S_, .f32⟩
  | 97 => ⟨S4x2048x8x1, .f32⟩
  | 98 => ⟨S4x2048x8x1, .f32⟩
  | 99 => ⟨S4x2048x8x1, .f32⟩
  | 100 => ⟨S4x2048x8x128, .f32⟩
  | 101 => ⟨S4x2048x8x128, .f32⟩
  | 102 => ⟨S4x2048x1024, .f32⟩
  | 103 => ⟨S4x2048x1024, .f32⟩
  | 104 => ⟨S4x2048x1024, .f32⟩
  | 105 => ⟨S_, .f32⟩
  | 106 => ⟨S4x2048x1024, .f32⟩
  | 107 => ⟨S4x2048x1024, .f32⟩
  | 108 => ⟨S_, .f32⟩
  | 109 => ⟨S4x2048x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S_, .f32⟩
  | 115 => ⟨S4x2048x1024, .f32⟩
  | 116 => ⟨S4x2048x1024, .f32⟩
  | 117 => ⟨S_, .f32⟩
  | 118 => ⟨S4x2048x1024, .f32⟩
  | 119 => ⟨S4x2048x1024, .f32⟩
  | 120 => ⟨S4x2048x1024, .f32⟩
  | 121 => ⟨S4x2048x2048, .f32⟩
  | 122 => ⟨S4x2048x2048, .f32⟩
  | 123 => ⟨S_, .f32⟩
  | 124 => ⟨S4x2048x2048, .f32⟩
  | 125 => ⟨S4x2048x2048, .f32⟩
  | 126 => ⟨S_, .f32⟩
  | 127 => ⟨S4x2048x2048, .f32⟩
  | _ => ⟨S4x2048x2048, .f32⟩

abbrev hbmTy0_1 (i : Nat) : BufTy := match i % 128 with
  | 0 => ⟨S4x2048x2048, .f32⟩
  | 1 => ⟨S4x2048x2048, .f32⟩
  | 2 => ⟨S4x2048x2048, .f32⟩
  | 3 => ⟨S_, .f32⟩
  | 4 => ⟨S4x2048x2048, .f32⟩
  | 5 => ⟨S4x2048x2048, .f32⟩
  | 6 => ⟨S_, .f32⟩
  | 7 => ⟨S4x2048x2048, .f32⟩
  | 8 => ⟨S4x2048x2048, .f32⟩
  | 9 => ⟨S4x2048x12288, .f32⟩
  | 10 => ⟨S_, .f32⟩
  | 11 => ⟨S4x2048x112, .f32⟩
  | 12 => ⟨S4x2048x128, .f32⟩
  | 13 => ⟨S8192x12288, .f32⟩
  | 14 => ⟨S8192x12288, .bf16⟩
  | 15 => ⟨S8192x128, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_2 : Ref sig .tc := ⟨.hbm, 78, rfl⟩
abbrev main_v61 : Ref sig .tc := ⟨.hbm, 79, rfl⟩
abbrev main_v62 : Ref sig .tc := ⟨.hbm, 80, rfl⟩
abbrev main_cst_3 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_4 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_5 : Ref sig .tc := ⟨.hbm, 93, rfl⟩
abbrev main_v73 : Ref sig .tc := ⟨.hbm, 94, rfl⟩
abbrev main_v74 : Ref sig .tc := ⟨.hbm, 95, rfl⟩
abbrev main_cst_6 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_call2_v0 : Ref sig .tc := ⟨.hbm, 103, rfl⟩
abbrev main_call2_v1 : Ref sig .tc := ⟨.hbm, 104, rfl⟩
abbrev main_call2_cst : Ref sig .tc := ⟨.hbm, 105, rfl⟩
abbrev main_call2_v2 : Ref sig .tc := ⟨.hbm, 106, rfl⟩
abbrev main_call2_v3 : Ref sig .tc := ⟨.hbm, 107, rfl⟩
abbrev main_call2_cst_0 : Ref sig .tc := ⟨.hbm, 108, rfl⟩
abbrev main_call2_v4 : Ref sig .tc := ⟨.hbm, 109, rfl⟩
abbrev main_call2_v5 : Ref sig .tc := ⟨.hbm, 110, rfl⟩
abbrev main_v81 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_7 : Ref sig .tc := ⟨.hbm, 123, rfl⟩
abbrev main_v85 : Ref sig .tc := ⟨.hbm, 124, rfl⟩
abbrev main_v86 : Ref sig .tc := ⟨.hbm, 125, rfl⟩
abbrev main_cst_8 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_9 : Ref sig .tc := ⟨.hbm, 131, rfl⟩
abbrev main_v91 : Ref sig .tc := ⟨.hbm, 132, rfl⟩
abbrev main_v92 : Ref sig .tc := ⟨.hbm, 133, rfl⟩
abbrev main_cst_10 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_11 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩

abbrev nD : Nat := 1
abbrev τ : Topo := Topo.v7x

variable {F : FTy → Type} [FloatOps F]
-- ==== Kernel2.lean ====
abbrev S8192x1024 : Shape := ⟨2, ![8192, 1024]⟩
abbrev S8192x12288 : Shape := ⟨2, ![8192, 12288]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S2048 : Shape := ⟨1, ![2048]⟩
abbrev S8192x2048 : Shape := ⟨2, ![8192, 2048]⟩
abbrev S1024x2048 : Shape := ⟨2, ![1024, 2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x12288, .bf16⟩
  | .hbm, ⟨3, _⟩ => ⟨S4x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2048, .f32⟩
  | .hbm, ⟨8, _⟩ => ⟨S8192x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S1x2048, .f32⟩
  | .hbm, ⟨16, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8192x1024 : Shape := ⟨2, ![8192, 1024]⟩
abbrev S8192x12288 : Shape := ⟨2, ![8192, 12288]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S2048 : Shape := ⟨1, ![2048]⟩
abbrev S8192x4096 : Shape := ⟨2, ![8192, 4096]⟩
abbrev S4x2048x4096 : Shape := ⟨3, ![4, 2048, 4096]⟩
abbrev S4x2048x1024 : Shape := ⟨3, ![4, 2048, 1024]⟩
abbrev S1024x2048 : Shape := ⟨2, ![1024, 2048]⟩
abbrev S2048x2048 : Shape := ⟨2, ![2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x12288, .bf16⟩
  | .hbm, ⟨3, _⟩ => ⟨S4x2048x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S2048, .f32⟩
  | .hbm, ⟨8, _⟩ => ⟨S8192x4096, .bf16⟩
  | .hbm, ⟨9, _⟩ => ⟨S8192x4096, .f32⟩
  | .hbm, ⟨10, _⟩ => ⟨S4x2048x4096, .f32⟩
  | .hbm, ⟨11, _⟩ => ⟨S4x2048x2048, .f32⟩
  | .hbm, ⟨12, _⟩ => ⟨S4x2048x2048, .f32⟩
  | .hbm, ⟨13, _⟩ => ⟨S8192x1024, .f32⟩
  | .hbm, ⟨14, _⟩ => ⟨S4x2048x1024, .f32⟩
  | .hbm, ⟨15, _⟩ => ⟨S1024x2048, .f32⟩
  | .hbm, ⟨16, _⟩ => ⟨S4x2048x2048, .f32⟩
  | .hbm, ⟨17, _⟩ => ⟨S4x2048x2048, .f32⟩
  | .hbm, ⟨18, _⟩ => ⟨S8192x1024, .f32⟩
  | .hbm, ⟨19, _⟩ => ⟨S4x2048x1024, .f32⟩
  | .hbm, ⟨20, _⟩ => ⟨S1024x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S1x1x2048, .f32⟩
  | .hbm, ⟨41, _⟩ => ⟨S4x2048x2048, .f32⟩
  | .hbm, ⟨42, _⟩ => ⟨S4x2048x2048, .f32⟩
  | .hbm, ⟨43, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel3.lean ====
abbrev S8192x12288 : Shape := ⟨2, ![8192, 12288]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S8192x1024 : Shape := ⟨2, ![8192, 1024]⟩
abbrev S2048x128 : Shape := ⟨2, ![2048, 128]⟩
abbrev S128x2048 : Shape := ⟨2, ![128, 2048]⟩
abbrev S2048x256 : Shape := ⟨2, ![2048, 256]⟩
abbrev S8x144x256 : Shape := ⟨3, ![8, 144, 256]⟩
abbrev S8x2048 : Shape := ⟨2, ![8, 2048]⟩
abbrev S2x8x256x256 : Shape := ⟨4, ![2, 8, 256, 256]⟩
abbrev S16x256 : Shape := ⟨2, ![16, 256]⟩
abbrev S1x16x256 : Shape := ⟨3, ![1, 16, 256]⟩
abbrev S256x128 : Shape := ⟨2, ![256, 128]⟩
abbrev S128 : Shape := ⟨1, ![128]⟩
abbrev S1x128 : Shape := ⟨2, ![1, 128]⟩
abbrev S128x256 : Shape := ⟨2, ![128, 256]⟩
abbrev S1x128x256 : Shape := ⟨3, ![1, 128, 256]⟩
abbrev S8x128 : Shape := ⟨2, ![8, 128]⟩
abbrev S1x1 : Shape := ⟨2, ![1, 1]⟩
abbrev S24x128 : Shape := ⟨2, ![24, 128]⟩
abbrev S24x2048 : Shape := ⟨2, ![24, 2048]⟩
abbrev S1x2048 : Shape := ⟨2, ![1, 2048]⟩
abbrev S256x256 : Shape := ⟨2, ![256, 256]⟩
abbrev S1x1x256x256 : Shape := ⟨4, ![1, 1, 256, 256]⟩
abbrev S256 : Shape := ⟨1, ![256]⟩
abbrev S1x256 : Shape := ⟨2, ![1, 256]⟩
abbrev S1x144x256 : Shape := ⟨3, ![1, 144, 256]⟩
abbrev S144x256 : Shape := ⟨2, ![144, 256]⟩
abbrev S144x512 : Shape := ⟨2, ![144, 512]⟩
abbrev S512x256 : Shape := ⟨2, ![512, 256]⟩

abbrev nBuf : Space → Nat
  | .hbm => 11
  | .vmem => 27
  | .smem => 0
  | _ => 0

abbrev bufTy : (tb : Table) → Fin (tcTables nBuf tb) → BufTy
  | .hbm, ⟨0, _⟩ => ⟨S8192x12288, .bf16⟩
  | .hbm, ⟨1, _⟩ => ⟨S1x1024x2048, .f32⟩
  | .hbm, ⟨2, _⟩ => ⟨S1x1024x2048, .f32⟩
  | .hbm, ⟨3, _⟩ => ⟨S1x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S8192x1024, .bf16⟩
  | .hbm, ⟨8, _⟩ => ⟨S1024x2048, .bf16⟩
  | .hbm, ⟨9, _⟩ => ⟨S1024x2048, .bf16⟩
  | .hbm, ⟨10, _⟩ => ⟨S2048x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S2048x128, .bf16⟩
  | .local _ .vmem, ⟨15, _⟩ => ⟨S2048x128, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S2048x256, .bf16⟩
  | .local _ .vmem, ⟨23, _⟩ => ⟨S2048x256, .bf16⟩
  | .local _ .vmem, ⟨24, _⟩ => ⟨S8x144x256, .bf16⟩
  | .local _ .vmem, ⟨25, _⟩ => ⟨S8x2048, .f32⟩
  | .local _ .vmem, ⟨26, _⟩ => ⟨S2x8x256x256, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .sge v1 c0_i32
  let c8_i32_0 : BitVec 32 := 8#32
  let v3 : BitVec 1 := Scalar.cmpi .slt v1 c8_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_2 : BitVec 32 := 8#32
  let v7 : BitVec 1 := Scalar.cmpi .sge v1 c8_i32_2
  let c16_i32 : BitVec 32 := 16#32
  let v8 : BitVec 1 := Scalar.cmpi .slt v1 c16_i32
  let v9 : BitVec 1 := Scalar.andi v7 v8
  let v10 : BitVec 32 := Scalar.extui v9
  let c0_i32_3 : BitVec 32 := 0#32
  let v11 : BitVec 1 := Scalar.cmpi .ne v10 c0_i32_3
  v11

def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c16_i32_4 : BitVec 32 := 16#32
  let v12 : BitVec 1 := Scalar.cmpi .sge v1 c16_i32_4
  let c32_i32 : BitVec 32 := 32#32
  let v13 : BitVec 1 := Scalar.cmpi .slt v1 c32_i32
  let v14 : BitVec 1 := Scalar.andi v12 v13
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.subi v1 c0_i32
  let c0_i32_0 : BitVec 32 := 0#32
  let c7_i32 : BitVec 32 := 7#32
  let v3 : BitVec 32 := Scalar.maxsi c0_i32_0 v2
  let v4 : BitVec 32 := Scalar.minsi c7_i32 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.subi v1 c8_i32_0
  let c0_i32 : BitVec 32 := 0#32
  let c7_i32 : BitVec 32 := 7#32
  let v3 : BitVec 32 := Scalar.maxsi c0_i32 v2
  let v4 : BitVec 32 := Scalar.minsi c7_i32 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.subi v1 c16_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let v2 : BitVec 32 := Scalar.subi v1 c0_i32
  let c0_i32_0 : BitVec 32 := 0#32
  let c7_i32 : BitVec 32 := 7#32
  let v3 : BitVec 32 := Scalar.maxsi c0_i32_0 v2
  let v4 : BitVec 32 := Scalar.minsi c7_i32 v3
  let c0_i32_1 : BitVec 32 := 0#32
  let c0_i32_2 : BitVec 32 := 0#32
  ![v4.toNat, c0_i32_1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.subi v1 c8_i32_0
  let c0_i32 : BitVec 32 := 0#32
  let c7_i32 : BitVec 32 := 7#32
  let v3 : BitVec 32 := Scalar.maxsi c0_i32 v2
  let v4 : BitVec 32 := Scalar.minsi c7_i32 v3
  let c0_i32_1 : BitVec 32 := 0#32
  let c0_i32_2 : BitVec 32 := 0#32
  ![v4.toNat, c0_i32_1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.subi v1 c16_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4.lean ====
abbrev S8192x12288 : Shape := ⟨2, ![8192, 12288]⟩
abbrev S8192x128 : Shape := ⟨2, ![8192, 128]⟩
abbrev S1x8 : Shape := ⟨2, ![1, 8]⟩
abbrev S1x128 : Shape := ⟨2, ![1, 128]⟩
abbrev S8 : Shape := ⟨1, ![8]⟩
abbrev S_ : Shape := ⟨0, ![]⟩
abbrev S1 : Shape := ⟨1, ![1]⟩
abbrev S2 : Shape := ⟨1, ![2]⟩
abbrev S128 : Shape := ⟨1, ![128]⟩
abbrev S8192x1024 : Shape := ⟨2, ![8192, 1024]⟩
abbrev S256x1024 : Shape := ⟨2, ![256, 1024]⟩
abbrev S256x128 : Shape := ⟨2, ![256, 128]⟩
abbrev S8x128x128 : Shape := ⟨3, ![8, 128, 128]⟩
abbrev S2x4x4x128x128 : Shape := ⟨5, ![2, 4, 4, 128, 128]⟩
abbrev S2x4x8x128 : Shape := ⟨4, ![2, 4, 8, 128]⟩
abbrev S4x4x128x128 : Shape := ⟨4, ![4, 4, 128, 128]⟩
abbrev S1x4x4x128x128 : Shape := ⟨5, ![1, 4, 4, 128, 128]⟩
abbrev S4x8x128 : Shape := ⟨3, ![4, 8, 128]⟩
abbrev S1x4x8x128 : Shape := ⟨4, ![1, 4, 8, 128]⟩
abbrev S64x64 : Shape := ⟨2, ![64, 64]⟩
abbrev S128x128 : Shape := ⟨2, ![128, 128]⟩
abbrev S64x128 : Shape := ⟨2, ![64, 128]⟩
abbrev S128x64 : Shape := ⟨2, ![128, 64]⟩
abbrev S8x128 : Shape := ⟨2, ![8, 128]⟩
abbrev S1x1x8x128 : Shape := ⟨4, ![1, 1, 8, 128]⟩
abbrev S64x1 : Shape := ⟨2, ![64, 1]⟩
abbrev S128x1 : Shape := ⟨2, ![128, 1]⟩
abbrev S1x64 : Shape := ⟨2, ![1, 64]⟩
abbrev S1x1x1x128x128 : Shape := ⟨5, ![1, 1, 1, 128, 128]⟩
abbrev S128x256 : Shape := ⟨2, ![128, 256]⟩
abbrev S1x128x128 : Shape := ⟨3, ![1, 128, 128]⟩
abbrev S1x1 : Shape := ⟨2, ![1, 1]⟩

abbrev nBuf : Space → Nat
  | .hbm => 26
  | .vmem => 22
  | .smem => 0
  | _ => 0

abbrev bufTy : (tb : Table) → Fin (tcTables nBuf tb) → BufTy
  | .hbm, ⟨0, _⟩ => ⟨S8192x12288, .bf16⟩
  | .hbm, ⟨1, _⟩ => ⟨S8192x128, .f32⟩
  | .hbm, ⟨2, _⟩ => ⟨S1x8, .f32⟩
  | .hbm, ⟨3, _⟩ => ⟨S1x8, .f32⟩
  | .hbm, ⟨4, _⟩ => ⟨S1x128, .f32⟩
  | .hbm, ⟨5, _⟩ => ⟨S8, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S8, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S256x1024, .bf16⟩
  | .local _ .vmem, ⟨14, _⟩ => ⟨S256x1024, .bf16⟩
  | .local _ .vmem, ⟨15, _⟩ => ⟨S8x128x128, .f32⟩
  | .local _ .vmem, ⟨16, _⟩ => ⟨S2x4x4x128x128, .f32⟩
  | .local _ .vmem, ⟨17, _⟩ => ⟨S2x4x4x128x128, .bf16⟩
  | .local _ .vmem, ⟨18, _⟩ => ⟨S2x4x4x128x128, .bf16⟩
  | .local _ .vmem, ⟨19, _⟩ => ⟨S2x4x4x128x128, .bf16⟩
  | .local _ .vmem, ⟨20, _⟩ => ⟨S2x4x4x128x128, .bf16⟩
  | .local _ .vmem, ⟨21, _⟩ => ⟨S2x4x8x128, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![33], ![false]⟩

def k0_off1 (i : grid0.Coords) : Fin 4 → Nat :=
  let arg0 : BitVec 32 := BitVec.ofNat 32 (i 0).val
  let c2_i32 : BitVec 32 := 2#32
  let v38 : BitVec 32 := Scalar.remsi arg0 c2_i32
  let v77 : Index := Scalar.indexCast v38
  let c0_20 : Index := 0#32
  let c0_21 : Index := 0#32
  let c0_22 : Index := 0#32
  ![v77.toNat, 0, 0, 0]
def k0_off2 (i : grid0.Coords) : Fin 5 → Nat :=
  let arg0 : BitVec 32 := BitVec.ofNat 32 (i 0).val
  let c2_i32 : BitVec 32 := 2#32
  let v38 : BitVec 32 := Scalar.remsi arg0 c2_i32
  let v128 : Index := Scalar.indexCast v38
  let c0_38 : Index := 0#32
  let c0_39 : Index := 0#32
  let c0_40 : Index := 0#32
  let c0_41 : Index := 0#32
  ![v128.toNat, 0, 0, 0, 0]
def k0_off3 (i : grid0.Coords) : Fin 5 → Nat :=
  let arg0 : BitVec 32 := BitVec.ofNat 32 (i 0).val
  let c2_i32 : BitVec 32 := 2#32
  let v38 : BitVec 32 := Scalar.remsi arg0 c2_i32
  let v200 : Index := Scalar.indexCast v38
  let c0_64 : Index := 0#32
  let c1 : Index := 1#32
  let c0_65 : Index := 0#32
  let c0_66 : Index := 0#32
  ![v200.toNat, 0, 1, 0, 0]
def k0_off4 (i : grid0.Coords) : Fin 5 → Nat :=
  let arg0 : BitVec 32 := BitVec.ofNat 32 (i 0).val
  let c2_i32 : BitVec 32 := 2#32
  let v38 : BitVec 32 := Scalar.remsi arg0 c2_i32
  let v272 : Index := Scalar.indexCast v38
  let c0_89 : Index := 0#32
  let c2 : Index := 2#32
  let c0_90 : Index := 0#32
  let c0_91 : Index := 0#32
  ![v272.toNat, 0, 2, 0, 0]
def k0_off5 (i : grid0.Coords) : Fin 5 → Nat :=
  let arg0 : BitVec 32 := BitVec.ofNat 32 (i 0).val
  let c2_i32 : BitVec 32 := 2#32
  let v38 : BitVec 32 := Scalar.remsi arg0 c2_i32
  let v344 : Index := Scalar.indexCast v38
  let c0_114 : Index := 0#32
  let c3 : Index := 3#32
  let c0_115 : Index := 0#32
  let c0_116 : Index := 0#32
  ![v344.toNat, 0, 3, 0, 0]
def k0_off6 (i : grid0.Coords) : Fin 4 → Nat :=
  let arg0 : BitVec 32 := BitVec.ofNat 32 (i 0).val
  let c2_i32 : BitVec 32 := 2#32
  let v38 : BitVec 32 := Scalar.remsi arg0 c2_i32
  let v406 : Index := Scalar.indexCast v38
  let c1_137 : Index := 1#32
  let c0_138 : Index := 0#32
  let c0_139 : Index := 0#32
  ![v406.toNat, 1, 0, 0]
def k0_off7 (i : grid0.Coords) : Fin 5 → Nat :=
  let arg0 : BitVec 32 := BitVec.ofNat 32 (i 0).val
  let c2_i32 : BitVec 32 := 2#32
  let v38 : BitVec 32 := Scalar.remsi arg0 c2_i32
  let v457 : Index := Scalar.indexCast v38
  let c1_156 : Index := 1#32
  let c0_157 : Index := 0#32
  let c0_158 : Index := 0#32
  let c0_159 : Index := 0#32
  ![v457.toNat, 1, 0, 0, 0]
def k0_off8 (i : grid0.Coords) : Fin 5 → Nat :=
  let arg0 : BitVec 32 := BitVec.ofNat 32 (i 0).val
  let c2_i32 : BitVec 32 := 2#32
  let v38 : BitVec 32 := Scalar.remsi arg0 c2_i32
  let v529 : Index := Scalar.indexCast v38
  let c1_184 : Index := 1#32
  let c1_185 : Index := 1#32
  let c0_186 : Index := 0#32
  let c0_187 : Index := 0#32
  ![v529.toNat, 1, 1, 0, 0]
def k0_off9 (i : grid0.Coords) : Fin 5 → Nat :=
  let arg0 : BitVec 32 := BitVec.ofNat 32 (i 0).val
  let c2_i32 : BitVec 32 := 2#32
  let v38 : BitVec 32 := Scalar.remsi arg0 c2_i32
  let v601 : Index := Scalar.indexCast v38
  let c1_212 : Index := 1#32
  let c2_213 : Index := 2#32
  let c0_214 : Index := 0#32
  let c0_215 : Index := 0#32
  ![v601.toNat, 1, 2, 0, 0]
def k0_off10 (i : grid0.Coords) : Fin 5 → Nat :=
  let arg0 : BitVec 32 := BitVec.ofNat 32 (i 0).val
  let c2_i32 : BitVec 32 := 2#32
  let v38 : BitVec 32 := Scalar.remsi arg0 c2_i32
  let v673 : Index := Scalar.indexCast v38
  let c1_240 : Index := 1#32
  let c3_241 : Index := 3#32
  let c0_242 : Index := 0#32
  let c0_243 : Index := 0#32
  ![v673.toNat, 1, 3, 0, 0]
def k0_off11 (i : grid0.Coords) : Fin 4 → Nat :=
  let arg0 : BitVec 32 := BitVec.ofNat 32 (i 0).val
  let c2_i32 : BitVec 32 := 2#32
  let v38 : BitVec 32 := Scalar.remsi arg0 c2_i32
  let v735 : Index := Scalar.indexCast v38
  let c2_265 : Index := 2#32
  let c0_266 : Index := 0#32
  let c0_267 : Index := 0#32
  ![v735.toNat, 2, 0, 0]
def k0_off12 (i : grid0.Coords) : Fin 5 → Nat :=
  let arg0 : BitVec 32 := BitVec.ofNat 32 (i 0).val
  let c2_i32 : BitVec 32 := 2#32
  let v38 : BitVec 32 := Scalar.remsi arg0 c2_i32
  let v786 : Index := Scalar.indexCast v38
  let c2_284 : Index := 2#32
  let c0_285 : Index := 0#32
  let c0_286 : Index := 0#32
  let c0_287 : Index := 0#32
  ![v786.toNat, 2, 0, 0, 0]
def k0_off13 (i : grid0.Coords) : Fin 5 → Nat :=
  let arg0 : BitVec 32 := BitVec.ofNat 32 (i 0).val
  let c2_i32 : BitVec 32 := 2#32
  let v38 : BitVec 32 := Scalar.remsi arg0 c2_i32
  let v858 : Index := Scalar.indexCast v38
  let c2_312 : Index := 2#32
  let c1_313 : Index := 1#32
  let c0_314 : Index := 0#32
  let c0_315 : Index := 0#32
  ![v858.toNat, 2, 1, 0, 0]
def k0_off14 (i : grid0.Coords) : Fin 5 → Nat :=
  let arg0 : BitVec 32 := BitVec.ofNat 32 (i 0).val
  let c2_i32 : BitVec 32 := 2#32
  let v38 : BitVec 32 := Scalar.remsi arg0 c2_i32
  let v930 : Index := Scalar.indexCast v38
  let c2_340 : Index := 2#32
  let c2_341 : Index := 2#32
  let c0_342 : Index := 0#32
  let c0_343 : Index := 0#32
  ![v930.toNat, 2, 2, 0, 0]
def k0_off15 (i : grid0.Coords) : Fin 5 → Nat :=
  let arg0 : BitVec 32 := BitVec.ofNat 32 (i 0).val
  let c2_i32 : BitVec 32 := 2#32
  let v38 : BitVec 32 := Scalar.remsi arg0 c2_i32
  let v1002 : Index := Scalar.indexCast v38
  let c2_368 : Index := 2#32
  let c3_369 : Index := 3#32
  let c0_370 : Index := 0#32
  let c0_371 : Index := 0#32
  ![v1002.toNat, 2, 3, 0, 0]
def k0_off16 (i : grid0.Coords) : Fin 4 → Nat :=
  let arg0 : BitVec 32 := BitVec.ofNat 32 (i 0).val
  let c2_i32 : BitVec 32 := 2#32
  let v38 : BitVec 32 := Scalar.remsi arg0 c2_i32
  let v1064 : Index := Scalar.indexCast v38
  let c3_392 : Index := 3#32
  let c0_393 : Index := 0#32
  let c0_394 : Index := 0#32
  ![v1064.toNat, 3, 0, 0]
def k0_off17 (i : grid0.Coords) : Fin 5 → Nat :=
  let arg0 : BitVec 32 := BitVec.ofNat 32 (i 0).val
  let c2_i32 : BitVec 32 := 2#32
  let v38 : BitVec 32 := Scalar.remsi arg0 c2_i32
  let v1115 : Index := Scalar.indexCast v38
  let c3_411 : Index := 3#32
  let c0_412 : Index := 0#32
  let c0_413 : Index := 0#32
  let c0_414 : Index := 0#32
  ![v1115.toNat, 3, 0, 0, 0]
def k0_off18 (i : grid0.Coords) : Fin 5 → Nat :=
  let arg0 : BitVec 32 := BitVec.ofNat 32 (i 0).val
  let c2_i32 : BitVec 32 := 2#32
  let v38 : BitVec 32 := Scalar.remsi arg0 c2_i32
  let v1187 : Index := Scalar.indexCast v38
  let c3_439 : Index := 3#32
  let c1_440 : Index := 1#32
  let c0_441 : Index := 0#32
  let c0_442 : Index := 0#32
  ![v1187.toNat, 3, 1, 0, 0]
def k0_off19 (i : grid0.Coords) : Fin 5 → Nat :=
  let arg0 : BitVec 32 := BitVec.ofNat 32 (i 0).val
  let c2_i32 : BitVec 32 := 2#32
  let v38 : BitVec 32 := Scalar.remsi arg0 c2_i32
  let v1259 : Index := Scalar.indexCast v38
  let c3_467 : Index := 3#32
  let c2_468 : Index := 2#32
  let c0_469 : Index := 0#32
  let c0_470 : Index := 0#32
  ![v1259.toNat, 3, 2, 0, 0]
def k0_off20 (i : grid0.Coords) : Fin 5 → Nat :=
  let arg0 : BitVec 32 := BitVec.ofNat 32 (i 0).val
  let c2_i32 : BitVec 32 := 2#32
  let v38 : BitVec 32 := Scalar.remsi arg0 c2_i32
  let v1331 : Index := Scalar.indexCast v38
  let c3_495 : Index := 3#32
  let c3_496 : Index := 3#32
  let c0_497 : Index := 0#32
  let c0_498 : Index := 0#32
  ![v1331.toNat, 3, 3, 0, 0]
def k0_off21 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1356 : Index := Scalar.indexCast v39
  let c0_507 : Index := 0#32
  let c0_508 : Index := 0#32
  let c0_509 : Index := 0#32
  let c0_510 : Index := 0#32
  ![v1356.toNat, 0, 0, 0, 0]
def k0_off22 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1376 : Index := Scalar.indexCast v39
  let c0_523 : Index := 0#32
  let c1_524 : Index := 1#32
  let c0_525 : Index := 0#32
  let c0_526 : Index := 0#32
  ![v1376.toNat, 0, 1, 0, 0]
def k0_off23 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1396 : Index := Scalar.indexCast v39
  let c0_539 : Index := 0#32
  let c2_540 : Index := 2#32
  let c0_541 : Index := 0#32
  let c0_542 : Index := 0#32
  ![v1396.toNat, 0, 2, 0, 0]
def k0_off24 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1416 : Index := Scalar.indexCast v39
  let c0_553 : Index := 0#32
  let c3_554 : Index := 3#32
  let c0_555 : Index := 0#32
  let c0_556 : Index := 0#32
  ![v1416.toNat, 0, 3, 0, 0]
def k0_off25 (i : grid0.Coords) : Fin 4 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1566 : Index := Scalar.indexCast v39
  let c0_616 : Index := 0#32
  let c0_617 : Index := 0#32
  let c0_618 : Index := 0#32
  ![v1566.toNat, 0, 0, 0]
def k0_off26 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1936 : Index := Scalar.indexCast v39
  let c1_796 : Index := 1#32
  let c0_797 : Index := 0#32
  let c0_798 : Index := 0#32
  let c0_799 : Index := 0#32
  ![v1936.toNat, 1, 0, 0, 0]
def k0_off27 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1956 : Index := Scalar.indexCast v39
  let c1_812 : Index := 1#32
  let c1_813 : Index := 1#32
  let c0_814 : Index := 0#32
  let c0_815 : Index := 0#32
  ![v1956.toNat, 1, 1, 0, 0]
def k0_off28 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1976 : Index := Scalar.indexCast v39
  let c1_828 : Index := 1#32
  let c2_829 : Index := 2#32
  let c0_830 : Index := 0#32
  let c0_831 : Index := 0#32
  ![v1976.toNat, 1, 2, 0, 0]
def k0_off29 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v1996 : Index := Scalar.indexCast v39
  let c1_844 : Index := 1#32
  let c3_845 : Index := 3#32
  let c0_846 : Index := 0#32
  let c0_847 : Index := 0#32
  ![v1996.toNat, 1, 3, 0, 0]
def k0_off30 (i : grid0.Coords) : Fin 4 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2048 : Index := Scalar.indexCast v39
  let c1_876 : Index := 1#32
  let c0_877 : Index := 0#32
  let c0_878 : Index := 0#32
  ![v2048.toNat, 1, 0, 0]
def k0_off31 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2418 : Index := Scalar.indexCast v39
  let c2_1055 : Index := 2#32
  let c0_1056 : Index := 0#32
  let c0_1057 : Index := 0#32
  let c0_1058 : Index := 0#32
  ![v2418.toNat, 2, 0, 0, 0]
def k0_off32 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2438 : Index := Scalar.indexCast v39
  let c2_1071 : Index := 2#32
  let c1_1072 : Index := 1#32
  let c0_1073 : Index := 0#32
  let c0_1074 : Index := 0#32
  ![v2438.toNat, 2, 1, 0, 0]
def k0_off33 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2458 : Index := Scalar.indexCast v39
  let c2_1087 : Index := 2#32
  let c2_1088 : Index := 2#32
  let c0_1089 : Index := 0#32
  let c0_1090 : Index := 0#32
  ![v2458.toNat, 2, 2, 0, 0]
def k0_off34 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2478 : Index := Scalar.indexCast v39
  let c2_1103 : Index := 2#32
  let c3_1104 : Index := 3#32
  let c0_1105 : Index := 0#32
  let c0_1106 : Index := 0#32
  ![v2478.toNat, 2, 3, 0, 0]
def k0_off35 (i : grid0.Coords) : Fin 4 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2580 : Index := Scalar.indexCast v39
  let c2_1151 : Index := 2#32
  let c0_1152 : Index := 0#32
  let c0_1153 : Index := 0#32
  ![v2580.toNat, 2, 0, 0]
def k0_off36 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2950 : Index := Scalar.indexCast v39
  let c3_1330 : Index := 3#32
  let c0_1331 : Index := 0#32
  let c0_1332 : Index := 0#32
  let c0_1333 : Index := 0#32
  ![v2950.toNat, 3, 0, 0, 0]
def k0_off37 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2970 : Index := Scalar.indexCast v39
  let c3_1346 : Index := 3#32
  let c1_1347 : Index := 1#32
  let c0_1348 : Index := 0#32
  let c0_1349 : Index := 0#32
  ![v2970.toNat, 3, 1, 0, 0]
def k0_off38 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v2990 : Index := Scalar.indexCast v39
  let c3_1362 : Index := 3#32
  let c2_1363 : Index := 2#32
  let c0_1364 : Index := 0#32
  let c0_1365 : Index := 0#32
  ![v2990.toNat, 3, 2, 0, 0]
def k0_off39 (i : grid0.Coords) : Fin 5 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v3010 : Index := Scalar.indexCast v39
  let c3_1378 : Index := 3#32
  let c3_1379 : Index := 3#32
  let c0_1380 : Index := 0#32
  let c0_1381 : Index := 0#32
  ![v3010.toNat, 3, 3, 0, 0]
def k0_off40 (i : grid0.Coords) : Fin 4 → Nat :=
  let c1_i32_6 : BitVec 32 := 1#32
  let arg0 : BitVec 32 := BitVec.ofNat 32 (i 0).val
  let c2_i32 : BitVec 32 := 2#32
  let v38 : BitVec 32 := Scalar.remsi arg0 c2_i32
  let v39 : BitVec 32 := Scalar.subi c1_i32_6 v38
  let v3062 : Index := Scalar.indexCast v39
  let c3_1410 : Index := 3#32
  let c0_1411 : Index := 0#32
  let c0_1412 : Index := 0#32
  ![v3062.toNat, 3, 0, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let c0_i32_0 : BitVec 32 := 0#32
  ![v1.toNat, c7_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Proof.Inproj.Spec.lean ====
module

public import Idealize.ShloMosaic.PureOps.Ideal
public import Idealize.ShloMosaic.PureOps.Ideal.Laws
public import Idealize.ShloMosaic.Lib.ValueIdx

@[expose] public section

/-! The input projection of the layer as plain functions of the extended reals.

A token is named by its row `R` in the flattened batch: sequence `R / 2048`, position `R % 2048`.  The four arguments
enter as functions of natural numbers: `X R k` is the input, `G k` the gain of the norm, `W k n` the weight and
`K a c` the short convolution's coefficient `a` of channel `c`. -/

namespace Cert.Inproj

open Idealize Idealize.ShloMosaic Idealize.ShloMosaic.ValueIdx

noncomputable section

/-- The small constant added before a reciprocal square root. -/
def eps : EReal := Ideal.ofBits .f32 0x358637BD#32
/-- The width of a token, 2048, as a float. -/
def width : EReal := Ideal.ofBits .f32 0x45000000#32
/-- The factor on the queries, `1 / sqrt 128`. -/
def qscale : EReal := Ideal.ofBits .f32 0x3DB504F3#32

/-- The logistic function, `1 / (1 + exp (-y))`. -/
def logi (y : EReal) : EReal := Ideal.div 1 (1 + Ideal.exp (-y))
/-- SiLU, `y * logi y`. -/
def silu (y : EReal) : EReal := y * logi y

variable (X : ℕ → ℕ → EReal) (G : ℕ → EReal) (W : ℕ → ℕ → EReal) (K : ℕ → ℕ → EReal)

/-- The reciprocal root mean square of a token. -/
def inv (R : ℕ) : EReal := Ideal.rsqrt (Ideal.div (∑ k : Fin 2048, X R k * X R k) width + eps)
/-- The token after its norm. -/
def hid (R k : ℕ) : EReal := X R k * inv X R * G k
/-- Column `n` of the projection of the token. -/
def proj (R n : ℕ) : EReal := ∑ k : Fin 2048, hid X G R k * W k n
/-- The projection `d` tokens earlier in the same sequence, zero before its start. -/
def past (R d c : ℕ) : EReal := if R % 2048 < d then 0 else proj X G W (R - d) (4096 + c)
/-- The short convolution: four taps, the oldest first. -/
def conv (R c : ℕ) : EReal :=
  past X G W R 3 c * K 0 c + past X G W R 2 c * K 1 c + past X G W R 1 c * K 2 c + past X G W R 0 c * K 3 c
/-- The convolution's output after SiLU. -/
def act (R c : ℕ) : EReal := silu (conv X G W K R c)
/-- The output of the convolution with each head of 128 channels scaled to length one. -/
def unit (R c : ℕ) : EReal :=
  act X G W K R c * Ideal.rsqrt ((∑ d : Fin 128, act X G W K R (128 * (c / 128) + d) * act X G W K R (128 * (c / 128) + d)) + eps)
/-- The first result: one row of 12288 columns for each token. -/
def wide (R n : ℕ) : EReal :=
  if 8192 ≤ n then logi (proj X G W R (n + 16))
  else if n / 1024 = 6 then act X G W K R (n - 4096)
  else if n / 1024 = 4 then unit X G W K R (n - 4096) * qscale
  else if n / 1024 = 5 then unit X G W K R (n - 4096)
  else if n / 1024 = 3 ∨ n / 1024 = 7 then silu (proj X G W R n)
  else proj X G W R n
/-- The second result: the sixteen columns of the two small projections, padded with zeros to 128. -/
def small (R n : ℕ) : EReal := if n < 16 then proj X G W R (8192 + n) else 0

/-- The input of the layer at a row and a column. -/
def xOf (x : (⟨3, ![4, 2048, 2048]⟩ : Shape).Idx → EReal) (R k : ℕ) : EReal :=
  x (ix3 (Fin.ofNat 4 (R / 2048)) (Fin.ofNat 2048 (R % 2048)) (Fin.ofNat 2048 k))
/-- The gain of the norm at a column. -/
def gOf (x : (⟨2, ![1, 2048]⟩ : Shape).Idx → EReal) (k : ℕ) : EReal := x (ix2 0 (Fin.ofNat 2048 k))
/-- The weight at a row and a column. -/
def wOf (x : (⟨3, ![1, 2048, 12304]⟩ : Shape).Idx → EReal) (k n : ℕ) : EReal :=
  x (ix3 0 (Fin.ofNat 2048 k) (Fin.ofNat 12304 n))
/-- The coefficient of the short convolution for a tap and a channel. -/
def kOf (x : (⟨3, ![1, 4, 3072]⟩ : Shape).Idx → EReal) (a c : ℕ) : EReal :=
  x (ix3 0 (Fin.ofNat 4 a) (Fin.ofNat 3072 c))

theorem xOf_eq (x : (⟨3, ![4, 2048, 2048]⟩ : Shape).Idx → EReal) (i : (⟨3, ![4, 2048, 2048]⟩ : Shape).Idx) (R k : ℕ)
    (h0 : (i 0).val = R / 2048) (h1 : (i 1).val = R % 2048) (h2 : (i 2).val = k) : x i = xOf x R k := by
  have l0 : (i 0).val < 4 := (i 0).isLt
  have l2 : (i 2).val < 2048 := (i 2).isLt
  refine congrArg x (funext fun a => Fin.ext ?_)
  match a with
  | ⟨0, _⟩ => show (i 0).val = R / 2048 % 4; omega
  | ⟨1, _⟩ => show (i 1).val = R % 2048 % 2048; omega
  | ⟨2, _⟩ => show (i 2).val = k % 2048; omega

theorem gOf_eq (x : (⟨2, ![1, 2048]⟩ : Shape).Idx → EReal) (i : (⟨2, ![1, 2048]⟩ : Shape).Idx) (k : ℕ)
    (h1 : (i 1).val = k) : x i = gOf x k := by
  have l0 : (i 0).val < 1 := (i 0).isLt
  have l1 : (i 1).val < 2048 := (i 1).isLt
  refine congrArg x (funext fun a => Fin.ext ?_)
  match a with
  | ⟨0, _⟩ => show (i 0).val = 0; omega
  | ⟨1, _⟩ => show (i 1).val = k % 2048; omega

theorem wOf_eq (x : (⟨3, ![1, 2048, 12304]⟩ : Shape).Idx → EReal) (i : (⟨3, ![1, 2048, 12304]⟩ : Shape).Idx) (k n : ℕ)
    (h1 : (i 1).val = k) (h2 : (i 2).val = n) : x i = wOf x k n := by
  have l0 : (i 0).val < 1 := (i 0).isLt
  have l1 : (i 1).val < 2048 := (i 1).isLt
  have l2 : (i 2).val < 12304 := (i 2).isLt
  refine congrArg x (funext fun a => Fin.ext ?_)
  match a with
  | ⟨0, _⟩ => show (i 0).val = 0; omega
  | ⟨1, _⟩ => show (i 1).val = k % 2048; omega
  | ⟨2, _⟩ => show (i 2).val = n % 12304; omega

theorem kOf_eq (x : (⟨3, ![1, 4, 3072]⟩ : Shape).Idx → EReal) (i : (⟨3, ![1, 4, 3072]⟩ : Shape).Idx) (k n : ℕ)
    (h1 : (i 1).val = k) (h2 : (i 2).val = n) : x i = kOf x k n := by
  have l0 : (i 0).val < 1 := (i 0).isLt
  have l1 : (i 1).val < 4 := (i 1).isLt
  have l2 : (i 2).val < 3072 := (i 2).isLt
  refine congrArg x (funext fun a => Fin.ext ?_)
  match a with
  | ⟨0, _⟩ => show (i 0).val = 0; omega
  | ⟨1, _⟩ => show (i 1).val = k % 4; omega
  | ⟨2, _⟩ => show (i 2).val = n % 3072; omega

end

end Cert.Inproj
-- ==== Proof.Inproj.Ref.lean ====
module

public import proofs.«01_k».proof.Proof.Inproj.Spec
public import proofs.«01_k».proof.Proof.Gen.ReferenceIdeal.Read
public import Idealize.ShloMosaic.Lib.KernelVsHost
public import Idealize.ShloMosaic.Lib.IdealHost

public section

set_option maxRecDepth 16384

/-! The reference, read at an index: its two results are `wide` and `small` of the arguments. -/

namespace Cert.Inproj.Ref

open Cert.ReferenceIdeal Cert.ReferenceIdeal.Gen Cert.ReferenceIdeal.Read
open Idealize Idealize.ShloMosaic Idealize.ShloMosaic.ValueIdx

variable (x0 : (⟨S4x2048x2048, .f32⟩ : BufTy).Contents (Elt Ideal)) (x1 : (⟨S1x2048, .f32⟩ : BufTy).Contents (Elt Ideal))
  (x2 : (⟨S1x2048x12304, .f32⟩ : BufTy).Contents (Elt Ideal)) (x3 : (⟨S1x4x3072, .f32⟩ : BufTy).Contents (Elt Ideal))

/-- The norm's reciprocal root mean square at a token. -/
theorem inv_read (i : S4x2048x1.Idx) (R : ℕ) (h0 : (i 0).val = R / 2048) (h1 : (i 1).val = R % 2048) :
    val_main_v8 (F := Ideal) x0 i = inv (xOf x0) R := by
  simp only [val_main_v8_apply, val_main_v7_apply, val_main_v6_apply, val_main_v5_apply, val_main_v4_apply, val_main_v3_apply,
    val_main_v2_apply, val_main_cst_apply, val_main_cst_0_apply, val_main_cst_1_apply, val_main_v1_apply,
    Ideal.hostUnary_rsqrt_def, Ideal.addf_def, Ideal.mulf_def, Ideal.hostDivf_def, Ideal.ofBits_def, Ideal.ofBits_zero_f32, zero_add]
  unfold inv width eps
  refine congrArg (fun s => Ideal.rsqrt (Ideal.div s _ + _)) (Finset.sum_congr rfl fun k _ => ?_)
  rw [xOf_eq x0 (idx_main_v2 (idx_main_v3 i) k) R k h0 h1 rfl]

/-- A token after the norm. -/
theorem hid_read (i : S4x2048x2048.Idx) (R k : ℕ) (h0 : (i 0).val = R / 2048) (h1 : (i 1).val = R % 2048) (h2 : (i 2).val = k) :
    val_main_v13 (F := Ideal) x0 x1 i = hid (xOf x0) (gOf x1) R k := by
  simp only [val_main_v13_apply, val_main_v12_apply, val_main_v11_apply, val_main_v10_apply, val_main_v9_apply, val_main_v0_apply,
    Ideal.mulf_def]
  have l2 : (i 2).val < 2048 := (i 2).isLt
  rw [inv_read x0 _ R h0 h1, xOf_eq x0 i R k h0 h1 h2, gOf_eq x1 _ k (by show (i 2).val % 2048 = k; omega)]
  rfl

/-- A column of the projection. -/
theorem proj_read (i : S4x2048x12304.Idx) (R n : ℕ) (h0 : (i 0).val = R / 2048) (h1 : (i 1).val = R % 2048) (h2 : (i 2).val = n) :
    val_main_v15 (F := Ideal) x0 x1 x2 i = proj (xOf x0) (gOf x1) (wOf x2) R n := by
  rw [val_main_v15_apply]
  refine Finset.sum_congr rfl fun k _ => ?_
  have l2 : (i 2).val < 12304 := (i 2).isLt
  have lk : k.val < 2048 := k.isLt
  rw [hid_read x0 x1 _ R k h0 h1 rfl, val_main_v14_apply, wOf_eq x2 _ k n
    (by show (k.val * 12304 + (i 2).val) / 12304 % 2048 = k.val; omega) (by show (k.val * 12304 + (i 2).val) % 12304 = n; omega)]

/-- The padded input of the convolution: three rows of zeros, then the projection. -/
theorem pad_read (i : S4x2051x3072.Idx) (R d c : ℕ) (hd : d ≤ 3) (h0 : (i 0).val = R / 2048) (h1 : (i 1).val + d = R % 2048 + 3)
    (h2 : (i 2).val = c) : val_main_v27 (F := Ideal) x0 x1 x2 i = past (xOf x0) (gOf x1) (wOf x2) R d c := by
  have l0 : (i 0).val < 4 := (i 0).isLt
  have l2 : (i 2).val < 3072 := (i 2).isLt
  unfold past val_main_v27
  by_cases h : R % 2048 < d
  · rw [if_pos h]
    refine Eq.trans (pad_apply_of_not_inside (t := S4x2051x3072) _ _ _ _ _ pads_S4x2048x3072_S4x2051x3072_000_300_000 h_S_ i (1 : Fin 3) ?_) ?_
    · rintro ⟨h3, -, -⟩
      have h3' : 3 ≤ (i 1).val := h3
      omega
    · rw [val_main_call0_v0_apply, val_main_c_apply]
      show ((((0#32 : BitVec 32).toInt : ℤ) : ℝ) : EReal) = 0
      simp
  · rw [if_neg h]
    refine Eq.trans (pad_apply_of_inside (t := S4x2051x3072) _ _ _ _ _ pads_S4x2048x3072_S4x2051x3072_000_300_000 h_S_ i
      (ix3 ⟨R / 2048, by omega⟩ ⟨R % 2048 - d, by omega⟩ ⟨c, by omega⟩ : S4x2048x3072.Idx) ?_) ?_
    · intro a
      match a with
      | ⟨0, _⟩ => show (i 0).val = 0 + R / 2048 * 1; omega
      | ⟨1, _⟩ => show (i 1).val = 3 + (R % 2048 - d) * 1; omega
      | ⟨2, _⟩ => show (i 2).val = 0 + c * 1; omega
    · rw [val_main_v20_apply]
      refine proj_read x0 x1 x2 _ (R - d) (4096 + c) ?_ ?_ rfl
      · show R / 2048 = (R - d) / 2048; omega
      · show R % 2048 - d = (R - d) % 2048; omega

/-- The convolution. -/
theorem conv_read (i : S4x2048x3072.Idx) (R c : ℕ) (h0 : (i 0).val = R / 2048) (h1 : (i 1).val = R % 2048) (h2 : (i 2).val = c) :
    val_main_v54 (F := Ideal) x0 x1 x2 x3 i = conv (xOf x0) (gOf x1) (wOf x2) (kOf x3) R c := by
  have l2 : (i 2).val < 3072 := (i 2).isLt
  simp only [val_main_v54_apply, val_main_v53_apply, val_main_v52_apply, val_main_v51_apply, val_main_v50_apply, val_main_v49_apply,
    val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v26_apply, Ideal.addf_def, Ideal.mulf_def]
  unfold conv
  rw [pad_read x0 x1 x2 (idx_main_v28 i) R 3 c (by omega) h0 (by show (i 1).val + 3 = _; omega) h2,
    pad_read x0 x1 x2 (idx_main_v34 i) R 2 c (by omega) h0 (by show 1 + (i 1).val + 2 = _; omega) h2,
    pad_read x0 x1 x2 (idx_main_v41 i) R 1 c (by omega) h0 (by show 2 + (i 1).val + 1 = _; omega) h2,
    pad_read x0 x1 x2 (idx_main_v48 i) R 0 c (by omega) h0 (by show 3 + (i 1).val + 0 = _; omega) h2]
  congr 1
  · congr 1
    · congr 1
      · refine congrArg _ (kOf_eq x3 _ 0 c ?_ ?_)
        · show (0 * 3072 + (i 2).val % 3072) / 3072 % 4 = 0; omega
        · show (0 * 3072 + (i 2).val % 3072) % 3072 = c; omega
      · refine congrArg _ (kOf_eq x3 _ 1 c ?_ ?_)
        · show ((1 + 0) * 3072 + (i 2).val % 3072) / 3072 % 4 = 1; omega
        · show ((1 + 0) * 3072 + (i 2).val % 3072) % 3072 = c; omega
    · refine congrArg _ (kOf_eq x3 _ 2 c ?_ ?_)
      · show ((2 + 0) * 3072 + (i 2).val % 3072) / 3072 % 4 = 2; omega
      · show ((2 + 0) * 3072 + (i 2).val % 3072) % 3072 = c; omega
  · refine congrArg _ (kOf_eq x3 _ 3 c ?_ ?_)
    · show ((3 + 0) * 3072 + (i 2).val % 3072) / 3072 % 4 = 3; omega
    · show ((3 + 0) * 3072 + (i 2).val % 3072) % 3072 = c; omega

/-- The convolution's output after SiLU. -/
theorem act_read (i : S4x2048x3072.Idx) (R c : ℕ) (h0 : (i 0).val = R / 2048) (h1 : (i 1).val = R % 2048) (h2 : (i 2).val = c) :
    val_main_v55 (F := Ideal) x0 x1 x2 x3 i = act (xOf x0) (gOf x1) (wOf x2) (kOf x3) R c := by
  simp only [val_main_v55_apply, val_main_call1_v5_apply, val_main_call1_v4_apply, val_main_call1_v3_apply, val_main_call1_v2_apply,
    val_main_call1_v1_apply, val_main_call1_v0_apply, val_main_call1_cst_apply, val_main_call1_cst_0_apply,
    Ideal.addf_def, Ideal.mulf_def, Ideal.hostDivf_def, Ideal.hostUnary_exp_def, Ideal.hostNegf_def, Ideal.negf_def, Ideal.ofBits_def, Ideal.ofBits_one_f32]
  rw [conv_read x0 x1 x2 x3 i R c h0 h1 h2]
  rfl

/-- A channel of the queries, by its head. -/
theorem head_q (i : S4x2048x8x128.Idx) (R c : ℕ) (h0 : (i 0).val = R / 2048) (h1 : (i 1).val = R % 2048)
    (h2 : 128 * (i 2).val + (i 3).val = c) :
    val_main_v59 (F := Ideal) x0 x1 x2 x3 i = act (xOf x0) (gOf x1) (wOf x2) (kOf x3) R c := by
  have l0 : (i 0).val < 4 := (i 0).isLt
  have l1 : (i 1).val < 2048 := (i 1).isLt
  have l2 : (i 2).val < 8 := (i 2).isLt
  have l3 : (i 3).val < 128 := (i 3).isLt
  rw [val_main_v59_apply, val_main_v56_apply]
  refine act_read x0 x1 x2 x3 _ R c ?_ ?_ ?_
  · show ((((i 0).val * 2048 + (i 1).val) * 8 + (i 2).val) * 128 + (i 3).val) / 2097152 = R / 2048; omega
  · show ((((i 0).val * 2048 + (i 1).val) * 8 + (i 2).val) * 128 + (i 3).val) / 1024 % 2048 = R % 2048; omega
  · show ((((i 0).val * 2048 + (i 1).val) * 8 + (i 2).val) * 128 + (i 3).val) % 1024 = c; omega

/-- A channel of the keys, by its head. -/
theorem head_k (i : S4x2048x8x128.Idx) (R c : ℕ) (h0 : (i 0).val = R / 2048) (h1 : (i 1).val = R % 2048)
    (h2 : 1024 + (128 * (i 2).val + (i 3).val) = c) :
    val_main_v71 (F := Ideal) x0 x1 x2 x3 i = act (xOf x0) (gOf x1) (wOf x2) (kOf x3) R c := by
  have l0 : (i 0).val < 4 := (i 0).isLt
  have l1 : (i 1).val < 2048 := (i 1).isLt
  have l2 : (i 2).val < 8 := (i 2).isLt
  have l3 : (i 3).val < 128 := (i 3).isLt
  rw [val_main_v71_apply, val_main_v57_apply]
  refine act_read x0 x1 x2 x3 _ R c ?_ ?_ ?_
  · show ((((i 0).val * 2048 + (i 1).val) * 8 + (i 2).val) * 128 + (i 3).val) / 2097152 = R / 2048; omega
  · show ((((i 0).val * 2048 + (i 1).val) * 8 + (i 2).val) * 128 + (i 3).val) / 1024 % 2048 = R % 2048; omega
  · show 1024 + ((((i 0).val * 2048 + (i 1).val) * 8 + (i 2).val) * 128 + (i 3).val) % 1024 = c; omega

/-- The head and the channel of a position in a row of 1024. -/
theorem flat_index (a b d : ℕ) (hb : b < 2048) (hd : d < 1024) :
    ((a * 2048 + b) * 1024 + d) / 2097152 = a ∧ ((a * 2048 + b) * 1024 + d) / 1024 % 2048 = b
      ∧ ((a * 2048 + b) * 1024 + d) / 128 % 8 = d / 128 ∧ ((a * 2048 + b) * 1024 + d) % 128 = d % 128 := by
  refine ⟨?_, ?_, ?_, ?_⟩
  · omega
  · rw [show ((a * 2048 + b) * 1024 + d) / 1024 = a * 2048 + b by omega]; omega
  · rw [show ((a * 2048 + b) * 1024 + d) / 128 = 8 * (a * 2048 + b) + d / 128 by omega]; omega
  · omega

/-- The sum of the squares of a head of the queries. -/
theorem squares_q (j : S4x2048x8.Idx) (R c : ℕ) (h0 : (j 0).val = R / 2048) (h1 : (j 1).val = R % 2048) (h2 : 128 * (j 2).val = 128 * (c / 128)) :
    val_main_v61 (F := Ideal) x0 x1 x2 x3 j = ∑ d : Fin 128, act (xOf x0) (gOf x1) (wOf x2) (kOf x3) R (128 * (c / 128) + d.val)
      * act (xOf x0) (gOf x1) (wOf x2) (kOf x3) R (128 * (c / 128) + d.val) := by
  rw [val_main_v61_apply, val_main_cst_2_apply, Ideal.ofBits_def, Ideal.ofBits_zero_f32, zero_add]
  refine Finset.sum_congr rfl fun k _ => ?_
  rw [val_main_v60_apply, Ideal.mulf_def, head_q x0 x1 x2 x3 (idx_main_v61 j k) R (128 * (c / 128) + k.val) h0 h1
    (by show 128 * (j 2).val + k.val = _; rw [h2])]

/-- The reciprocal norm of a head of the queries. -/
theorem norm_q (j : S4x2048x8x1.Idx) (R c : ℕ) (h0 : (j 0).val = R / 2048) (h1 : (j 1).val = R % 2048) (h2 : 128 * (j 2).val = 128 * (c / 128)) :
    val_main_v65 (F := Ideal) x0 x1 x2 x3 j = Ideal.rsqrt ((∑ d : Fin 128, act (xOf x0) (gOf x1) (wOf x2) (kOf x3) R (128 * (c / 128) + d.val)
      * act (xOf x0) (gOf x1) (wOf x2) (kOf x3) R (128 * (c / 128) + d.val)) + eps) := by
  rw [val_main_v65_apply, Ideal.hostUnary_rsqrt_def, val_main_v64_apply, Ideal.addf_def, val_main_v62_apply, val_main_v63_apply, val_main_cst_3_apply,
    squares_q x0 x1 x2 x3 (idx_main_v62 j) R c h0 h1 h2]
  rfl

/-- The queries of a head scaled to length one. -/
theorem unit_q (j : S4x2048x8x128.Idx) (R c : ℕ) (h0 : (j 0).val = R / 2048) (h1 : (j 1).val = R % 2048) (h2 : 128 * (j 2).val + (j 3).val = c) :
    val_main_v67 (F := Ideal) x0 x1 x2 x3 j = unit (xOf x0) (gOf x1) (wOf x2) (kOf x3) R c := by
  have l3 : (j 3).val < 128 := (j 3).isLt
  have h3 : 128 * (j 2).val = 128 * (c / 128) := by clear h0 h1; omega
  rw [val_main_v67_apply, Ideal.mulf_def, val_main_v66_apply, head_q x0 x1 x2 x3 j R c h0 h1 h2,
    norm_q x0 x1 x2 x3 (idx_main_v66 j) R c h0 h1 h3]
  rfl

/-- The sum of the squares of a head of the keys. -/
theorem squares_k (j : S4x2048x8.Idx) (R c : ℕ) (h0 : (j 0).val = R / 2048) (h1 : (j 1).val = R % 2048) (h2 : 1024 + 128 * (j 2).val = 128 * (c / 128)) :
    val_main_v73 (F := Ideal) x0 x1 x2 x3 j = ∑ d : Fin 128, act (xOf x0) (gOf x1) (wOf x2) (kOf x3) R (128 * (c / 128) + d.val)
      * act (xOf x0) (gOf x1) (wOf x2) (kOf x3) R (128 * (c / 128) + d.val) := by
  rw [val_main_v73_apply, val_main_cst_5_apply, Ideal.ofBits_def, Ideal.ofBits_zero_f32, zero_add]
  refine Finset.sum_congr rfl fun k _ => ?_
  rw [val_main_v72_apply, Ideal.mulf_def, head_k x0 x1 x2 x3 (idx_main_v73 j k) R (128 * (c / 128) + k.val) h0 h1
    (by show 1024 + (128 * (j 2).val + k.val) = _; rw [← Nat.add_assoc, h2])]

/-- The reciprocal norm of a head of the keys. -/
theorem norm_k (j : S4x2048x8x1.Idx) (R c : ℕ) (h0 : (j 0).val = R / 2048) (h1 : (j 1).val = R % 2048) (h2 : 1024 + 128 * (j 2).val = 128 * (c / 128)) :
    val_main_v77 (F := Ideal) x0 x1 x2 x3 j = Ideal.rsqrt ((∑ d : Fin 128, act (xOf x0) (gOf x1) (wOf x2) (kOf x3) R (128 * (c / 128) + d.val)
      * act (xOf x0) (gOf x1) (wOf x2) (kOf x3) R (128 * (c / 128) + d.val)) + eps) := by
  rw [val_main_v77_apply, Ideal.hostUnary_rsqrt_def, val_main_v76_apply, Ideal.addf_def, val_main_v74_apply, val_main_v75_apply, val_main_cst_6_apply,
    squares_k x0 x1 x2 x3 (idx_main_v74 j) R c h0 h1 h2]
  rfl

/-- The keys of a head scaled to length one. -/
theorem unit_k (j : S4x2048x8x128.Idx) (R c : ℕ) (h0 : (j 0).val = R / 2048) (h1 : (j 1).val = R % 2048) (h2 : 1024 + (128 * (j 2).val + (j 3).val) = c) :
    val_main_v79 (F := Ideal) x0 x1 x2 x3 j = unit (xOf x0) (gOf x1) (wOf x2) (kOf x3) R c := by
  have l3 : (j 3).val < 128 := (j 3).isLt
  have h3 : 1024 + 128 * (j 2).val = 128 * (c / 128) := by clear h0 h1; omega
  rw [val_main_v79_apply, Ideal.mulf_def, val_main_v78_apply, head_k x0 x1 x2 x3 j R c h0 h1 h2,
    norm_k x0 x1 x2 x3 (idx_main_v78 j) R c h0 h1 h3]
  rfl

/-- The queries: each head scaled to length one, then by a constant. -/
theorem q_read (i : S4x2048x1024.Idx) (R c : ℕ) (h0 : (i 0).val = R / 2048) (h1 : (i 1).val = R % 2048) (h2 : (i 2).val = c) :
    val_main_v70 (F := Ideal) x0 x1 x2 x3 i = unit (xOf x0) (gOf x1) (wOf x2) (kOf x3) R c * qscale := by
  have l1 : (i 1).val < 2048 := (i 1).isLt
  have l2 : (i 2).val < 1024 := (i 2).isLt
  obtain ⟨f0, f1, f2, f3⟩ := flat_index (i 0).val (i 1).val (i 2).val l1 l2
  rw [val_main_v70_apply, val_main_v69_apply, Ideal.mulf_def, val_main_v68_apply, val_main_cst_4_apply,
    unit_q x0 x1 x2 x3 (idx_main_v70 i) R c (f0.trans h0) (f1.trans h1)
      (by show 128 * ((((i 0).val * 2048 + (i 1).val) * 1024 + (i 2).val) / 128 % 8) + (((i 0).val * 2048 + (i 1).val) * 1024 + (i 2).val) % 128 = c
          rw [f2, f3, ← h2]; clear f0 f1 f2 f3 h0 h1; omega)]
  rfl

/-- The keys: each head scaled to length one. -/
theorem k_read (i : S4x2048x1024.Idx) (R c : ℕ) (h0 : (i 0).val = R / 2048) (h1 : (i 1).val = R % 2048) (h2 : 1024 + (i 2).val = c) :
    val_main_v80 (F := Ideal) x0 x1 x2 x3 i = unit (xOf x0) (gOf x1) (wOf x2) (kOf x3) R c := by
  have l1 : (i 1).val < 2048 := (i 1).isLt
  have l2 : (i 2).val < 1024 := (i 2).isLt
  obtain ⟨f0, f1, f2, f3⟩ := flat_index (i 0).val (i 1).val (i 2).val l1 l2
  rw [val_main_v80_apply, unit_k x0 x1 x2 x3 (idx_main_v80 i) R c (f0.trans h0) (f1.trans h1)
      (by show 1024 + (128 * ((((i 0).val * 2048 + (i 1).val) * 1024 + (i 2).val) / 128 % 8) + (((i 0).val * 2048 + (i 1).val) * 1024 + (i 2).val) % 128) = c
          rw [f2, f3, ← h2]; clear f0 f1 f2 f3 h0 h1; omega)]

/-- The first gate of the two branches after SiLU. -/
theorem az_read (i : S4x2048x1024.Idx) (R n : ℕ) (h0 : (i 0).val = R / 2048) (h1 : (i 1).val = R % 2048) (h2 : 3072 + (i 2).val = n) :
    val_main_v81 (F := Ideal) x0 x1 x2 i = silu (proj (xOf x0) (gOf x1) (wOf x2) R n) := by
  simp only [val_main_v81_apply, val_main_call2_v5_apply, val_main_call2_v4_apply, val_main_call2_v3_apply, val_main_call2_v2_apply,
    val_main_call2_v1_apply, val_main_call2_v0_apply, val_main_call2_cst_apply, val_main_call2_cst_0_apply, val_main_v19_apply,
    Ideal.addf_def, Ideal.mulf_def, Ideal.hostDivf_def, Ideal.hostUnary_exp_def, Ideal.hostNegf_def, Ideal.negf_def, Ideal.ofBits_def, Ideal.ofBits_one_f32]
  rw [proj_read x0 x1 x2 _ R n h0 h1 h2]
  rfl

/-- The second gate of the two branches after SiLU. -/
theorem bz_read (i : S4x2048x1024.Idx) (R n : ℕ) (h0 : (i 0).val = R / 2048) (h1 : (i 1).val = R % 2048) (h2 : 7168 + (i 2).val = n) :
    val_main_v82 (F := Ideal) x0 x1 x2 i = silu (proj (xOf x0) (gOf x1) (wOf x2) R n) := by
  simp only [val_main_v82_apply, val_main_call3_v5_apply, val_main_call3_v4_apply, val_main_call3_v3_apply, val_main_call3_v2_apply,
    val_main_call3_v1_apply, val_main_call3_v0_apply, val_main_call3_cst_apply, val_main_call3_cst_0_apply, val_main_v21_apply,
    Ideal.addf_def, Ideal.mulf_def, Ideal.hostDivf_def, Ideal.hostUnary_exp_def, Ideal.hostNegf_def, Ideal.negf_def, Ideal.ofBits_def, Ideal.ofBits_one_f32]
  rw [proj_read x0 x1 x2 _ R n h0 h1 h2]
  rfl

/-- The first mixing gate. -/
theorem ga_read (i : S4x2048x2048.Idx) (R n : ℕ) (h0 : (i 0).val = R / 2048) (h1 : (i 1).val = R % 2048) (h2 : 8208 + (i 2).val = n) :
    val_main_v88 (F := Ideal) x0 x1 x2 i = logi (proj (xOf x0) (gOf x1) (wOf x2) R n) := by
  simp only [val_main_v88_apply, val_main_v87_apply, val_main_v86_apply, val_main_v85_apply, val_main_v84_apply, val_main_v83_apply,
    val_main_cst_7_apply, val_main_cst_8_apply, val_main_v24_apply,
    Ideal.addf_def, Ideal.mulf_def, Ideal.hostDivf_def, Ideal.hostUnary_exp_def, Ideal.hostNegf_def, Ideal.negf_def, Ideal.ofBits_def, Ideal.ofBits_one_f32]
  rw [proj_read x0 x1 x2 _ R n h0 h1 h2]
  rfl

/-- The second mixing gate. -/
theorem gb_read (i : S4x2048x2048.Idx) (R n : ℕ) (h0 : (i 0).val = R / 2048) (h1 : (i 1).val = R % 2048) (h2 : 10256 + (i 2).val = n) :
    val_main_v94 (F := Ideal) x0 x1 x2 i = logi (proj (xOf x0) (gOf x1) (wOf x2) R n) := by
  simp only [val_main_v94_apply, val_main_v93_apply, val_main_v92_apply, val_main_v91_apply, val_main_v90_apply, val_main_v89_apply,
    val_main_cst_9_apply, val_main_cst_10_apply, val_main_v25_apply,
    Ideal.addf_def, Ideal.mulf_def, Ideal.hostDivf_def, Ideal.hostUnary_exp_def, Ideal.hostNegf_def, Ideal.negf_def, Ideal.ofBits_def, Ideal.ofBits_one_f32]
  rw [proj_read x0 x1 x2 _ R n h0 h1 h2]
  rfl

set_option maxHeartbeats 1600000 in
/-- The ten pieces of the first result side by side. -/
theorem cat_read (i : S4x2048x12288.Idx) (R n : ℕ) (h0 : (i 0).val = R / 2048) (h1 : (i 1).val = R % 2048) (h2 : (i 2).val = n) :
    val_main_v95 (F := Ideal) x0 x1 x2 x3 i = wide (xOf x0) (gOf x1) (wOf x2) (kOf x3) R n := by
  have l0 : (i 0).val < 4 := (i 0).isLt
  have l1 : (i 1).val < 2048 := (i 1).isLt
  have l2 : (i 2).val < 12288 := (i 2).isLt
  unfold val_main_v95
  by_cases c0 : n < 1024
  · refine Eq.trans (concatenate_apply_piece (t := S4x2048x12288) (2 : Fin 3) _ _ i 0 (Nat.lt_of_sub_eq_succ rfl) S4x2048x1024 (val_main_v16 (F := Ideal) x0 x1 x2) rfl rfl 0 rfl
      (ix3 ⟨(i 0).val, l0⟩ ⟨(i 1).val, l1⟩ ⟨(i 2).val - 0, by omega⟩ : S4x2048x1024.Idx) ?_ ?_) ?_
    · intro b hb
      match b with
      | ⟨0, _⟩ => rfl
      | ⟨1, _⟩ => rfl
      | ⟨2, _⟩ => exact absurd rfl hb
    · show 0 + ((i 2).val - 0) = (i 2).val; omega
    · rw [val_main_v16_apply]
      refine Eq.trans (proj_read x0 x1 x2 (idx_main_v16 (ix3 ⟨(i 0).val, l0⟩ ⟨(i 1).val, l1⟩ ⟨(i 2).val - 0, by omega⟩)) R n h0 h1 (by show ((i 2).val - 0) = n; omega)) ?_
      clear h0 h1 l0 l1
      unfold wide
      rw [if_neg (by omega), if_neg (by omega), if_neg (by omega), if_neg (by omega), if_neg (by omega)]
  by_cases c1 : n < 2048
  · refine Eq.trans (concatenate_apply_piece (t := S4x2048x12288) (2 : Fin 3) _ _ i 1 (Nat.lt_of_sub_eq_succ rfl) S4x2048x1024 (val_main_v17 (F := Ideal) x0 x1 x2) rfl rfl 1024 rfl
      (ix3 ⟨(i 0).val, l0⟩ ⟨(i 1).val, l1⟩ ⟨(i 2).val - 1024, by omega⟩ : S4x2048x1024.Idx) ?_ ?_) ?_
    · intro b hb
      match b with
      | ⟨0, _⟩ => rfl
      | ⟨1, _⟩ => rfl
      | ⟨2, _⟩ => exact absurd rfl hb
    · show 1024 + ((i 2).val - 1024) = (i 2).val; omega
    · rw [val_main_v17_apply]
      refine Eq.trans (proj_read x0 x1 x2 (idx_main_v17 (ix3 ⟨(i 0).val, l0⟩ ⟨(i 1).val, l1⟩ ⟨(i 2).val - 1024, by omega⟩)) R n h0 h1 (by show 1024 + ((i 2).val - 1024) = n; omega)) ?_
      clear h0 h1 l0 l1
      unfold wide
      rw [if_neg (by omega), if_neg (by omega), if_neg (by omega), if_neg (by omega), if_neg (by omega)]
  clear c0
  by_cases c2 : n < 3072
  · refine Eq.trans (concatenate_apply_piece (t := S4x2048x12288) (2 : Fin 3) _ _ i 2 (Nat.lt_of_sub_eq_succ rfl) S4x2048x1024 (val_main_v18 (F := Ideal) x0 x1 x2) rfl rfl 2048 rfl
      (ix3 ⟨(i 0).val, l0⟩ ⟨(i 1).val, l1⟩ ⟨(i 2).val - 2048, by omega⟩ : S4x2048x1024.Idx) ?_ ?_) ?_
    · intro b hb
      match b with
      | ⟨0, _⟩ => rfl
      | ⟨1, _⟩ => rfl
      | ⟨2, _⟩ => exact absurd rfl hb
    · show 2048 + ((i 2).val - 2048) = (i 2).val; omega
    · rw [val_main_v18_apply]
      refine Eq.trans (proj_read x0 x1 x2 (idx_main_v18 (ix3 ⟨(i 0).val, l0⟩ ⟨(i 1).val, l1⟩ ⟨(i 2).val - 2048, by omega⟩)) R n h0 h1 (by show 2048 + ((i 2).val - 2048) = n; omega)) ?_
      clear h0 h1 l0 l1
      unfold wide
      rw [if_neg (by omega), if_neg (by omega), if_neg (by omega), if_neg (by omega), if_neg (by omega)]
  clear c1
  by_cases c3 : n < 4096
  · refine Eq.trans (concatenate_apply_piece (t := S4x2048x12288) (2 : Fin 3) _ _ i 3 (Nat.lt_of_sub_eq_succ rfl) S4x2048x1024 (val_main_v81 (F := Ideal) x0 x1 x2) rfl rfl 3072 rfl
      (ix3 ⟨(i 0).val, l0⟩ ⟨(i 1).val, l1⟩ ⟨(i 2).val - 3072, by omega⟩ : S4x2048x1024.Idx) ?_ ?_) ?_
    · intro b hb
      match b with
      | ⟨0, _⟩ => rfl
      | ⟨1, _⟩ => rfl
      | ⟨2, _⟩ => exact absurd rfl hb
    · show 3072 + ((i 2).val - 3072) = (i 2).val; omega
    · refine Eq.trans (az_read x0 x1 x2 (ix3 ⟨(i 0).val, l0⟩ ⟨(i 1).val, l1⟩ ⟨(i 2).val - 3072, by omega⟩) R n h0 h1 (by show 3072 + ((i 2).val - 3072) = n; omega)) ?_
      clear h0 h1 l0 l1
      unfold wide
      rw [if_neg (by omega), if_neg (by omega), if_neg (by omega), if_neg (by omega), if_pos (by omega)]
  clear c2
  by_cases c4 : n < 5120
  · refine Eq.trans (concatenate_apply_piece (t := S4x2048x12288) (2 : Fin 3) _ _ i 4 (Nat.lt_of_sub_eq_succ rfl) S4x2048x1024 (val_main_v70 (F := Ideal) x0 x1 x2 x3) rfl rfl 4096 rfl
      (ix3 ⟨(i 0).val, l0⟩ ⟨(i 1).val, l1⟩ ⟨(i 2).val - 4096, by omega⟩ : S4x2048x1024.Idx) ?_ ?_) ?_
    · intro b hb
      match b with
      | ⟨0, _⟩ => rfl
      | ⟨1, _⟩ => rfl
      | ⟨2, _⟩ => exact absurd rfl hb
    · show 4096 + ((i 2).val - 4096) = (i 2).val; omega
    · refine Eq.trans (q_read x0 x1 x2 x3 (ix3 ⟨(i 0).val, l0⟩ ⟨(i 1).val, l1⟩ ⟨(i 2).val - 4096, by omega⟩) R (n - 4096) h0 h1 (by show (i 2).val - 4096 = n - 4096; omega)) ?_
      clear h0 h1 l0 l1
      unfold wide
      rw [if_neg (by omega), if_neg (by omega), if_pos (by omega)]
  clear c3
  by_cases c5 : n < 6144
  · refine Eq.trans (concatenate_apply_piece (t := S4x2048x12288) (2 : Fin 3) _ _ i 5 (Nat.lt_of_sub_eq_succ rfl) S4x2048x1024 (val_main_v80 (F := Ideal) x0 x1 x2 x3) rfl rfl 5120 rfl
      (ix3 ⟨(i 0).val, l0⟩ ⟨(i 1).val, l1⟩ ⟨(i 2).val - 5120, by omega⟩ : S4x2048x1024.Idx) ?_ ?_) ?_
    · intro b hb
      match b with
      | ⟨0, _⟩ => rfl
      | ⟨1, _⟩ => rfl
      | ⟨2, _⟩ => exact absurd rfl hb
    · show 5120 + ((i 2).val - 5120) = (i 2).val; omega
    · refine Eq.trans (k_read x0 x1 x2 x3 (ix3 ⟨(i 0).val, l0⟩ ⟨(i 1).val, l1⟩ ⟨(i 2).val - 5120, by omega⟩) R (n - 4096) h0 h1 (by show 1024 + ((i 2).val - 5120) = n - 4096; omega)) ?_
      clear h0 h1 l0 l1
      unfold wide
      rw [if_neg (by omega), if_neg (by omega), if_neg (by omega), if_pos (by omega)]
  clear c4
  by_cases c6 : n < 7168
  · refine Eq.trans (concatenate_apply_piece (t := S4x2048x12288) (2 : Fin 3) _ _ i 6 (Nat.lt_of_sub_eq_succ rfl) S4x2048x1024 (val_main_v58 (F := Ideal) x0 x1 x2 x3) rfl rfl 6144 rfl
      (ix3 ⟨(i 0).val, l0⟩ ⟨(i 1).val, l1⟩ ⟨(i 2).val - 6144, by omega⟩ : S4x2048x1024.Idx) ?_ ?_) ?_
    · intro b hb
      match b with
      | ⟨0, _⟩ => rfl
      | ⟨1, _⟩ => rfl
      | ⟨2, _⟩ => exact absurd rfl hb
    · show 6144 + ((i 2).val - 6144) = (i 2).val; omega
    · rw [val_main_v58_apply]
      refine Eq.trans (act_read x0 x1 x2 x3 (idx_main_v58 (ix3 ⟨(i 0).val, l0⟩ ⟨(i 1).val, l1⟩ ⟨(i 2).val - 6144, by omega⟩)) R (n - 4096) h0 h1 (by show 2048 + ((i 2).val - 6144) = n - 4096; omega)) ?_
      clear h0 h1 l0 l1
      unfold wide
      rw [if_neg (by omega), if_pos (by omega)]
  clear c5
  by_cases c7 : n < 8192
  · refine Eq.trans (concatenate_apply_piece (t := S4x2048x12288) (2 : Fin 3) _ _ i 7 (Nat.lt_of_sub_eq_succ rfl) S4x2048x1024 (val_main_v82 (F := Ideal) x0 x1 x2) rfl rfl 7168 rfl
      (ix3 ⟨(i 0).val, l0⟩ ⟨(i 1).val, l1⟩ ⟨(i 2).val - 7168, by omega⟩ : S4x2048x1024.Idx) ?_ ?_) ?_
    · intro b hb
      match b with
      | ⟨0, _⟩ => rfl
      | ⟨1, _⟩ => rfl
      | ⟨2, _⟩ => exact absurd rfl hb
    · show 7168 + ((i 2).val - 7168) = (i 2).val; omega
    · refine Eq.trans (bz_read x0 x1 x2 (ix3 ⟨(i 0).val, l0⟩ ⟨(i 1).val, l1⟩ ⟨(i 2).val - 7168, by omega⟩) R n h0 h1 (by show 7168 + ((i 2).val - 7168) = n; omega)) ?_
      clear h0 h1 l0 l1
      unfold wide
      rw [if_neg (by omega), if_neg (by omega), if_neg (by omega), if_neg (by omega), if_pos (by omega)]
  clear c6
  by_cases c8 : n < 10240
  · refine Eq.trans (concatenate_apply_piece (t := S4x2048x12288) (2 : Fin 3) _ _ i 8 (Nat.lt_of_sub_eq_succ rfl) S4x2048x2048 (val_main_v88 (F := Ideal) x0 x1 x2) rfl rfl 8192 rfl
      (ix3 ⟨(i 0).val, l0⟩ ⟨(i 1).val, l1⟩ ⟨(i 2).val - 8192, by omega⟩ : S4x2048x2048.Idx) ?_ ?_) ?_
    · intro b hb
      match b with
      | ⟨0, _⟩ => rfl
      | ⟨1, _⟩ => rfl
      | ⟨2, _⟩ => exact absurd rfl hb
    · show 8192 + ((i 2).val - 8192) = (i 2).val; omega
    · refine Eq.trans (ga_read x0 x1 x2 (ix3 ⟨(i 0).val, l0⟩ ⟨(i 1).val, l1⟩ ⟨(i 2).val - 8192, by omega⟩) R (n + 16) h0 h1 (by show 8208 + ((i 2).val - 8192) = n + 16; omega)) ?_
      clear h0 h1 l0 l1
      unfold wide
      rw [if_pos (by omega)]
  refine Eq.trans (concatenate_apply_piece (t := S4x2048x12288) (2 : Fin 3) _ _ i 9 (Nat.lt_of_sub_eq_succ rfl) S4x2048x2048 (val_main_v94 (F := Ideal) x0 x1 x2) rfl rfl 10240 ?_
      (ix3 ⟨(i 0).val, l0⟩ ⟨(i 1).val, l1⟩ ⟨(i 2).val - 10240, by omega⟩ : S4x2048x2048.Idx) ?_ ?_) ?_
  · exact (show 1024 + (1024 + (1024 + (1024 + (1024 + (1024 + (1024 + (1024 + (2048 + 0)))))))) = 10240 from rfl)
  · intro b hb
    match b with
    | ⟨0, _⟩ => rfl
    | ⟨1, _⟩ => rfl
    | ⟨2, _⟩ => exact absurd rfl hb
  · show 10240 + ((i 2).val - 10240) = (i 2).val; omega
  · refine Eq.trans (gb_read x0 x1 x2 (ix3 ⟨(i 0).val, l0⟩ ⟨(i 1).val, l1⟩ ⟨(i 2).val - 10240, by omega⟩) R (n + 16) h0 h1 (by show 10256 + ((i 2).val - 10240) = n + 16; omega)) ?_
    clear h0 h1 l0 l1
    unfold wide
    rw [if_pos (by omega)]

/-- The three pieces of the second result side by side. -/
theorem cat_small_read (i : S4x2048x128.Idx) (R n : ℕ) (h0 : (i 0).val = R / 2048) (h1 : (i 1).val = R % 2048) (h2 : (i 2).val = n) :
    val_main_v97 (F := Ideal) x0 x1 x2 i = small (xOf x0) (gOf x1) (wOf x2) R n := by
  have l0 : (i 0).val < 4 := (i 0).isLt
  have l1 : (i 1).val < 2048 := (i 1).isLt
  have l2 : (i 2).val < 128 := (i 2).isLt
  unfold val_main_v97 small
  by_cases c0 : n < 8
  · refine Eq.trans (concatenate_apply_piece (t := S4x2048x128) (2 : Fin 3) _ _ i 0 (Nat.lt_of_sub_eq_succ rfl) S4x2048x8 (val_main_v22 (F := Ideal) x0 x1 x2) rfl rfl 0 rfl
      (ix3 ⟨(i 0).val, l0⟩ ⟨(i 1).val, l1⟩ ⟨(i 2).val - 0, by omega⟩ : S4x2048x8.Idx) ?_ ?_) ?_
    · intro b hb
      match b with
      | ⟨0, _⟩ => rfl
      | ⟨1, _⟩ => rfl
      | ⟨2, _⟩ => exact absurd rfl hb
    · show 0 + ((i 2).val - 0) = (i 2).val; omega
    · rw [val_main_v22_apply, if_pos (by omega)]
      exact proj_read x0 x1 x2 _ R (8192 + n) h0 h1 (by show 8192 + ((i 2).val - 0) = 8192 + n; omega)
  by_cases c1 : n < 16
  · refine Eq.trans (concatenate_apply_piece (t := S4x2048x128) (2 : Fin 3) _ _ i 1 (Nat.lt_of_sub_eq_succ rfl) S4x2048x8 (val_main_v23 (F := Ideal) x0 x1 x2) rfl rfl 8 rfl
      (ix3 ⟨(i 0).val, l0⟩ ⟨(i 1).val, l1⟩ ⟨(i 2).val - 8, by omega⟩ : S4x2048x8.Idx) ?_ ?_) ?_
    · intro b hb
      match b with
      | ⟨0, _⟩ => rfl
      | ⟨1, _⟩ => rfl
      | ⟨2, _⟩ => exact absurd rfl hb
    · show 8 + ((i 2).val - 8) = (i 2).val; omega
    · rw [val_main_v23_apply, if_pos (by omega)]
      exact proj_read x0 x1 x2 _ R (8192 + n) h0 h1 (by show 8200 + ((i 2).val - 8) = 8192 + n; omega)
  refine Eq.trans (concatenate_apply_piece (t := S4x2048x128) (2 : Fin 3) _ _ i 2 (Nat.lt_of_sub_eq_succ rfl) S4x2048x112 (val_main_v96 (F := Ideal)) rfl rfl 16 rfl
      (ix3 ⟨(i 0).val, l0⟩ ⟨(i 1).val, l1⟩ ⟨(i 2).val - 16, by omega⟩ : S4x2048x112.Idx) ?_ ?_) ?_
  · intro b hb
    match b with
    | ⟨0, _⟩ => rfl
    | ⟨1, _⟩ => rfl
    | ⟨2, _⟩ => exact absurd rfl hb
  · show 16 + ((i 2).val - 16) = (i 2).val; omega
  · rw [if_neg (by omega), val_main_v96_apply, val_main_cst_11_apply, Ideal.ofBits_def, Ideal.ofBits_zero_f32]

/-- The reference's first result. -/
theorem wide_read (i : S8192x12288.Idx) :
    val_main_v99 (F := Ideal) x0 x1 x2 x3 i = wide (xOf x0) (gOf x1) (wOf x2) (kOf x3) (i 0).val (i 1).val := by
  have l0 : (i 0).val < 8192 := (i 0).isLt
  have l1 : (i 1).val < 12288 := (i 1).isLt
  rw [val_main_v99_apply, Ideal.truncf_def, val_main_v98_apply]
  refine cat_read x0 x1 x2 x3 _ (i 0).val (i 1).val ?_ ?_ ?_
  · show ((i 0).val * 12288 + (i 1).val) / 25165824 = (i 0).val / 2048; omega
  · show ((i 0).val * 12288 + (i 1).val) / 12288 % 2048 = (i 0).val % 2048; omega
  · show ((i 0).val * 12288 + (i 1).val) % 12288 = (i 1).val; omega

/-- The reference's second result. -/
theorem small_read (i : S8192x128.Idx) :
    val_main_v100 (F := Ideal) x0 x1 x2 i = small (xOf x0) (gOf x1) (wOf x2) (i 0).val (i 1).val := by
  have l0 : (i 0).val < 8192 := (i 0).isLt
  have l1 : (i 1).val < 128 := (i 1).isLt
  rw [val_main_v100_apply]
  refine cat_small_read x0 x1 x2 _ (i 0).val (i 1).val ?_ ?_ ?_
  · show ((i 0).val * 128 + (i 1).val) / 262144 = (i 0).val / 2048; omega
  · show ((i 0).val * 128 + (i 1).val) / 128 % 2048 = (i 0).val % 2048; omega
  · show ((i 0).val * 128 + (i 1).val) % 128 = (i 1).val; omega

end Cert.Inproj.Ref
-- ==== Proof.Inproj.Parts.lean ====
/- The kernel's body cut into its seven conditional parts. -/
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Part 1 of the body: the first point: the history buffer is zeroed and the padded small weights cast. -/
def br1 (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let arg2 : BitVec 32 := BitVec.ofNat 32 (i 2).val
  let v6 : BitVec 1 := Scalar.cmpi .eq arg0 0#32
  let v7 : BitVec 1 := Scalar.cmpi .eq arg1 0#32
  let v8 : BitVec 1 := Scalar.andi v6 v7
  let v9 : BitVec 1 := Scalar.cmpi .eq arg2 0#32
  let v10 : BitVec 1 := Scalar.andi v8 v9
  let v11 : BitVec 32 := Scalar.extui v10
  let v12 : BitVec 1 := Scalar.cmpi .ne v11 0#32
  if k0_h1 : v12 = 1#1 then do
    let v33 : Vec F S3x8x1024 .f32 ← Prog.lift (.load arg13 (Rect.unit (s := S3x8x1024) ![0, 0, 0] S3x8x1024.size inb_S3x8x1024_S3x8x1024_0_0_0).toLoadRect (View.loadsAt_vmem h_S3x8x1024))
    Prog.lift (.store arg13 (Rect.unit (s := S3x8x1024) ![0, 0, 0] S3x8x1024.size inb_S3x8x1024_S3x8x1024_0_0_0) (k0_pay215 (F := F)) Finset.univ (View.stores_vmem_bits_univ h_S3x8x1024 rfl) (.inl rfl))
    let v37 : Vec F S16x2048 .f32 ← Prog.lift (.load arg6 (Rect.unit (s := S16x2048) ![0, 0] S16x2048.size inb_S16x2048_S16x2048_0_0).toLoadRect (View.loadsAt_vmem h_S16x2048))
    let v41 : Vec F S128x2048 .bf16 ← Prog.lift (.load arg12 (Rect.unit (s := S128x2048) ![0, 0] S128x2048.size inb_S128x2048_S128x2048_0_0).toLoadRect (View.loadsAt_vmem h_S128x2048))
    Prog.lift (.store arg12 (Rect.unit (s := S128x2048) ![0, 0] S128x2048.size inb_S128x2048_S128x2048_0_0) (k0_pay216 v37) Finset.univ (View.stores_vmem h_S128x2048 (harg12.storeExact_slice rfl _ packedbf16_S128x2048_S128x2048_0_0) (fun _ => rfl)) (.inl rfl))
    k ⟨⟩
  else do
    k ⟨⟩

/-- Part 2 of the body: the first row tile of a column tile: the weight block is cast. -/
def br2 (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit) :
    Prog (TpuEff nD τ sig (Elt F) Λ₀ .tc) PUnit := do
  let arg2 : BitVec 32 := BitVec.ofNat 32 (i 2).val
  let v13 : BitVec 1 := Scalar.cmpi .eq arg2 0#32
  let v14 : BitVec 32 := Scalar.extui v13
  let v15 : BitVec 1 := Scalar.cmpi .ne v14 0#32
  if k0_h2 : v15 = 1#1 then do
    let v32 : Vec F S1024x2048 .f32 ← Prog.lift (.load arg5 (Rect.unit (s := S1024x2048) ![0, 0] S1024x2048.size inb_S1024x2048_S1024x2048_0_0).toLoadRect (View.loadsAt_vmem h_S1024x2048))
    let v35 : Vec F S1024x2048 .bf16 ← Prog.lift (.load arg11 (Rect.unit (s := S1024x2048) ![0, 0] S1024x2048.size inb_S1024x2048_S1024x2048_0_0).toLoadRect (View.loadsAt_vmem h_S1024x2048))
    Prog.lift (.store arg11 (Rect.unit (s := S1024x2048) ![0, 0] S1024x2048.size inb_S1024x2048_S1024x2048_0_0) (k0_pay217 v32) Finset.univ (View.stores_vmem h_S1024x2048 (harg11.storeExact_slice rfl _ packedbf16_S1024x2048_S1024x2048_0_0) (fun _ => rfl)) (.inl rfl))
    k ⟨⟩
  else do
    k ⟨⟩

/-- Part 3 of the body: the first column tile: the normalised rows of a row tile, and their product with the small weights. -/
def br3 (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit) :
    Prog (TpuEff nD τ sig (Elt F) Λ₀ .tc) PUnit := do
  if k0_h3 : k0_cond3 i = 1#1 then do
    let v32 : Vec F S1024x2048 .f32 ← Prog.lift (.load arg3 (Rect.unit (s := S1024x2048) ![0, 0] S1024x2048.size inb_S1024x2048_S1024x2048_0_0).toLoadRect (View.loadsAt_vmem h_S1024x2048))
    let v44 : Vec F S1x2048 .f32 ← Prog.lift (.load arg4 (Rect.unit (s := S1x2048) ![0, 0] S1x2048.size inb_S1x2048_S1x2048_0_0).toLoadRect (View.loadsAt_vmem h_S1x2048))
    let v50 : Vec F S1x1024x2048 .bf16 ← Prog.lift (.load arg10 (Rect.unit (s := S4x1024x2048) (k0_off1 i) S1x1024x2048.size (k0_off1_inb i k0_h3)).toLoadRect (View.loadsAt_vmem h_S1x1024x2048))
    Prog.lift (.store arg10 (Rect.unit (s := S4x1024x2048) (k0_off1 i) S1x1024x2048.size (k0_off1_inb i k0_h3)) (k0_pay219 v32 v44) Finset.univ (View.stores_vmem h_S1x1024x2048 (harg10.storeExact_slice rfl _ (k0_off1_packedbf16 i k0_h3)) (fun _ => rfl)) (.inl rfl))
    let v53 : Vec F S128x2048 .bf16 ← Prog.lift (.load arg12 (Rect.unit (s := S128x2048) ![0, 0] S128x2048.size inb_S128x2048_S128x2048_0_0).toLoadRect (View.loadsAt_vmem h_S128x2048))
    let v55 : Vec F S1024x128 .f32 ← Prog.lift (.load arg9 (Rect.unit (s := S1024x128) ![0, 0] S1024x128.size inb_S1024x128_S1024x128_0_0).toLoadRect (View.loadsAt_vmem h_S1024x128))
    Prog.lift (.store arg9 (Rect.unit (s := S1024x128) ![0, 0] S1024x128.size inb_S1024x128_S1024x128_0_0) (k0_pay220 v32 v44 v53) Finset.univ (View.stores_vmem_bits_univ h_S1024x128 rfl) (.inl rfl))
    k ⟨⟩
  else do
    k ⟨⟩

/-- Part 4 of the body: a plain or SiLU column tile. -/
def br4 (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit) :
    Prog (TpuEff nD τ sig (Elt F) Λ₀ .tc) PUnit := do
  let arg1 : BitVec 32 := BitVec.ofNat 32 (i 1).val
  if k0_h4 : k0_cond4 i = 1#1 then do
    let ⟨v34, v44, v61⟩ : Σ' (v34 : BitVec 1) (v44 : FVec F S256x256 .f32), FVec F S256x256 .f32 ← k0_part1 i arg3 harg3 arg4 harg4 arg5 harg5 arg6 harg6 arg7 harg7 arg8 harg8 arg9 harg9 arg10 harg10 arg11 harg11 arg12 harg12 arg13 harg13 arg1 k0_h4
    let ⟨v78, v93, v94⟩ : Σ' (v78 : FVec F S256x256 .f32) (v93 : Vec F S256x2048 .bf16), Vec F S256x2048 .bf16 ← k0_part2 i arg3 harg3 arg4 harg4 arg5 harg5 arg6 harg6 arg7 harg7 arg8 harg8 arg9 harg9 arg10 harg10 arg11 harg11 arg12 harg12 arg13 harg13 k0_h4 v34 v44 v61
    let ⟨v112, v127⟩ : Σ' (v112 : FVec F S256x256 .f32), Vec F S256x2048 .bf16 ← k0_part3 i arg3 harg3 arg4 harg4 arg5 harg5 arg6 harg6 arg7 harg7 arg8 harg8 arg9 harg9 arg10 harg10 arg11 harg11 arg12 harg12 arg13 harg13 k0_h4 v34 v78 v93 v94
    let v146 : FVec F S256x256 .f32 ← k0_part4 i arg3 harg3 arg4 harg4 arg5 harg5 arg6 harg6 arg7 harg7 arg8 harg8 arg9 harg9 arg10 harg10 arg11 harg11 arg12 harg12 arg13 harg13 k0_h4 v34 v112 v127
    let v180 : FVec F S256x256 .f32 ← k0_part5 i arg3 harg3 arg4 harg4 arg5 harg5 arg6 harg6 arg7 harg7 arg8 harg8 arg9 harg9 arg10 harg10 arg11 harg11 arg12 harg12 arg13 harg13 k0_h4 v34 v146
    let v214 : FVec F S256x256 .f32 ← k0_part6 i arg3 harg3 arg4 harg4 arg5 harg5 arg6 harg6 arg7 harg7 arg8 harg8 arg9 harg9 arg10 harg10 arg11 harg11 arg12 harg12 arg13 harg13 k0_h4 v34 v180
    let v248 : FVec F S256x256 .f32 ← k0_part7 i arg3 harg3 arg4 harg4 arg5 harg5 arg6 harg6 arg7 harg7 arg8 harg8 arg9 harg9 arg10 harg10 arg11 harg11 arg12 harg12 arg13 harg13 k0_h4 v34 v214
    let ⟨v282, v293⟩ : Σ' (v282 : FVec F S256x256 .f32), FVec F S256x256 .bf16 ← k0_part8 i arg3 harg3 arg4 harg4 arg5 harg5 arg6 harg6 arg7 harg7 arg8 harg8 arg9 harg9 arg10 harg10 arg11 harg11 arg12 harg12 arg13 harg13 k0_h4 v34 v248
    let v294 : Vec F S256x256 .bf16 ← Prog.lift (.load arg8 (Rect.unit (s := S1024x1024) ![768, 512] S256x256.size inb_S1024x1024_S256x256_768_512).toLoadRect (View.loadsAt_vmem h_S256x256))
    Prog.lift (.store arg8 (Rect.unit (s := S1024x1024) ![768, 512] S256x256.size inb_S1024x1024_S256x256_768_512) v293 Finset.univ (View.stores_vmem h_S256x256 (harg8.storeExact_slice rfl _ packedbf16_S1024x1024_S256x256_768_512) (fun _ => rfl)) (.inl rfl))
    let v306 : Vec F S256x256 .bf16 ← Prog.lift (.load arg8 (Rect.unit (s := S1024x1024) ![768, 768] S256x256.size inb_S1024x1024_S256x256_768_768).toLoadRect (View.loadsAt_vmem h_S256x256))
    Prog.lift (.store arg8 (Rect.unit (s := S1024x1024) ![768, 768] S256x256.size inb_S1024x1024_S256x256_768_768) (k0_pay221 v34 v282) Finset.univ (View.stores_vmem h_S256x256 (harg8.storeExact_slice rfl _ packedbf16_S1024x1024_S256x256_768_768) (fun _ => rfl)) (.inl rfl))
    k ⟨⟩
  else do
    k ⟨⟩

/-- Part 5 of the body: a convolved and normalised column tile. -/
def br5 (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg0 4#32
  let v1 : BitVec 32 := Scalar.addi v0 arg2
  if k0_h5 : k0_cond5 i = 1#1 then do
    let ⟨v32, v36, v46, v47, v48, v50, v55, v60, v61, v62, v63⟩ : Σ' (v32 : BitVec 32) (v36 : FVec F S4x1024 .f32) (v46 : FVec F S8x256 .f32) (v47 : FVec F S8x256 .f32) (v48 : FVec F S8x256 .f32) (v50 : F .f32) (v55 : FVec F S256x256 .f32) (v60 : FVec F S256x256 .f32) (v61 : FVec F S264x256 .f32) (v62 : FVec F S264x256 .f32), FVec F S1x256 .f32 ← k0_part9 i arg3 harg3 arg4 harg4 arg5 harg5 arg6 harg6 arg7 harg7 arg8 harg8 arg9 harg9 arg10 harg10 arg11 harg11 arg12 harg12 arg13 harg13 arg1 v1 k0_h5
    let ⟨v83, v111⟩ : Σ' (v83 : FVec F S8x256 .f32), Vec F S256x2048 .bf16 ← k0_part10 i arg3 harg3 arg4 harg4 arg5 harg5 arg6 harg6 arg7 harg7 arg8 harg8 arg9 harg9 arg10 harg10 arg11 harg11 arg12 harg12 arg13 harg13 k0_h5 v36 v50 v55 v61 v62 v63
    let ⟨v113, v136, v160⟩ : Σ' (v113 : FVec F S256x256 .f32) (v136 : FVec F S8x256 .f32), FVec F S256x256 .bf16 ← k0_part11 i arg3 harg3 arg4 harg4 arg5 harg5 arg6 harg6 arg7 harg7 arg8 harg8 arg9 harg9 arg10 harg10 arg11 harg11 arg12 harg12 arg13 harg13 v36 v46 v50 v60 v111
    let ⟨v166, v189, v200, v201, v206⟩ : Σ' (v166 : FVec F S256x256 .f32) (v189 : FVec F S8x256 .f32) (v200 : FVec F S256x128 .f32) (v201 : FVec F S256x128 .f32), FVec F S256x1 .f32 ← k0_part12 i arg3 harg3 arg4 harg4 arg5 harg5 arg6 harg6 arg7 harg7 arg8 harg8 arg9 harg9 arg10 harg10 arg11 harg11 arg12 harg12 arg13 harg13 k0_h5 v36 v47 v50 v113 v160
    let ⟨v219, v241, v242, v243, v252⟩ : Σ' (v219 : FVec F S256x256 .f32) (v241 : FVec F S256x256 .f32) (v242 : FVec F S8x256 .f32) (v243 : FVec F S256x128 .f32), FVec F S256x128 .f32 ← k0_part13 i arg3 harg3 arg4 harg4 arg5 harg5 arg6 harg6 arg7 harg7 arg8 harg8 arg9 harg9 arg10 harg10 arg11 harg11 arg12 harg12 arg13 harg13 k0_h5 v36 v48 v50 v166 v200 v201 v206
    let ⟨v272, v294, v295, v296, v297⟩ : Σ' (v272 : FVec F S256x256 .f32) (v294 : FVec F S256x256 .f32) (v295 : FVec F S8x256 .f32) (v296 : FVec F S256x128 .f32), FVec F S256x128 .f32 ← k0_part14 i arg3 harg3 arg4 harg4 arg5 harg5 arg6 harg6 arg7 harg7 arg8 harg8 arg9 harg9 arg10 harg10 arg11 harg11 arg12 harg12 arg13 harg13 k0_h5 v36 v50 v83 v219 v241 v243 v252
    let ⟨v325, v341, v342⟩ : Σ' (v325 : FVec F S256x256 .f32) (v341 : FVec F S264x256 .f32), FVec F S264x256 .f32 ← k0_part15 i arg3 harg3 arg4 harg4 arg5 harg5 arg6 harg6 arg7 harg7 arg8 harg8 arg9 harg9 arg10 harg10 arg11 harg11 arg12 harg12 arg13 harg13 k0_h5 v36 v50 v136 v272 v294 v296 v297
    let ⟨v348, v378, v379, v380, v387⟩ : Σ' (v348 : FVec F S8x256 .f32) (v378 : FVec F S256x256 .f32) (v379 : FVec F S264x256 .f32) (v380 : FVec F S264x256 .f32), FVec F S264x256 .f32 ← k0_part16 i arg3 harg3 arg4 harg4 arg5 harg5 arg6 harg6 arg7 harg7 arg8 harg8 arg9 harg9 arg10 harg10 arg11 harg11 arg12 harg12 arg13 harg13 k0_h5 v36 v50 v189 v272 v325 v341 v342
    let ⟨v401, v431, v432⟩ : Σ' (v401 : FVec F S8x256 .f32) (v431 : FVec F S256x256 .f32), FVec F S264x256 .f32 ← k0_part17 i arg3 harg3 arg4 harg4 arg5 harg5 arg6 harg6 arg7 harg7 arg8 harg8 arg9 harg9 arg10 harg10 arg11 harg11 arg12 harg12 arg13 harg13 k0_h5 v36 v50 v242 v325 v378 v379 v380 v387
    let v454 : FVec F S8x256 .f32 ← k0_part18 i arg3 harg3 arg4 harg4 arg5 harg5 arg6 harg6 arg7 harg7 arg8 harg8 arg9 harg9 arg10 harg10 arg11 harg11 arg12 harg12 arg13 harg13 k0_h5 v36 v50 v378 v432
    let ⟨v484, v507, v530⟩ : Σ' (v484 : FVec F S256x256 .f32) (v507 : FVec F S8x256 .f32), FVec F S256x256 .f32 ← k0_part19 i arg3 harg3 arg4 harg4 arg5 harg5 arg6 harg6 arg7 harg7 arg8 harg8 arg9 harg9 arg10 harg10 arg11 harg11 arg12 harg12 arg13 harg13 k0_h5 v36 v50 v295 v431
    let ⟨v537, v560, v571, v572, v575⟩ : Σ' (v537 : FVec F S256x256 .f32) (v560 : FVec F S8x256 .f32) (v571 : FVec F S256x128 .f32) (v572 : FVec F S256x128 .f32), FVec F S256x1 .f32 ← k0_part20 i arg3 harg3 arg4 harg4 arg5 harg5 arg6 harg6 arg7 harg7 arg8 harg8 arg9 harg9 arg10 harg10 arg11 harg11 arg12 harg12 arg13 harg13 k0_h5 v36 v50 v348 v484 v530
    let ⟨v590, v612, v613, v614, v620⟩ : Σ' (v590 : FVec F S256x256 .f32) (v612 : FVec F S256x256 .f32) (v613 : FVec F S8x256 .f32) (v614 : FVec F S256x128 .f32), FVec F S256x1 .f32 ← k0_part21 i arg3 harg3 arg4 harg4 arg5 harg5 arg6 harg6 arg7 harg7 arg8 harg8 arg9 harg9 arg10 harg10 arg11 harg11 arg12 harg12 arg13 harg13 k0_h5 v36 v50 v401 v537 v571 v572 v575
    let ⟨v643, v665, v666⟩ : Σ' (v643 : FVec F S256x256 .f32) (v665 : FVec F S256x256 .f32), FVec F S8x256 .f32 ← k0_part22 i arg3 harg3 arg4 harg4 arg5 harg5 arg6 harg6 arg7 harg7 arg8 harg8 arg9 harg9 arg10 harg10 arg11 harg11 arg12 harg12 arg13 harg13 k0_h5 v36 v50 v454 v590 v612 v614 v620
    let ⟨v696, v705, v708, v711⟩ : Σ' (v696 : FVec F S256x256 .f32) (v705 : FVec F S264x256 .f32) (v708 : FVec F S264x256 .f32), FVec F S264x256 .f32 ← k0_part23 i arg3 harg3 arg4 harg4 arg5 harg5 arg6 harg6 arg7 harg7 arg8 harg8 arg9 harg9 arg10 harg10 arg11 harg11 arg12 harg12 arg13 harg13 k0_h5 v36 v50 v507 v643 v665
    let ⟨v719, v749, v750, v751, v754, v755⟩ : Σ' (v719 : FVec F S8x256 .f32) (v749 : FVec F S256x256 .f32) (v750 : FVec F S264x256 .f32) (v751 : FVec F S264x256 .f32) (v754 : FVec F S264x256 .f32), FVec F S1x256 .f32 ← k0_part24 i arg3 harg3 arg4 harg4 arg5 harg5 arg6 harg6 arg7 harg7 arg8 harg8 arg9 harg9 arg10 harg10 arg11 harg11 arg12 harg12 arg13 harg13 k0_h5 v36 v50 v560 v643 v696 v705 v708 v711
    let ⟨v772, v800, v801⟩ : Σ' (v772 : FVec F S8x256 .f32) (v800 : Vec F S256x2048 .bf16), Vec F S256x2048 .bf16 ← k0_part25 i arg3 harg3 arg4 harg4 arg5 harg5 arg6 harg6 arg7 harg7 arg8 harg8 arg9 harg9 arg10 harg10 arg11 harg11 arg12 harg12 arg13 harg13 k0_h5 v36 v50 v696 v750 v751 v754 v755
    let ⟨v802, v825, v851⟩ : Σ' (v802 : FVec F S256x256 .f32) (v825 : FVec F S8x256 .f32), FVec F S264x256 .f32 ← k0_part26 i arg3 harg3 arg4 harg4 arg5 harg5 arg6 harg6 arg7 harg7 arg8 harg8 arg9 harg9 arg10 harg10 arg11 harg11 arg12 harg12 arg13 harg13 v36 v50 v613 v666 v749 v800 v801
    let v899 : FVec F S8x1024 .f32 ← k0_part27 i arg3 harg3 arg4 harg4 arg5 harg5 arg6 harg6 arg7 harg7 arg8 harg8 arg9 harg9 arg10 harg10 arg11 harg11 arg12 harg12 arg13 harg13 v32 v36 v50 v719 v772 v802 v825 v851
    let v901 : Vec F S1x8x1024 .f32 ← Prog.lift (.load arg13 (Rect.unit (s := S3x8x1024) (k0_off3 i) S1x8x1024.size (k0_off3_inb i k0_h5)).toLoadRect (View.loadsAt_vmem h_S1x8x1024))
    Prog.lift (.store arg13 (Rect.unit (s := S3x8x1024) (k0_off3 i) S1x8x1024.size (k0_off3_inb i k0_h5)) (k0_pay222 v899) Finset.univ (View.stores_vmem_bits_univ h_S1x8x1024 rfl) (.inl rfl))
    k ⟨⟩
  else do
    k ⟨⟩

/-- Part 6 of the body: a convolved column tile. -/
def br6 (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit) :
    Prog (TpuEff nD τ sig (Elt F) Λ₀ .tc) PUnit := do
  let arg0 : BitVec 32 := BitVec.ofNat 32 (i 0).val
  let arg1 : BitVec 32 := BitVec.ofNat 32 (i 1).val
  let arg2 : BitVec 32 := BitVec.ofNat 32 (i 2).val
  let v0 : BitVec 32 := Scalar.muli arg0 4#32
  let v1 : BitVec 32 := Scalar.addi v0 arg2
  if k0_h6 : k0_cond6 i = 1#1 then do
    let ⟨v32, v36, v46, v47, v48, v53, v58, v59, v60, v63, v66⟩ : Σ' (v32 : BitVec 32) (v36 : FVec F S4x1024 .f32) (v46 : FVec F S8x256 .f32) (v47 : FVec F S8x256 .f32) (v48 : FVec F S8x256 .f32) (v53 : FVec F S256x256 .f32) (v58 : FVec F S256x256 .f32) (v59 : FVec F S264x256 .f32) (v60 : FVec F S264x256 .f32) (v63 : FVec F S264x256 .f32), FVec F S264x256 .f32 ← k0_part28 i arg3 harg3 arg4 harg4 arg5 harg5 arg6 harg6 arg7 harg7 arg8 harg8 arg9 harg9 arg10 harg10 arg11 harg11 arg12 harg12 arg13 harg13 arg1 v1 k0_h6
    let ⟨v81, v88, v111, v112⟩ : Σ' (v81 : FVec F S8x256 .f32) (v88 : FVec F S256x256 .f32) (v111 : FVec F S8x256 .f32), FVec F S256x256 .bf16 ← k0_part29 i arg3 harg3 arg4 harg4 arg5 harg5 arg6 harg6 arg7 harg7 arg8 harg8 arg9 harg9 arg10 harg10 arg11 harg11 arg12 harg12 arg13 harg13 k0_h6 v36 v46 v53 v58 v59 v60 v63 v66
    let ⟨v118, v141, v148, v149, v150⟩ : Σ' (v118 : FVec F S256x256 .f32) (v141 : FVec F S8x256 .f32) (v148 : FVec F S256x256 .f32) (v149 : FVec F S264x256 .f32), FVec F S264x256 .f32 ← k0_part30 i arg3 harg3 arg4 harg4 arg5 harg5 arg6 harg6 arg7 harg7 arg8 harg8 arg9 harg9 arg10 harg10 arg11 harg11 arg12 harg12 arg13 harg13 k0_h6 v36 v47 v48 v88 v112
    let ⟨v171, v178, v197⟩ : Σ' (v171 : FVec F S8x256 .f32) (v178 : FVec F S256x256 .f32), FVec F S256x256 .f32 ← k0_part31 i arg3 harg3 arg4 harg4 arg5 harg5 arg6 harg6 arg7 harg7 arg8 harg8 arg9 harg9 arg10 harg10 arg11 harg11 arg12 harg12 arg13 harg13 k0_h6 v36 v81 v118 v148 v149 v150
    let ⟨v201, v208, v231, v236⟩ : Σ' (v201 : FVec F S8x256 .f32) (v208 : FVec F S256x256 .f32) (v231 : FVec F S8x256 .f32), Vec F S256x2048 .bf16 ← k0_part32 i arg3 harg3 arg4 harg4 arg5 harg5 arg6 harg6 arg7 harg7 arg8 harg8 arg9 harg9 arg10 harg10 arg11 harg11 arg12 harg12 arg13 harg13 k0_h6 v36 v111 v148 v178 v197
    let ⟨v238, v261, v268, v270, v277, v280, v282⟩ : Σ' (v238 : FVec F S256x256 .f32) (v261 : FVec F S8x256 .f32) (v268 : FVec F S256x256 .f32) (v270 : FVec F S264x256 .f32) (v277 : FVec F S264x256 .f32) (v280 : FVec F S264x256 .f32), FVec F S264x256 .f32 ← k0_part33 i arg3 harg3 arg4 harg4 arg5 harg5 arg6 harg6 arg7 harg7 arg8 harg8 arg9 harg9 arg10 harg10 arg11 harg11 arg12 harg12 arg13 harg13 k0_h6 v36 v141 v171 v208 v236
    let ⟨v291, v298, v321⟩ : Σ' (v291 : FVec F S8x256 .f32) (v298 : FVec F S256x256 .f32), FVec F S8x256 .f32 ← k0_part34 i arg3 harg3 arg4 harg4 arg5 harg5 arg6 harg6 arg7 harg7 arg8 harg8 arg9 harg9 arg10 harg10 arg11 harg11 arg12 harg12 arg13 harg13 k0_h6 v36 v201 v238 v268 v270 v277 v280 v282
    let ⟨v328, v351, v358, v359, v360, v363, v366⟩ : Σ' (v328 : FVec F S256x256 .f32) (v351 : FVec F S8x256 .f32) (v358 : FVec F S256x256 .f32) (v359 : FVec F S264x256 .f32) (v360 : FVec F S264x256 .f32) (v363 : FVec F S264x256 .f32), FVec F S264x256 .f32 ← k0_part35 i arg3 harg3 arg4 harg4 arg5 harg5 arg6 harg6 arg7 harg7 arg8 harg8 arg9 harg9 arg10 harg10 arg11 harg11 arg12 harg12 arg13 harg13 k0_h6 v36 v231 v261 v298
    let ⟨v381, v388, v411, v412⟩ : Σ' (v381 : FVec F S8x256 .f32) (v388 : FVec F S256x256 .f32) (v411 : FVec F S8x256 .f32), FVec F S256x256 .bf16 ← k0_part36 i arg3 harg3 arg4 harg4 arg5 harg5 arg6 harg6 arg7 harg7 arg8 harg8 arg9 harg9 arg10 harg10 arg11 harg11 arg12 harg12 arg13 harg13 k0_h6 v36 v291 v328 v358 v359 v360 v363 v366
    let ⟨v418, v441, v448, v449, v450⟩ : Σ' (v418 : FVec F S256x256 .f32) (v441 : FVec F S8x256 .f32) (v448 : FVec F S256x256 .f32) (v449 : FVec F S264x256 .f32), FVec F S264x256 .f32 ← k0_part37 i arg3 harg3 arg4 harg4 arg5 harg5 arg6 harg6 arg7 harg7 arg8 harg8 arg9 harg9 arg10 harg10 arg11 harg11 arg12 harg12 arg13 harg13 k0_h6 v36 v321 v351 v388 v412
    let ⟨v471, v478, v497⟩ : Σ' (v471 : FVec F S8x256 .f32) (v478 : FVec F S256x256 .f32), FVec F S256x256 .f32 ← k0_part38 i arg3 harg3 arg4 harg4 arg5 harg5 arg6 harg6 arg7 harg7 arg8 harg8 arg9 harg9 arg10 harg10 arg11 harg11 arg12 harg12 arg13 harg13 k0_h6 v36 v381 v418 v448 v449 v450
    let v503 : Vec F S256x256 .bf16 ← Prog.lift (.load arg8 (Rect.unit (s := S1024x1024) ![768, 512] S256x256.size inb_S1024x1024_S256x256_768_512).toLoadRect (View.loadsAt_vmem h_S256x256))
    Prog.lift (.store arg8 (Rect.unit (s := S1024x1024) ![768, 512] S256x256.size inb_S1024x1024_S256x256_768_512) (k0_pay223 v497) Finset.univ (View.stores_vmem h_S256x256 (harg8.storeExact_slice rfl _ packedbf16_S1024x1024_S256x256_768_512) (fun _ => rfl)) (.inl rfl))
    let v528 : Vec F S256x256 .bf16 ← Prog.lift (.load arg8 (Rect.unit (s := S1024x1024) ![768, 768] S256x256.size inb_S1024x1024_S256x256_768_768).toLoadRect (View.loadsAt_vmem h_S256x256))
    Prog.lift (.store arg8 (Rect.unit (s := S1024x1024) ![768, 768] S256x256.size inb_S1024x1024_S256x256_768_768) (k0_pay224 v36 v411 v478) Finset.univ (View.stores_vmem h_S256x256 (harg8.storeExact_slice rfl _ packedbf16_S1024x1024_S256x256_768_768) (fun _ => rfl)) (.inl rfl))
    let v531 : Vec F S1x8x1024 .f32 ← Prog.lift (.load arg13 (Rect.unit (s := S3x8x1024) (k0_off5 i) S1x8x1024.size (k0_off5_inb i k0_h6)).toLoadRect (View.loadsAt_vmem h_S1x8x1024))
    Prog.lift (.store arg13 (Rect.unit (s := S3x8x1024) (k0_off5 i) S1x8x1024.size (k0_off5_inb i k0_h6)) (k0_pay225 v441 v448 v471 v478) Finset.univ (View.stores_vmem_bits_univ h_S1x8x1024 rfl) (.inl rfl))
    k ⟨⟩
  else do
    k ⟨⟩

/-- Part 7 of the body: a gate column tile. -/
def br7 (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit) :
    Prog (TpuEff nD τ sig (Elt F) Λ₀ .tc) PUnit := do
  if k0_h7 : k0_cond7 i = 1#1 then do
    let ⟨v55, v60, v61⟩ : Σ' (v55 : FVec F S256x256 .f32) (v60 : FVec F S256x256 .f32), FVec F S256x256 .f32 ← k0_part39 i arg3 harg3 arg4 harg4 arg5 harg5 arg6 harg6 arg7 harg7 arg8 harg8 arg9 harg9 arg10 harg10 arg11 harg11 arg12 harg12 arg13 harg13 k0_h7
    let v83 : FVec F S256x256 .f32 ← k0_part40 i arg3 harg3 arg4 harg4 arg5 harg5 arg6 harg6 arg7 harg7 arg8 harg8 arg9 harg9 arg10 harg10 arg11 harg11 arg12 harg12 arg13 harg13 k0_h7 v55 v60 v61
    let v111 : FVec F S256x256 .f32 ← k0_part41 i arg3 harg3 arg4 harg4 arg5 harg5 arg6 harg6 arg7 harg7 arg8 harg8 arg9 harg9 arg10 harg10 arg11 harg11 arg12 harg12 arg13 harg13 k0_h7 v83
    let ⟨v139, v153⟩ : Σ' (v139 : FVec F S256x256 .f32), FVec F S256x256 .f32 ← k0_part42 i arg3 harg3 arg4 harg4 arg5 harg5 arg6 harg6 arg7 harg7 arg8 harg8 arg9 harg9 arg10 harg10 arg11 harg11 arg12 harg12 arg13 harg13 k0_h7 v111
    let ⟨v181, v184, v185⟩ : Σ' (v181 : FVec F S256x256 .f32) (v184 : FVec F S256x256 .f32), FVec F S256x256 .f32 ← k0_part43 i arg3 harg3 arg4 harg4 arg5 harg5 arg6 harg6 arg7 harg7 arg8 harg8 arg9 harg9 arg10 harg10 arg11 harg11 arg12 harg12 arg13 harg13 k0_h7 v139 v153
    let ⟨v209, v217⟩ : Σ' (v209 : FVec F S256x256 .f32), FVec F S256x256 .bf16 ← k0_part44 i arg3 harg3 arg4 harg4 arg5 harg5 arg6 harg6 arg7 harg7 arg8 harg8 arg9 harg9 arg10 harg10 arg11 harg11 arg12 harg12 arg13 harg13 k0_h7 v181 v184 v185
    let v248 : FVec F S256x256 .f32 ← k0_part45 i arg3 harg3 arg4 harg4 arg5 harg5 arg6 harg6 arg7 harg7 arg8 harg8 arg9 harg9 arg10 harg10 arg11 harg11 arg12 harg12 arg13 harg13 k0_h7 v209 v217
    let v255 : Vec F S256x256 .bf16 ← Prog.lift (.load arg8 (Rect.unit (s := S1024x1024) ![768, 768] S256x256.size inb_S1024x1024_S256x256_768_768).toLoadRect (View.loadsAt_vmem h_S256x256))
    Prog.lift (.store arg8 (Rect.unit (s := S1024x1024) ![768, 768] S256x256.size inb_S1024x1024_S256x256_768_768) (k0_pay1 v248) Finset.univ (View.stores_vmem h_S256x256 (harg8.storeExact_slice rfl _ packedbf16_S1024x1024_S256x256_768_768) (fun _ => rfl)) (.inl rfl))
    k ⟨⟩
  else do
    k ⟨⟩

set_option maxRecDepth 65536 in
/-- The body is its seven parts in order. -/
theorem body_eq (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) :
    cc0_inproj (F := F) i arg3 harg3 arg4 harg4 arg5 harg5 arg6 harg6 arg7 harg7 arg8 harg8 arg9 harg9 arg10 harg10 arg11 harg11 arg12 harg12 arg13 harg13 = (do
      br1 i arg3 harg3 arg4 harg4 arg5 harg5 arg6 harg6 arg7 harg7 arg8 harg8 arg9 harg9 arg10 harg10 arg11 harg11 arg12 harg12 arg13 harg13 fun _ => br2 i arg3 harg3 arg4 harg4 arg5 harg5 arg6 harg6 arg7 harg7 arg8 harg8 arg9 harg9 arg10 harg10 arg11 harg11 arg12 harg12 arg13 harg13 fun _ => br3 i arg3 harg3 arg4 harg4 arg5 harg5 arg6 harg6 arg7 harg7 arg8 harg8 arg9 harg9 arg10 harg10 arg11 harg11 arg12 harg12 arg13 harg13 fun _ => br4 i arg3 harg3 arg4 harg4 arg5 harg5 arg6 harg6 arg7 harg7 arg8 harg8 arg9 harg9 arg10 harg10 arg11 harg11 arg12 harg12 arg13 harg13 fun _ => br5 i arg3 harg3 arg4 harg4 arg5 harg5 arg6 harg6 arg7 harg7 arg8 harg8 arg9 harg9 arg10 harg10 arg11 harg11 arg12 harg12 arg13 harg13 fun _ => br6 i arg3 harg3 arg4 harg4 arg5 harg5 arg6 harg6 arg7 harg7 arg8 harg8 arg9 harg9 arg10 harg10 arg11 harg11 arg12 harg12 arg13 harg13 fun _ => pure ⟨⟩
      br7 i arg3 harg3 arg4 harg4 arg5 harg5 arg6 harg6 arg7 harg7 arg8 harg8 arg9 harg9 arg10 harg10 arg11 harg11 arg12 harg12 arg13 harg13 fun _ => pure ⟨⟩) := by
  rw [cc0_inproj_eq_skeleton]; unfold cc0_inproj_skel; rw [k0_part46_eq_skeleton]; unfold k0_part46_skel
  rfl

end Cert.KernelIdeal.Inproj

end
-- ==== Proof.Inproj.Tile.lean ====
/- The tiles that the kernel's body computes, as functions of the values that it loads: the sixteen
   256 x 256 chunks of an output tile and the function each holds. Over any element type. -/
module

public import proofs.«01_k».proof.Proof.Inproj.Parts
public import Idealize.ShloMosaic.Lib.ValueLayout
public import Idealize.ShloMosaic.Lib.VecWindow
public import Idealize.ShloMosaic.Lib.WholeRead

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Index by index: what a memory of four row tiles holds in slot `s`. -/
def slot (h : Vec F S4x1024x2048 .bf16) (s : Fin 4) : Vec F S1024x2048 .bf16 := fun y => h (ix3 s (y 0) (y 1))

/-- The memory of four row tiles with slot `s` replaced by `w`. -/
def setSlot (h : Vec F S4x1024x2048 .bf16) (s : Fin 4) (w : Vec F S1024x2048 .bf16) : Vec F S4x1024x2048 .bf16 :=
  fun y => if (y 0).val = s.val then w (ix2 (y 1) (y 2)) else h y

/-- The history kept for part `p` of the convolution. -/
def tailAt (tl : Vec F S3x8x1024 .f32) (p : Fin 3) : Vec F S1x8x1024 .f32 := fun y => tl (ix3 p (y 1) (y 2))

/-- The kept histories with part `p` replaced by `w`. -/
def setTail (tl : Vec F S3x8x1024 .f32) (p : Fin 3) (w : Vec F S1x8x1024 .f32) : Vec F S3x8x1024 .f32 :=
  fun y => if (y 0).val = p.val then w (ix3 0 (y 1) (y 2)) else tl y

/-- The rows from `256 r` to `256 r + 255` of a row tile. -/
def rows (H : Vec F S1024x2048 .bf16) (r : Fin 4) : Vec F S256x2048 .bf16 :=
  fun x => H (ix2 ⟨256 * r.val + (x 0).val, by have h : (x 0).val < 256 := (x 0).isLt; omega⟩ (x 1))

/-- An output tile put together from its sixteen chunks. -/
def glue (T : Fin 4 → Fin 4 → FVec F S256x256 .bf16) : Vec F S1024x1024 .bf16 :=
  fun y => T ⟨(y 0).val / 256, by have h : (y 0).val < 1024 := (y 0).isLt; omega⟩
    ⟨(y 1).val / 256, by have h : (y 1).val < 1024 := (y 1).isLt; omega⟩
    (ix2 ⟨(y 0).val % 256, Nat.mod_lt _ (by decide)⟩ ⟨(y 1).val % 256, Nat.mod_lt _ (by decide)⟩)

/-- The product of a chunk's rows with the rows of the weights. -/
def accOf (a b : Vec F S256x2048 .bf16) : FVec F S256x256 .f32 :=
  matmul dot_S256x2048_S256x2048_S256x256_1_1_0_0_n_n none a b (constant S256x256 .f32 0x00000000#32)

/-- The kernel's sigmoid, from the hyperbolic tangent. -/
def sigm (v : FVec F S256x256 .f32) : FVec F S256x256 .f32 :=
  mulf (broadcast S256x256 (Scalar.ofBits .f32 0x3F000000#32))
    (addf (tanh (mulf (broadcast S256x256 (Scalar.ofBits .f32 0x3F000000#32)) v)) (broadcast S256x256 (Scalar.ofBits .f32 0x3F800000#32)))

/-- A chunk of a plain tile, or of a SiLU tile where `b` is set. -/
def plainChunk (b : BitVec 1) (v : FVec F S256x256 .f32) : FVec F S256x256 .bf16 :=
  truncf .bf16 (mulf v (Scalar.select b (sigm v) (broadcast S256x256 (Scalar.ofBits .f32 0x3F800000#32)))) bitsLt_bf16_f32

/-- A chunk of a gate's tile. -/
def gateChunk (v : FVec F S256x256 .f32) : FVec F S256x256 .bf16 := truncf .bf16 (sigm v) bitsLt_bf16_f32

/-- Half of the convolution's weights. -/
def halfW (cw : Vec F S4x1024 .f32) : FVec F S4x1024 .f32 :=
  mulf (broadcast S4x1024 (Scalar.ofBits .f32 0x3F000000#32)) (shapeCast S4x1024 cw shapeCasts_S4x1024_S4x1024)

theorem slices_coef : ∀ (k c : Fin 4), S4x1024.Slices ![k.val, 256 * c.val] S1x256 := by decide
theorem slices_hist : ∀ c : Fin 4, S8x1024.Slices ![0, 256 * c.val] S8x256 := by decide

/-- The weights of tap `k` in the columns of chunk `c`. -/
def coef (cwh : FVec F S4x1024 .f32) (k c : Fin 4) : FVec F S1x256 .f32 :=
  extractStridedSlice S1x256 ![k.val, 256 * c.val] cwh (slices_coef k c)

/-- The eight rows before a row tile: zero where a sequence starts, and the kept ones elsewhere. -/
def startHist (v1 : BitVec 32) (t : Vec F S1x8x1024 .f32) : FVec F S8x1024 .f32 :=
  Scalar.select (Scalar.cmpi .eq (Scalar.remsi (Scalar.muli v1 1024#32) 2048#32) 0#32)
    (broadcast S8x1024 (Scalar.ofBits .f32 0x00000000#32)) (shapeCast S8x1024 t shapeCasts_S1x8x1024_S8x1024)

/-- The columns of chunk `c` of a history. -/
def histCols (h : FVec F S8x1024 .f32) (c : Fin 4) : FVec F S8x256 .f32 :=
  extractStridedSlice S8x256 ![0, 256 * c.val] h (slices_hist c)

/-- The last eight rows of a chunk. -/
def lastRows (v : FVec F S256x256 .f32) : FVec F S8x256 .f32 :=
  extractStridedSlice S8x256 ![248, 0] v slices_S256x256_o248_0_S8x256

/-- A chunk with the eight rows before it. -/
def extend (h : FVec F S8x256 .f32) (v : FVec F S256x256 .f32) : FVec F S264x256 .f32 :=
  concatenate S264x256 0 [⟨S8x256, h⟩, ⟨S256x256, v⟩] concatenates_S8x256_S256x256_S264x256_d0

/-- A row of weights times every row of an extended chunk. -/
def scaleRows (k : FVec F S1x256 .f32) (e : FVec F S264x256 .f32) : FVec F S264x256 .f32 :=
  mulf (broadcastTo S264x256 k broadcasts_S1x256_S264x256) e

/-- The four-tap convolution of an extended chunk, with taps `k0` (the oldest row) to `k3`. -/
def convSum (k0 k1 k2 k3 : FVec F S1x256 .f32) (e : FVec F S264x256 .f32) : FVec F S256x256 .f32 :=
  extractStridedSlice S256x256 ![8, 0]
    (addf (addf (scaleRows k3 e) (scaleRows k2 (dynamicRotate 0 1#32 none e rotates_S264x256_d0)))
      (dynamicRotate 0 2#32 none
        (addf (scaleRows k1 e) (scaleRows k0 (dynamicRotate 0 1#32 none e rotates_S264x256_d0))) rotates_S264x256_d0))
    slices_S264x256_o8_0_S256x256

/-- `v + v tanh v`. -/
def siluHalf (v : FVec F S256x256 .f32) : FVec F S256x256 .f32 := addf v (mulf v (tanh v))

/-- One head's rows divided by their norms and scaled. -/
def headNorm (s : F .f32) (y : FVec F S256x128 .f32) : FVec F S256x128 .f32 :=
  mulf y (broadcastTo S256x128
    (mulf (rsqrt (addf (shapeCast S256x1 (multiReduction .add [1] S256 (mulf y y) 0x00000000#32 reduces_S256x128_S256 (.inl rfl) rfl) shapeCasts_S256_S256x1)
      (broadcast S256x1 (Scalar.ofBits .f32 0x358637BD#32)))) (broadcast S256x1 s)) broadcasts_S256x1_S256x128)

/-- The two heads of a chunk normalised. -/
def normChunk (s : F .f32) (y : FVec F S256x256 .f32) : FVec F S256x256 .f32 :=
  concatenate S256x256 1 [⟨S256x128, headNorm s (extractStridedSlice S256x128 ![0, 0] y slices_S256x256_o0_0_S256x128)⟩,
    ⟨S256x128, headNorm s (extractStridedSlice S256x128 ![0, 128] y slices_S256x256_o0_128_S256x128)⟩] concatenates_S256x128_S256x128_S256x256_d1

/-- The eight rows before chunk `r` of a tile, in the columns of chunk `c`. -/
def before (h : FVec F S8x1024 .f32) (A B : Fin 4 → Vec F S256x2048 .bf16) (c : Fin 4) : Fin 4 → FVec F S8x256 .f32
  | 0 => histCols h c
  | 1 => lastRows (accOf (A 0) (B c))
  | 2 => lastRows (accOf (A 1) (B c))
  | 3 => lastRows (accOf (A 2) (B c))

/-- The convolved chunk `r`, `c`. -/
def convChunk (cw : Vec F S4x1024 .f32) (h : FVec F S8x1024 .f32) (A B : Fin 4 → Vec F S256x2048 .bf16) (r c : Fin 4) : FVec F S256x256 .f32 :=
  siluHalf (convSum (coef (halfW cw) 0 c) (coef (halfW cw) 1 c) (coef (halfW cw) 2 c) (coef (halfW cw) 3 c)
    (extend (before h A B c r) (accOf (A r) (B c))))

/-- The history that a tile leaves: the last eight rows of its product. -/
def newTail (A B : Fin 4 → Vec F S256x2048 .bf16) : Vec F S1x8x1024 .f32 :=
  shapeCast S1x8x1024 (concatenate S8x1024 1 [⟨S8x256, lastRows (accOf (A 3) (B 0))⟩, ⟨S8x256, lastRows (accOf (A 3) (B 1))⟩,
    ⟨S8x256, lastRows (accOf (A 3) (B 2))⟩, ⟨S8x256, lastRows (accOf (A 3) (B 3))⟩] concatenates_S8x256_S8x256_S8x256_S8x256_S8x1024_d1)
    shapeCasts_S8x1024_S1x8x1024

/-- A plain or SiLU tile. -/
def plainTile (b : BitVec 1) (A B : Fin 4 → Vec F S256x2048 .bf16) : Vec F S1024x1024 .bf16 :=
  glue fun r c => plainChunk b (accOf (A r) (B c))

/-- A gate's tile. -/
def gateTile (A B : Fin 4 → Vec F S256x2048 .bf16) : Vec F S1024x1024 .bf16 :=
  glue fun r c => gateChunk (accOf (A r) (B c))

/-- A convolved tile. -/
def convTile (cw : Vec F S4x1024 .f32) (h : FVec F S8x1024 .f32) (A B : Fin 4 → Vec F S256x2048 .bf16) : Vec F S1024x1024 .bf16 :=
  glue fun r c => truncf .bf16 (convChunk cw h A B r c) bitsLt_bf16_f32

/-- A convolved and normalised tile. -/
def normTile (s : F .f32) (cw : Vec F S4x1024 .f32) (h : FVec F S8x1024 .f32) (A B : Fin 4 → Vec F S256x2048 .bf16) : Vec F S1024x1024 .bf16 :=
  glue fun r c => truncf .bf16 (normChunk s (convChunk cw h A B r c)) bitsLt_bf16_f32

/-- Whether the column tile is one of the two SiLU tiles. -/
def isSilu (i : grid0.Coords) : BitVec 1 :=
  Scalar.ori (Scalar.cmpi .eq (BitVec.ofNat 32 (i 1).val) 3#32) (Scalar.cmpi .eq (BitVec.ofNat 32 (i 1).val) 7#32)

/-- The row tile's number. -/
def rowTile (i : grid0.Coords) : BitVec 32 :=
  Scalar.addi (Scalar.muli (BitVec.ofNat 32 (i 0).val) 4#32) (BitVec.ofNat 32 (i 2).val)

/-- The factor that a head's rows are scaled by: the queries' factor in the first part, and one elsewhere. -/
def normScale (i : grid0.Coords) : F .f32 :=
  Scalar.select (Scalar.cmpi .eq (Scalar.subi (BitVec.ofNat 32 (i 1).val) 4#32) 0#32)
    (Scalar.ofBits .f32 0x3DB504F3#32) (Scalar.ofBits .f32 0x3F800000#32)

/-- The part of the convolution that a column tile computes. -/
def part (i : grid0.Coords) : Fin 3 := ⟨((i 1).val - 4) % 3, Nat.mod_lt _ (by decide)⟩

theorem inbRows : ∀ r : Fin 4, ∀ a, (![256 * r.val, 0] : Fin 2 → Nat) a + S256x2048.size a ≤ S1024x2048.size a := by decide

theorem glue_apply (T : Fin 4 → Fin 4 → FVec F S256x256 .bf16) (r c : Fin 4) (x : S256x256.Idx) (y : S1024x1024.Idx)
    (h0 : (y 0).val = 256 * r.val + (x 0).val) (h1 : (y 1).val = 256 * c.val + (x 1).val) : glue T y = T r c x := by
  have b0 : (x 0).val < 256 := (x 0).isLt
  have b1 : (x 1).val < 256 := (x 1).isLt
  unfold glue
  refine congr (congr (congrArg T (Fin.ext ?_)) (Fin.ext ?_)) ?_
  · show (y 0).val / 256 = r.val; omega
  · show (y 1).val / 256 = c.val; omega
  funext a
  match a with
  | ⟨0, _⟩ => apply Fin.ext; show (y 0).val % 256 = (x 0).val; omega
  | ⟨1, _⟩ => apply Fin.ext; show (y 1).val % 256 = (x 1).val; omega

theorem glue_emb (T : Fin 4 → Fin 4 → FVec F S256x256 .bf16) (r c : Fin 4)
    (inb : ∀ a, (![256 * r.val, 256 * c.val] : Fin 2 → Nat) a + S256x256.size a ≤ S1024x1024.size a) (x : S256x256.Idx) :
    T r c x = glue T ((Rect.unit (s := S1024x1024) ![256 * r.val, 256 * c.val] S256x256.size inb).emb x) :=
  (glue_apply T r c x _ (by show 256 * r.val + 1 * (x 0).val = _; omega) (by show 256 * c.val + 1 * (x 1).val = _; omega)).symm

theorem mem_chunk (y : S1024x1024.Idx) (r c : Fin 4)
    (inb : ∀ a, (![256 * r.val, 256 * c.val] : Fin 2 → Nat) a + S256x256.size a ≤ S1024x1024.size a)
    (hr : (y 0).val / 256 = r.val) (hc : (y 1).val / 256 = c.val) :
    y ∈ (Rect.unit (s := S1024x1024) ![256 * r.val, 256 * c.val] S256x256.size inb).set := by
  rw [show (Rect.unit (s := S1024x1024) ![256 * r.val, 256 * c.val] S256x256.size inb).set = _ from rfl, LoadRect.mem_set]
  intro a
  match a with
  | ⟨0, _⟩ => exact ⟨(y 0).val % 256, Nat.mod_lt _ (by decide), by show (y 0).val = 256 * r.val + 1 * ((y 0).val % 256); omega⟩
  | ⟨1, _⟩ => exact ⟨(y 1).val % 256, Nat.mod_lt _ (by decide), by show (y 1).val = 256 * c.val + 1 * ((y 1).val % 256); omega⟩

/-- A tile that the sixteen stores of its chunks leave reads as the chunks put together. -/
theorem read_glue {κ : Kind} {sp : Space} (v : View sig κ sp S1024x1024 .bf16) (f : v.ty.Contents (Elt F)) (T : Fin 4 → Fin 4 → FVec F S256x256 .bf16) :
    v.read (Elt F) (v.writes (Elt F) f [⟨Rect.unit ![768, 768] S256x256.size inb_S1024x1024_S256x256_768_768, T 3 3⟩,
        ⟨Rect.unit ![768, 512] S256x256.size inb_S1024x1024_S256x256_768_512, T 3 2⟩,
        ⟨Rect.unit ![768, 256] S256x256.size inb_S1024x1024_S256x256_768_256, T 3 1⟩,
        ⟨Rect.unit ![768, 0] S256x256.size inb_S1024x1024_S256x256_768_0, T 3 0⟩,
        ⟨Rect.unit ![512, 768] S256x256.size inb_S1024x1024_S256x256_512_768, T 2 3⟩,
        ⟨Rect.unit ![512, 512] S256x256.size inb_S1024x1024_S256x256_512_512, T 2 2⟩,
        ⟨Rect.unit ![512, 256] S256x256.size inb_S1024x1024_S256x256_512_256, T 2 1⟩,
        ⟨Rect.unit ![512, 0] S256x256.size inb_S1024x1024_S256x256_512_0, T 2 0⟩,
        ⟨Rect.unit ![256, 768] S256x256.size inb_S1024x1024_S256x256_256_768, T 1 3⟩,
        ⟨Rect.unit ![256, 512] S256x256.size inb_S1024x1024_S256x256_256_512, T 1 2⟩,
        ⟨Rect.unit ![256, 256] S256x256.size inb_S1024x1024_S256x256_256_256, T 1 1⟩,
        ⟨Rect.unit ![256, 0] S256x256.size inb_S1024x1024_S256x256_256_0, T 1 0⟩,
        ⟨Rect.unit ![0, 768] S256x256.size inb_S1024x1024_S256x256_0_768, T 0 3⟩,
        ⟨Rect.unit ![0, 512] S256x256.size inb_S1024x1024_S256x256_0_512, T 0 2⟩,
        ⟨Rect.unit ![0, 256] S256x256.size inb_S1024x1024_S256x256_0_256, T 0 1⟩,
        ⟨Rect.unit ![0, 0] S256x256.size inb_S1024x1024_S256x256_0_0, T 0 0⟩]) = glue T := by
  funext y
  refine View.read_writes_apply_of_pieces v f (glue T) _ ?_ y ?_
  · simp only [List.mem_cons, List.not_mem_nil, or_false]
    rintro p (rfl | rfl | rfl | rfl | rfl | rfl | rfl | rfl | rfl | rfl | rfl | rfl | rfl | rfl | rfl | rfl) x
    · exact glue_emb T 3 3 inb_S1024x1024_S256x256_768_768 x
    · exact glue_emb T 3 2 inb_S1024x1024_S256x256_768_512 x
    · exact glue_emb T 3 1 inb_S1024x1024_S256x256_768_256 x
    · exact glue_emb T 3 0 inb_S1024x1024_S256x256_768_0 x
    · exact glue_emb T 2 3 inb_S1024x1024_S256x256_512_768 x
    · exact glue_emb T 2 2 inb_S1024x1024_S256x256_512_512 x
    · exact glue_emb T 2 1 inb_S1024x1024_S256x256_512_256 x
    · exact glue_emb T 2 0 inb_S1024x1024_S256x256_512_0 x
    · exact glue_emb T 1 3 inb_S1024x1024_S256x256_256_768 x
    · exact glue_emb T 1 2 inb_S1024x1024_S256x256_256_512 x
    · exact glue_emb T 1 1 inb_S1024x1024_S256x256_256_256 x
    · exact glue_emb T 1 0 inb_S1024x1024_S256x256_256_0 x
    · exact glue_emb T 0 3 inb_S1024x1024_S256x256_0_768 x
    · exact glue_emb T 0 2 inb_S1024x1024_S256x256_0_512 x
    · exact glue_emb T 0 1 inb_S1024x1024_S256x256_0_256 x
    · exact glue_emb T 0 0 inb_S1024x1024_S256x256_0_0 x
  · have h0 : (y 0).val < 1024 := (y 0).isLt
    have h1 : (y 1).val < 1024 := (y 1).isLt
    have hr : (y 0).val / 256 = 0 ∨ (y 0).val / 256 = 1 ∨ (y 0).val / 256 = 2 ∨ (y 0).val / 256 = 3 := by omega
    have hc : (y 1).val / 256 = 0 ∨ (y 1).val / 256 = 1 ∨ (y 1).val / 256 = 2 ∨ (y 1).val / 256 = 3 := by omega
    rcases hr with hr | hr | hr | hr <;> rcases hc with hc | hc | hc | hc
    · exact ⟨_, List.mem_of_getElem? (i := 15) rfl, mem_chunk y 0 0 inb_S1024x1024_S256x256_0_0 hr hc⟩
    · exact ⟨_, List.mem_of_getElem? (i := 14) rfl, mem_chunk y 0 1 inb_S1024x1024_S256x256_0_256 hr hc⟩
    · exact ⟨_, List.mem_of_getElem? (i := 13) rfl, mem_chunk y 0 2 inb_S1024x1024_S256x256_0_512 hr hc⟩
    · exact ⟨_, List.mem_of_getElem? (i := 12) rfl, mem_chunk y 0 3 inb_S1024x1024_S256x256_0_768 hr hc⟩
    · exact ⟨_, List.mem_of_getElem? (i := 11) rfl, mem_chunk y 1 0 inb_S1024x1024_S256x256_256_0 hr hc⟩
    · exact ⟨_, List.mem_of_getElem? (i := 10) rfl, mem_chunk y 1 1 inb_S1024x1024_S256x256_256_256 hr hc⟩
    · exact ⟨_, List.mem_of_getElem? (i := 9) rfl, mem_chunk y 1 2 inb_S1024x1024_S256x256_256_512 hr hc⟩
    · exact ⟨_, List.mem_of_getElem? (i := 8) rfl, mem_chunk y 1 3 inb_S1024x1024_S256x256_256_768 hr hc⟩
    · exact ⟨_, List.mem_of_getElem? (i := 7) rfl, mem_chunk y 2 0 inb_S1024x1024_S256x256_512_0 hr hc⟩
    · exact ⟨_, List.mem_of_getElem? (i := 6) rfl, mem_chunk y 2 1 inb_S1024x1024_S256x256_512_256 hr hc⟩
    · exact ⟨_, List.mem_of_getElem? (i := 5) rfl, mem_chunk y 2 2 inb_S1024x1024_S256x256_512_512 hr hc⟩
    · exact ⟨_, List.mem_of_getElem? (i := 4) rfl, mem_chunk y 2 3 inb_S1024x1024_S256x256_512_768 hr hc⟩
    · exact ⟨_, List.mem_of_getElem? (i := 3) rfl, mem_chunk y 3 0 inb_S1024x1024_S256x256_768_0 hr hc⟩
    · exact ⟨_, List.mem_of_getElem? (i := 2) rfl, mem_chunk y 3 1 inb_S1024x1024_S256x256_768_256 hr hc⟩
    · exact ⟨_, List.mem_of_getElem? (i := 1) rfl, mem_chunk y 3 2 inb_S1024x1024_S256x256_768_512 hr hc⟩
    · exact ⟨_, List.mem_of_getElem? (i := 0) rfl, mem_chunk y 3 3 inb_S1024x1024_S256x256_768_768 hr hc⟩

theorem k0_off1_eq : ∀ i : grid0.Coords, k0_off1 i = ![(i 2).val, 0, 0] := by decide +kernel
theorem k0_off2_eq : ∀ i : grid0.Coords, k0_off2 i = ![(i 2).val, 0, 0] := by decide +kernel
theorem k0_off3_eq : ∀ i : grid0.Coords, k0_cond5 i = 1#1 → k0_off3 i = ![(part i).val, 0, 0] := by decide +kernel
theorem k0_off4_eq : ∀ i : grid0.Coords, k0_off4 i = ![(i 2).val, 0, 0] := by decide +kernel
theorem k0_off5_eq : ∀ i : grid0.Coords, k0_cond6 i = 1#1 → k0_off5 i = ![(part i).val, 0, 0] := by decide +kernel
theorem k0_off6_eq : ∀ i : grid0.Coords, k0_off6 i = ![(i 2).val, 0, 0] := by decide +kernel
theorem k0_off7_eq : ∀ i : grid0.Coords, k0_off7 i = ![(i 2).val, 0, 0] := by decide +kernel

/-- A load of 256 rows of a whole row tile's memory. -/
theorem load_rows {κ : Kind} {sp : Space} (m : Memref sig κ sp S1024x2048 .bf16) (hm : m.IsWhole) (w : Vec F S1024x2048 .bf16) :
    (fun r : Fin 4 => (View.readAt (Elt F) m.view (Rect.unit (s := S1024x2048) ![256 * r.val, 0] S256x2048.size (inbRows r)).toLoadRect (hm.unread w) : Vec F S256x2048 .bf16)) = rows w := by
  funext r x
  refine (hm.readAt_unread w _ x).trans (congrArg w ?_)
  funext a
  match a with
  | ⟨0, _⟩ => apply Fin.ext; show 256 * r.val + 1 * (x 0).val = 256 * r.val + (x 0).val; omega
  | ⟨1, _⟩ => apply Fin.ext; show 0 + 1 * (x 1).val = (x 1).val; omega

/-- A load of 256 rows of one slot. -/
theorem load_slot {κ : Kind} {sp : Space} (m : Memref sig κ sp S4x1024x2048 .bf16) (hm : m.IsWhole) (h : Vec F S4x1024x2048 .bf16) (s : Fin 4)
    (off : Fin 3 → ℕ) (ho : off = ![s.val, 0, 0]) (inb : ∀ a, off a + S1x1024x2048.size a ≤ S4x1024x2048.size a) :
    (fun r : Fin 4 => (View.readAt (Elt F) ((m.slice (Rect.unit (s := S4x1024x2048) off S1x1024x2048.size inb) (fun _ => rfl)).squeeze S1024x2048 squeezes_S1x1024x2048_S1024x2048).view
      (Rect.unit (s := S1024x2048) ![256 * r.val, 0] S256x2048.size (inbRows r)).toLoadRect (hm.unread h) : Vec F S256x2048 .bf16)) = rows (slot h s) := by
  subst ho
  funext r x
  refine (hm.readAt_slice_reshape_unread h _ _ _ x).trans (congrArg h ?_)
  have hr : (256 * r.val + (x 0).val) < 1024 := by have h : (x 0).val < 256 := (x 0).isLt; omega
  have e : (Rect.unit (s := S1024x2048) ![256 * r.val, 0] S256x2048.size (inbRows r)).toLoadRect.idx x = ix2 (⟨256 * r.val + (x 0).val, hr⟩ : Fin 1024) (x 1 : Fin 2048) := by
    funext a
    match a with
    | ⟨0, _⟩ => apply Fin.ext; show 256 * r.val + 1 * (x 0).val = 256 * r.val + (x 0).val; omega
    | ⟨1, _⟩ => apply Fin.ext; show 0 + 1 * (x 1).val = (x 1).val; omega
  rw [e]
  refine (congrArg (Rect.unit (s := S4x1024x2048) ![s.val, 0, 0] S1x1024x2048.size inb).emb (reshapeEquiv_ix2_1ab _ _ _)).trans ?_
  funext a
  match a with
  | ⟨0, _⟩ => apply Fin.ext; show s.val + 1 * 0 = s.val; omega
  | ⟨1, _⟩ => apply Fin.ext; show 0 + 1 * (256 * r.val + (x 0).val) = (256 * r.val + (x 0).val); omega
  | ⟨2, _⟩ => apply Fin.ext; show 0 + 1 * (x 1).val = (x 1).val; omega

/-- A load of one part's history. -/
theorem load_tail {κ : Kind} {sp : Space} (m : Memref sig κ sp S3x8x1024 .f32) (hm : m.IsWhole) (tl : Vec F S3x8x1024 .f32) (p : Fin 3)
    (off : Fin 3 → ℕ) (ho : off = ![p.val, 0, 0]) (inb : ∀ a, off a + S1x8x1024.size a ≤ S3x8x1024.size a) :
    (View.readAt (Elt F) m.view (Rect.unit (s := S3x8x1024) off S1x8x1024.size inb).toLoadRect (hm.unread tl) : Vec F S1x8x1024 .f32) = tailAt tl p := by
  subst ho
  funext x
  refine (hm.readAt_unread tl _ x).trans (congrArg tl ?_)
  funext a
  have h0 : (x 0).val < 1 := (x 0).isLt
  match a with
  | ⟨0, _⟩ => apply Fin.ext; show p.val + 1 * (x 0).val = p.val; omega
  | ⟨1, _⟩ => apply Fin.ext; show 0 + 1 * (x 1).val = (x 1).val; omega
  | ⟨2, _⟩ => apply Fin.ext; show 0 + 1 * (x 2).val = (x 2).val; omega

/-- A store of one part's history. -/
theorem store_tail {κ : Kind} {sp : Space} (m : Memref sig κ sp S3x8x1024 .f32) (hm : m.IsWhole) (tl : Vec F S3x8x1024 .f32) (p : Fin 3)
    (off : Fin 3 → ℕ) (ho : off = ![p.val, 0, 0]) (inb : ∀ a, off a + S1x8x1024.size a ≤ S3x8x1024.size a) (w : Vec F S1x8x1024 .f32) :
    m.view.read (Elt F) (m.view.writes (Elt F) (hm.unread tl) [⟨Rect.unit (s := S3x8x1024) off S1x8x1024.size inb, w⟩]) = setTail tl p w := by
  rw [View.read_writes_cons_put m.view _ inb w [] ho, View.writes_nil, hm.read_unread]
  funext y
  have h1 : (y 1).val < 8 := (y 1).isLt
  have h2 : (y 2).val < 1024 := (y 2).isLt
  unfold VecWindow.put setTail
  by_cases hy : (y 0).val = p.val
  · have hall : ∀ a : Fin 3, (![p.val, 0, 0] : Fin 3 → ℕ) a ≤ (y a).val ∧ (y a).val < (![p.val, 0, 0] : Fin 3 → ℕ) a + S1x8x1024.size a := by
      intro a
      match a with
      | ⟨0, _⟩ => exact ⟨by show p.val ≤ (y 0).val; rw [hy], by show (y 0).val < p.val + 1; rw [hy]; omega⟩
      | ⟨1, _⟩ => exact ⟨Nat.zero_le _, by show (y 1).val < 0 + 8; omega⟩
      | ⟨2, _⟩ => exact ⟨Nat.zero_le _, by show (y 2).val < 0 + 1024; omega⟩
    rw [dif_pos hall, if_pos hy]
    refine congrArg w ?_
    funext a
    match a with
    | ⟨0, _⟩ => apply Fin.ext; show (y 0).val - p.val = 0; rw [hy]; omega
    | ⟨1, _⟩ => apply Fin.ext; show (y 1).val - 0 = (y 1).val; omega
    | ⟨2, _⟩ => apply Fin.ext; show (y 2).val - 0 = (y 2).val; omega
  · rw [dif_neg, if_neg hy]
    intro hall
    have h := hall 0
    have ha : p.val ≤ (y 0).val := h.1
    have hb : (y 0).val < p.val + 1 := h.2
    exact hy (by omega)

/-- A store of one row tile in its slot. -/
theorem store_slot {κ : Kind} {sp : Space} (m : Memref sig κ sp S4x1024x2048 .bf16) (hm : m.IsWhole) (h : Vec F S4x1024x2048 .bf16) (s : Fin 4)
    (off : Fin 3 → ℕ) (ho : off = ![s.val, 0, 0]) (inb : ∀ a, off a + S1x1024x2048.size a ≤ S4x1024x2048.size a) (w : Vec F S1024x2048 .bf16) :
    m.view.read (Elt F) (m.view.writes (Elt F) (hm.unread h) [⟨Rect.unit (s := S4x1024x2048) off S1x1024x2048.size inb, shapeCast S1x1024x2048 w shapeCasts_S1024x2048_S1x1024x2048⟩]) = setSlot h s w := by
  rw [View.read_writes_cons_put m.view _ inb _ [] ho, View.writes_nil, hm.read_unread]
  funext y
  have h1 : (y 1).val < 1024 := (y 1).isLt
  have h2 : (y 2).val < 2048 := (y 2).isLt
  unfold VecWindow.put setSlot
  by_cases hy : (y 0).val = s.val
  · have hall : ∀ a : Fin 3, (![s.val, 0, 0] : Fin 3 → ℕ) a ≤ (y a).val ∧ (y a).val < (![s.val, 0, 0] : Fin 3 → ℕ) a + S1x1024x2048.size a := by
      intro a
      match a with
      | ⟨0, _⟩ => exact ⟨by show s.val ≤ (y 0).val; rw [hy], by show (y 0).val < s.val + 1; rw [hy]; omega⟩
      | ⟨1, _⟩ => exact ⟨Nat.zero_le _, by show (y 1).val < 0 + 1024; omega⟩
      | ⟨2, _⟩ => exact ⟨Nat.zero_le _, by show (y 2).val < 0 + 2048; omega⟩
    rw [dif_pos hall, if_pos hy]
    have e : Rect.unitLocal (s := S4x1024x2048) (off := ![s.val, 0, 0]) (size := S1x1024x2048.size) y hall = ix3 (0 : Fin 1) (y 1 : Fin 1024) (y 2 : Fin 2048) := by
      funext a
      match a with
      | ⟨0, _⟩ => apply Fin.ext; show (y 0).val - s.val = 0; rw [hy]; omega
      | ⟨1, _⟩ => apply Fin.ext; show (y 1).val - 0 = (y 1).val; omega
      | ⟨2, _⟩ => apply Fin.ext; show (y 2).val - 0 = (y 2).val; omega
    refine (congrArg (shapeCast S1x1024x2048 w shapeCasts_S1024x2048_S1x1024x2048) e).trans ?_
    exact shapeCast_ab_1ab_apply w _ 0 (y 1) (y 2)
  · rw [dif_neg, if_neg hy]
    intro hall
    have h := hall 0
    have ha : s.val ≤ (y 0).val := h.1
    have hb : (y 0).val < s.val + 1 := h.2
    exact hy (by omega)

end Cert.KernelIdeal.Inproj

end
-- ==== Proof.Inproj.Run1.lean ====
/- the first point: what the histories and the small weights hold. -/
module

public import proofs.«01_k».proof.Proof.Inproj.Tile

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem br1_taken (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (hc : Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1) (x6 : Vec F S16x2048 .f32) (tl : Vec F S3x8x1024 .f32) (ws : Vec F S128x2048 .bf16) (E : Set ℕ) (K : PUnit → sProp 𝕄) :
    iprop(owns (c : Thread nD τ) arg6 fullShare x6 ∗ owns (c : Thread nD τ) arg13 fullShare tl ∗ owns (c : Thread nD τ) arg12 fullShare ws
      ∗ (iprop(owns (c : Thread nD τ) arg6 fullShare x6 ∗ owns (c : Thread nD τ) arg13 fullShare (k0_pay215 (F := F)) ∗ owns (c : Thread nD τ) arg12 fullShare (k0_pay216 x6)) -∗ wp frame (wpE (defs₀ (F := F)) Variants.none c none) E (k ⟨⟩) K))
    ⊢ wp frame (wpE (defs₀ (F := F)) Variants.none c none) E (br1 i arg3 harg3 arg4 harg4 arg5 harg5 arg6 harg6 arg7 harg7 arg8 harg8 arg9 harg9 arg10 harg10 arg11 harg11 arg12 harg12 arg13 harg13 k) K := by
  unfold br1
  unfold owns
  iintro ⟨⟨%f6, %hf6, H6⟩, ⟨%f13, %hf13, H13⟩, ⟨%f12, %hf12, H12⟩, Hk⟩
  obtain rfl := harg6.eq_unread hf6
  obtain rfl := harg13.eq_unread hf13
  obtain rfl := harg12.eq_unread hf12
  sl_exec (disch := sl_exact hc)
  iapply Hk
  isplitl [H6]
  · iexists _; isplitr; · ipureintro; exact harg6.read_unread _
    iexact H6
  isplitl [H13]
  · iexists _; isplitr; swap; · iexact H13
    ipureintro
    exact View.read_writes_full arg13.view _ _ _ _
  · iexists _; isplitr; swap; · iexact H12
    ipureintro
    have e6 : (View.readAt (Elt F) arg6.view (Rect.unit (s := S16x2048) ![0, 0] S16x2048.size inb_S16x2048_S16x2048_0_0).toLoadRect (harg6.unread x6) : Vec F S16x2048 .f32) = x6 :=
      (View.readAt_full arg6.view _ _).trans (harg6.read_unread _)
    exact (View.read_writes_full arg12.view _ _ _ _).trans (congrArg k0_pay216 e6)

/-- The first point: what the histories and the small weights hold. -/
theorem br1_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (x6 : Vec F S16x2048 .f32) (tl : Vec F S3x8x1024 .f32) (ws : Vec F S128x2048 .bf16) (E : Set ℕ) (K : PUnit → sProp 𝕄) :
    iprop(owns (c : Thread nD τ) arg6 fullShare x6 ∗ owns (c : Thread nD τ) arg13 fullShare tl ∗ owns (c : Thread nD τ) arg12 fullShare ws
      ∗ (iprop(owns (c : Thread nD τ) arg6 fullShare x6 ∗ owns (c : Thread nD τ) arg13 fullShare (if Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1 then (k0_pay215 (F := F)) else tl) ∗ owns (c : Thread nD τ) arg12 fullShare (if Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1 then (k0_pay216 x6) else ws)) -∗ wp frame (wpE (defs₀ (F := F)) Variants.none c none) E (k ⟨⟩) K))
    ⊢ wp frame (wpE (defs₀ (F := F)) Variants.none c none) E (br1 i arg3 harg3 arg4 harg4 arg5 harg5 arg6 harg6 arg7 harg7 arg8 harg8 arg9 harg9 arg10 harg10 arg11 harg11 arg12 harg12 arg13 harg13 k) K := by
  by_cases hc : Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1
  · simp only [if_pos hc]
    exact br1_taken c i arg3 harg3 arg4 harg4 arg5 harg5 arg6 harg6 arg7 harg7 arg8 harg8 arg9 harg9 arg10 harg10 arg11 harg11 arg12 harg12 arg13 harg13 k hc x6 tl ws E K
  · simp only [if_neg hc]
    unfold br1
    iintro ⟨H6, H13, H12, Hk⟩
    sl_exec (disch := sl_exact hc)
    iapply Hk
    isplitl [H6]
    · iexact H6
    isplitl [H13]
    · iexact H13
    iexact H12

end Cert.KernelIdeal.Inproj

end
-- ==== Proof.Inproj.Run2.lean ====
/- the first row tile of a column tile: what the weight block holds. -/
module

public import proofs.«01_k».proof.Proof.Inproj.Tile

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem br2_taken (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (hc : Scalar.cmpi .ne (Scalar.extui (Scalar.cmpi .eq (BitVec.ofNat 32 (i 2).val) 0#32) : BitVec 32) 0#32 = 1#1) (x5 : Vec F S1024x2048 .f32) (w : Vec F S1024x2048 .bf16) (E : Set ℕ) (K : PUnit → sProp 𝕄) :
    iprop(owns (c : Thread nD τ) arg5 fullShare x5 ∗ owns (c : Thread nD τ) arg11 fullShare w
      ∗ (iprop(owns (c : Thread nD τ) arg5 fullShare x5 ∗ owns (c : Thread nD τ) arg11 fullShare (k0_pay217 x5)) -∗ wp frame (wpE (defs₀ (F := F)) Variants.none c none) E (k ⟨⟩) K))
    ⊢ wp frame (wpE (defs₀ (F := F)) Variants.none c none) E (br2 i arg3 harg3 arg4 harg4 arg5 harg5 arg6 harg6 arg7 harg7 arg8 harg8 arg9 harg9 arg10 harg10 arg11 harg11 arg12 harg12 arg13 harg13 k) K := by
  unfold br2
  unfold owns
  iintro ⟨⟨%f5, %hf5, H5⟩, ⟨%f11, %hf11, H11⟩, Hk⟩
  obtain rfl := harg5.eq_unread hf5
  obtain rfl := harg11.eq_unread hf11
  sl_exec (disch := sl_exact hc)
  iapply Hk
  isplitl [H5]
  · iexists _; isplitr; · ipureintro; exact harg5.read_unread _
    iexact H5
  · iexists _; isplitr; swap; · iexact H11
    ipureintro
    have e5 : (View.readAt (Elt F) arg5.view (Rect.unit (s := S1024x2048) ![0, 0] S1024x2048.size inb_S1024x2048_S1024x2048_0_0).toLoadRect (harg5.unread x5) : Vec F S1024x2048 .f32) = x5 :=
      (View.readAt_full arg5.view _ _).trans (harg5.read_unread _)
    exact (View.read_writes_full arg11.view _ _ _ _).trans (congrArg k0_pay217 e5)

/-- The first row tile of a column tile: what the weight block holds. -/
theorem br2_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (x5 : Vec F S1024x2048 .f32) (w : Vec F S1024x2048 .bf16) (E : Set ℕ) (K : PUnit → sProp 𝕄) :
    iprop(owns (c : Thread nD τ) arg5 fullShare x5 ∗ owns (c : Thread nD τ) arg11 fullShare w
      ∗ (iprop(owns (c : Thread nD τ) arg5 fullShare x5 ∗ owns (c : Thread nD τ) arg11 fullShare (if Scalar.cmpi .ne (Scalar.extui (Scalar.cmpi .eq (BitVec.ofNat 32 (i 2).val) 0#32) : BitVec 32) 0#32 = 1#1 then (k0_pay217 x5) else w)) -∗ wp frame (wpE (defs₀ (F := F)) Variants.none c none) E (k ⟨⟩) K))
    ⊢ wp frame (wpE (defs₀ (F := F)) Variants.none c none) E (br2 i arg3 harg3 arg4 harg4 arg5 harg5 arg6 harg6 arg7 harg7 arg8 harg8 arg9 harg9 arg10 harg10 arg11 harg11 arg12 harg12 arg13 harg13 k) K := by
  by_cases hc : Scalar.cmpi .ne (Scalar.extui (Scalar.cmpi .eq (BitVec.ofNat 32 (i 2).val) 0#32) : BitVec 32) 0#32 = 1#1
  · simp only [if_pos hc]
    exact br2_taken c i arg3 harg3 arg4 harg4 arg5 harg5 arg6 harg6 arg7 harg7 arg8 harg8 arg9 harg9 arg10 harg10 arg11 harg11 arg12 harg12 arg13 harg13 k hc x5 w E K
  · simp only [if_neg hc]
    unfold br2
    iintro ⟨H5, H11, Hk⟩
    sl_exec (disch := sl_exact hc)
    iapply Hk
    isplitl [H5]
    · iexact H5
    iexact H11

end Cert.KernelIdeal.Inproj

end
-- ==== Proof.Inproj.Run3.lean ====
/- the first column tile: what the slot of a row tile and the small product hold. -/
module

public import proofs.«01_k».proof.Proof.Inproj.Tile

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem br3_taken (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (hc : k0_cond3 i = 1#1) (x3 : Vec F S1024x2048 .f32) (x4 : Vec F S1x2048 .f32) (ws : Vec F S128x2048 .bf16) (h : Vec F S4x1024x2048 .bf16) (sm : Vec F S1024x128 .f32) (E : Set ℕ) (K : PUnit → sProp 𝕄) :
    iprop(owns (c : Thread nD τ) arg3 fullShare x3 ∗ owns (c : Thread nD τ) arg4 fullShare x4 ∗ owns (c : Thread nD τ) arg12 fullShare ws ∗ owns (c : Thread nD τ) arg10 fullShare h ∗ owns (c : Thread nD τ) arg9 fullShare sm
      ∗ (iprop(owns (c : Thread nD τ) arg3 fullShare x3 ∗ owns (c : Thread nD τ) arg4 fullShare x4 ∗ owns (c : Thread nD τ) arg12 fullShare ws ∗ owns (c : Thread nD τ) arg10 fullShare (setSlot h (i 2) (k0_pay218 x3 x4)) ∗ owns (c : Thread nD τ) arg9 fullShare (k0_pay220 x3 x4 ws)) -∗ wp frame (wpE (defs₀ (F := F)) Variants.none c none) E (k ⟨⟩) K))
    ⊢ wp frame (wpE (defs₀ (F := F)) Variants.none c none) E (br3 i arg3 harg3 arg4 harg4 arg5 harg5 arg6 harg6 arg7 harg7 arg8 harg8 arg9 harg9 arg10 harg10 arg11 harg11 arg12 harg12 arg13 harg13 k) K := by
  unfold br3
  unfold owns
  iintro ⟨⟨%f3, %hf3, H3⟩, ⟨%f4, %hf4, H4⟩, ⟨%f12, %hf12, H12⟩, ⟨%f10, %hf10, H10⟩, ⟨%f9, %hf9, H9⟩, Hk⟩
  obtain rfl := harg3.eq_unread hf3
  obtain rfl := harg4.eq_unread hf4
  obtain rfl := harg12.eq_unread hf12
  obtain rfl := harg10.eq_unread hf10
  obtain rfl := harg9.eq_unread hf9
  sl_exec (disch := sl_exact hc)
  iapply Hk
  isplitl [H3]
  · iexists _; isplitr; · ipureintro; exact harg3.read_unread _
    iexact H3
  isplitl [H4]
  · iexists _; isplitr; · ipureintro; exact harg4.read_unread _
    iexact H4
  isplitl [H12]
  · iexists _; isplitr; · ipureintro; exact harg12.read_unread _
    iexact H12
  isplitl [H10]
  · iexists _; isplitr; swap; · iexact H10
    ipureintro
    have e3 : (View.readAt (Elt F) arg3.view (Rect.unit (s := S1024x2048) ![0, 0] S1024x2048.size inb_S1024x2048_S1024x2048_0_0).toLoadRect (harg3.unread x3) : Vec F S1024x2048 .f32) = x3 :=
      (View.readAt_full arg3.view _ _).trans (harg3.read_unread _)
    have e4 : (View.readAt (Elt F) arg4.view (Rect.unit (s := S1x2048) ![0, 0] S1x2048.size inb_S1x2048_S1x2048_0_0).toLoadRect (harg4.unread x4) : Vec F S1x2048 .f32) = x4 :=
      (View.readAt_full arg4.view _ _).trans (harg4.read_unread _)
    refine (store_slot arg10 harg10 h (i 2) (k0_off1 i) (k0_off1_eq i) (k0_off1_inb i hc) (k0_pay218 (View.readAt (Elt F) arg3.view (Rect.unit (s := S1024x2048) ![0, 0] S1024x2048.size inb_S1024x2048_S1024x2048_0_0).toLoadRect (harg3.unread x3)) (View.readAt (Elt F) arg4.view (Rect.unit (s := S1x2048) ![0, 0] S1x2048.size inb_S1x2048_S1x2048_0_0).toLoadRect (harg4.unread x4)))).trans ?_
    rw [e3, e4]
  · iexists _; isplitr; swap; · iexact H9
    ipureintro
    have e3 : (View.readAt (Elt F) arg3.view (Rect.unit (s := S1024x2048) ![0, 0] S1024x2048.size inb_S1024x2048_S1024x2048_0_0).toLoadRect (harg3.unread x3) : Vec F S1024x2048 .f32) = x3 :=
      (View.readAt_full arg3.view _ _).trans (harg3.read_unread _)
    have e4 : (View.readAt (Elt F) arg4.view (Rect.unit (s := S1x2048) ![0, 0] S1x2048.size inb_S1x2048_S1x2048_0_0).toLoadRect (harg4.unread x4) : Vec F S1x2048 .f32) = x4 :=
      (View.readAt_full arg4.view _ _).trans (harg4.read_unread _)
    have e12 : (View.readAt (Elt F) arg12.view (Rect.unit (s := S128x2048) ![0, 0] S128x2048.size inb_S128x2048_S128x2048_0_0).toLoadRect (harg12.unread ws) : Vec F S128x2048 .bf16) = ws :=
      (View.readAt_full arg12.view _ _).trans (harg12.read_unread _)
    refine (View.read_writes_full arg9.view _ _ _ _).trans ?_
    show k0_pay220 (View.readAt (Elt F) arg3.view (Rect.unit (s := S1024x2048) ![0, 0] S1024x2048.size inb_S1024x2048_S1024x2048_0_0).toLoadRect (harg3.unread x3)) (View.readAt (Elt F) arg4.view (Rect.unit (s := S1x2048) ![0, 0] S1x2048.size inb_S1x2048_S1x2048_0_0).toLoadRect (harg4.unread x4)) (View.readAt (Elt F) arg12.view (Rect.unit (s := S128x2048) ![0, 0] S128x2048.size inb_S128x2048_S128x2048_0_0).toLoadRect (harg12.unread ws)) = _
    rw [e3, e4, e12]

/-- The first column tile: what the slot of a row tile and the small product hold. -/
theorem br3_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (x3 : Vec F S1024x2048 .f32) (x4 : Vec F S1x2048 .f32) (ws : Vec F S128x2048 .bf16) (h : Vec F S4x1024x2048 .bf16) (sm : Vec F S1024x128 .f32) (E : Set ℕ) (K : PUnit → sProp 𝕄) :
    iprop(owns (c : Thread nD τ) arg3 fullShare x3 ∗ owns (c : Thread nD τ) arg4 fullShare x4 ∗ owns (c : Thread nD τ) arg12 fullShare ws ∗ owns (c : Thread nD τ) arg10 fullShare h ∗ owns (c : Thread nD τ) arg9 fullShare sm
      ∗ (iprop(owns (c : Thread nD τ) arg3 fullShare x3 ∗ owns (c : Thread nD τ) arg4 fullShare x4 ∗ owns (c : Thread nD τ) arg12 fullShare ws ∗ owns (c : Thread nD τ) arg10 fullShare (if k0_cond3 i = 1#1 then (setSlot h (i 2) (k0_pay218 x3 x4)) else h) ∗ owns (c : Thread nD τ) arg9 fullShare (if k0_cond3 i = 1#1 then (k0_pay220 x3 x4 ws) else sm)) -∗ wp frame (wpE (defs₀ (F := F)) Variants.none c none) E (k ⟨⟩) K))
    ⊢ wp frame (wpE (defs₀ (F := F)) Variants.none c none) E (br3 i arg3 harg3 arg4 harg4 arg5 harg5 arg6 harg6 arg7 harg7 arg8 harg8 arg9 harg9 arg10 harg10 arg11 harg11 arg12 harg12 arg13 harg13 k) K := by
  by_cases hc : k0_cond3 i = 1#1
  · simp only [if_pos hc]
    exact br3_taken c i arg3 harg3 arg4 harg4 arg5 harg5 arg6 harg6 arg7 harg7 arg8 harg8 arg9 harg9 arg10 harg10 arg11 harg11 arg12 harg12 arg13 harg13 k hc x3 x4 ws h sm E K
  · simp only [if_neg hc]
    unfold br3
    iintro ⟨H3, H4, H12, H10, H9, Hk⟩
    sl_exec (disch := sl_exact hc)
    iapply Hk
    isplitl [H3]
    · iexact H3
    isplitl [H4]
    · iexact H4
    isplitl [H12]
    · iexact H12
    isplitl [H10]
    · iexact H10
    iexact H9

end Cert.KernelIdeal.Inproj

end
-- ==== Proof.Inproj.Run4.lean ====
/- a plain or SiLU column tile: what its output tile holds. -/
module

public import proofs.«01_k».proof.Proof.Inproj.Tile

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem br4_taken (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (hc : k0_cond4 i = 1#1) (h : Vec F S4x1024x2048 .bf16) (w : Vec F S1024x2048 .bf16) (d : Vec F S1024x1024 .bf16) (E : Set ℕ) (K : PUnit → sProp 𝕄) :
    iprop(owns (c : Thread nD τ) arg10 fullShare h ∗ owns (c : Thread nD τ) arg11 fullShare w ∗ owns (c : Thread nD τ) arg8 fullShare d
      ∗ (iprop(owns (c : Thread nD τ) arg10 fullShare h ∗ owns (c : Thread nD τ) arg11 fullShare w ∗ owns (c : Thread nD τ) arg8 fullShare (plainTile (isSilu i) (rows (slot h (i 2))) (rows w))) -∗ wp frame (wpE (defs₀ (F := F)) Variants.none c none) E (k ⟨⟩) K))
    ⊢ wp frame (wpE (defs₀ (F := F)) Variants.none c none) E (br4 i arg3 harg3 arg4 harg4 arg5 harg5 arg6 harg6 arg7 harg7 arg8 harg8 arg9 harg9 arg10 harg10 arg11 harg11 arg12 harg12 arg13 harg13 k) K := by
  unfold br4
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f10, %hf10, H10⟩, ⟨%f11, %hf11, H11⟩, ⟨%f8, %hf8, H8⟩, Hk⟩
  obtain rfl := harg10.eq_unread hf10
  obtain rfl := harg11.eq_unread hf11
  obtain rfl := harg8.eq_unread hf8
  sl_exec (disch := sl_exact hc)
  iapply Hk
  isplitl [H10]
  · iexists _; isplitr; · ipureintro; exact harg10.read_unread _
    iexact H10
  isplitl [H11]
  · iexists _; isplitr; · ipureintro; exact harg11.read_unread _
    iexact H11
  · iexists _; isplitr; swap; · iexact H8
    ipureintro
    have eA := load_slot arg10 harg10 h (i 2) (k0_off2 i) (k0_off2_eq i) (k0_off2_inb i hc)
    have eB := load_rows arg11 harg11 w
    rw [← eA, ← eB]
    exact read_glue arg8.view _ (fun r c => plainChunk (isSilu i) (accOf ((fun r : Fin 4 => (View.readAt (Elt F) ((arg10.slice (Rect.unit (s := S4x1024x2048) (k0_off2 i) S1x1024x2048.size (k0_off2_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) r) ((fun r : Fin 4 => (View.readAt (Elt F) arg11.view (Rect.unit (s := S1024x2048) ![256 * r.val, 0] S256x2048.size (inbRows r)).toLoadRect (harg11.unread w) : Vec F S256x2048 .bf16)) c)))

/-- A plain or SiLU column tile: what its output tile holds. -/
theorem br4_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (h : Vec F S4x1024x2048 .bf16) (w : Vec F S1024x2048 .bf16) (d : Vec F S1024x1024 .bf16) (E : Set ℕ) (K : PUnit → sProp 𝕄) :
    iprop(owns (c : Thread nD τ) arg10 fullShare h ∗ owns (c : Thread nD τ) arg11 fullShare w ∗ owns (c : Thread nD τ) arg8 fullShare d
      ∗ (iprop(owns (c : Thread nD τ) arg10 fullShare h ∗ owns (c : Thread nD τ) arg11 fullShare w ∗ owns (c : Thread nD τ) arg8 fullShare (if k0_cond4 i = 1#1 then (plainTile (isSilu i) (rows (slot h (i 2))) (rows w)) else d)) -∗ wp frame (wpE (defs₀ (F := F)) Variants.none c none) E (k ⟨⟩) K))
    ⊢ wp frame (wpE (defs₀ (F := F)) Variants.none c none) E (br4 i arg3 harg3 arg4 harg4 arg5 harg5 arg6 harg6 arg7 harg7 arg8 harg8 arg9 harg9 arg10 harg10 arg11 harg11 arg12 harg12 arg13 harg13 k) K := by
  by_cases hc : k0_cond4 i = 1#1
  · simp only [if_pos hc]
    exact br4_taken c i arg3 harg3 arg4 harg4 arg5 harg5 arg6 harg6 arg7 harg7 arg8 harg8 arg9 harg9 arg10 harg10 arg11 harg11 arg12 harg12 arg13 harg13 k hc h w d E K
  · simp only [if_neg hc]
    unfold br4
    iintro ⟨H10, H11, H8, Hk⟩
    sl_exec (disch := sl_exact hc)
    iapply Hk
    isplitl [H10]
    · iexact H10
    isplitl [H11]
    · iexact H11
    iexact H8

end Cert.KernelIdeal.Inproj

end
-- ==== Proof.Inproj.Run5.lean ====
/- a convolved and normalised column tile: what its output tile and its history hold. -/
module

public import proofs.«01_k».proof.Proof.Inproj.Tile

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem br5_taken (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (hc : k0_cond5 i = 1#1) (h : Vec F S4x1024x2048 .bf16) (w : Vec F S1024x2048 .bf16) (tl : Vec F S3x8x1024 .f32) (cw : Vec F S4x1024 .f32) (d : Vec F S1024x1024 .bf16) (E : Set ℕ) (K : PUnit → sProp 𝕄) :
    iprop(owns (c : Thread nD τ) arg10 fullShare h ∗ owns (c : Thread nD τ) arg11 fullShare w ∗ owns (c : Thread nD τ) arg7 fullShare cw ∗ owns (c : Thread nD τ) arg8 fullShare d ∗ owns (c : Thread nD τ) arg13 fullShare tl
      ∗ (iprop(owns (c : Thread nD τ) arg10 fullShare h ∗ owns (c : Thread nD τ) arg11 fullShare w ∗ owns (c : Thread nD τ) arg7 fullShare cw ∗ owns (c : Thread nD τ) arg8 fullShare (normTile (normScale i) cw (startHist (rowTile i) (tailAt tl (part i))) (rows (slot h (i 2))) (rows w)) ∗ owns (c : Thread nD τ) arg13 fullShare (setTail tl (part i) (newTail (rows (slot h (i 2))) (rows w)))) -∗ wp frame (wpE (defs₀ (F := F)) Variants.none c none) E (k ⟨⟩) K))
    ⊢ wp frame (wpE (defs₀ (F := F)) Variants.none c none) E (br5 i arg3 harg3 arg4 harg4 arg5 harg5 arg6 harg6 arg7 harg7 arg8 harg8 arg9 harg9 arg10 harg10 arg11 harg11 arg12 harg12 arg13 harg13 k) K := by
  unfold br5
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f10, %hf10, H10⟩, ⟨%f11, %hf11, H11⟩, ⟨%f7, %hf7, H7⟩, ⟨%f8, %hf8, H8⟩, ⟨%f13, %hf13, H13⟩, Hk⟩
  obtain rfl := harg10.eq_unread hf10
  obtain rfl := harg11.eq_unread hf11
  obtain rfl := harg7.eq_unread hf7
  obtain rfl := harg8.eq_unread hf8
  obtain rfl := harg13.eq_unread hf13
  sl_exec (disch := sl_exact hc)
  iapply Hk
  isplitl [H10]
  · iexists _; isplitr; · ipureintro; exact harg10.read_unread _
    iexact H10
  isplitl [H11]
  · iexists _; isplitr; · ipureintro; exact harg11.read_unread _
    iexact H11
  isplitl [H7]
  · iexists _; isplitr; · ipureintro; exact harg7.read_unread _
    iexact H7
  isplitl [H8]
  · iexists _; isplitr; swap; · iexact H8
    ipureintro
    have eA := load_slot arg10 harg10 h (i 2) (k0_off4 i) (k0_off4_eq i) (k0_off4_inb i hc)
    have eB := load_rows arg11 harg11 w
    have eT := load_tail arg13 harg13 tl (part i) (k0_off3 i) (k0_off3_eq i hc) (k0_off3_inb i hc)
    have eC : (View.readAt (Elt F) arg7.view (Rect.unit (s := S4x1024) ![0, 0] S4x1024.size inb_S4x1024_S4x1024_0_0).toLoadRect (harg7.unread cw) : Vec F S4x1024 .f32) = cw :=
      (View.readAt_full arg7.view _ _).trans (harg7.read_unread _)
    refine (read_glue arg8.view _ (fun r c => truncf .bf16 (normChunk (normScale i) (convChunk (View.readAt (Elt F) arg7.view (Rect.unit (s := S4x1024) ![0, 0] S4x1024.size inb_S4x1024_S4x1024_0_0).toLoadRect (harg7.unread cw)) (startHist (rowTile i) (View.readAt (Elt F) arg13.view (Rect.unit (s := S3x8x1024) (k0_off3 i) S1x8x1024.size (k0_off3_inb i hc)).toLoadRect (harg13.unread tl))) (fun r : Fin 4 => (View.readAt (Elt F) ((arg10.slice (Rect.unit (s := S4x1024x2048) (k0_off4 i) S1x1024x2048.size (k0_off4_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) (fun r : Fin 4 => (View.readAt (Elt F) arg11.view (Rect.unit (s := S1024x2048) ![256 * r.val, 0] S256x2048.size (inbRows r)).toLoadRect (harg11.unread w) : Vec F S256x2048 .bf16)) r c)) bitsLt_bf16_f32)).trans ?_
    show normTile (normScale i) (View.readAt (Elt F) arg7.view (Rect.unit (s := S4x1024) ![0, 0] S4x1024.size inb_S4x1024_S4x1024_0_0).toLoadRect (harg7.unread cw)) (startHist (rowTile i) (View.readAt (Elt F) arg13.view (Rect.unit (s := S3x8x1024) (k0_off3 i) S1x8x1024.size (k0_off3_inb i hc)).toLoadRect (harg13.unread tl))) (fun r : Fin 4 => (View.readAt (Elt F) ((arg10.slice (Rect.unit (s := S4x1024x2048) (k0_off4 i) S1x1024x2048.size (k0_off4_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) (fun r : Fin 4 => (View.readAt (Elt F) arg11.view (Rect.unit (s := S1024x2048) ![256 * r.val, 0] S256x2048.size (inbRows r)).toLoadRect (harg11.unread w) : Vec F S256x2048 .bf16)) = _
    rw [eA, eB, eT, eC]
  · iexists _; isplitr; swap; · iexact H13
    ipureintro
    have eA := load_slot arg10 harg10 h (i 2) (k0_off4 i) (k0_off4_eq i) (k0_off4_inb i hc)
    have eB := load_rows arg11 harg11 w
    rw [← eA, ← eB]
    exact store_tail arg13 harg13 tl (part i) (k0_off3 i) (k0_off3_eq i hc) (k0_off3_inb i hc) (newTail (fun r : Fin 4 => (View.readAt (Elt F) ((arg10.slice (Rect.unit (s := S4x1024x2048) (k0_off4 i) S1x1024x2048.size (k0_off4_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) (fun r : Fin 4 => (View.readAt (Elt F) arg11.view (Rect.unit (s := S1024x2048) ![256 * r.val, 0] S256x2048.size (inbRows r)).toLoadRect (harg11.unread w) : Vec F S256x2048 .bf16)))

/-- A convolved and normalised column tile: what its output tile and its history hold. -/
theorem br5_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (h : Vec F S4x1024x2048 .bf16) (w : Vec F S1024x2048 .bf16) (tl : Vec F S3x8x1024 .f32) (cw : Vec F S4x1024 .f32) (d : Vec F S1024x1024 .bf16) (E : Set ℕ) (K : PUnit → sProp 𝕄) :
    iprop(owns (c : Thread nD τ) arg10 fullShare h ∗ owns (c : Thread nD τ) arg11 fullShare w ∗ owns (c : Thread nD τ) arg7 fullShare cw ∗ owns (c : Thread nD τ) arg8 fullShare d ∗ owns (c : Thread nD τ) arg13 fullShare tl
      ∗ (iprop(owns (c : Thread nD τ) arg10 fullShare h ∗ owns (c : Thread nD τ) arg11 fullShare w ∗ owns (c : Thread nD τ) arg7 fullShare cw ∗ owns (c : Thread nD τ) arg8 fullShare (if k0_cond5 i = 1#1 then (normTile (normScale i) cw (startHist (rowTile i) (tailAt tl (part i))) (rows (slot h (i 2))) (rows w)) else d) ∗ owns (c : Thread nD τ) arg13 fullShare (if k0_cond5 i = 1#1 then (setTail tl (part i) (newTail (rows (slot h (i 2))) (rows w))) else tl)) -∗ wp frame (wpE (defs₀ (F := F)) Variants.none c none) E (k ⟨⟩) K))
    ⊢ wp frame (wpE (defs₀ (F := F)) Variants.none c none) E (br5 i arg3 harg3 arg4 harg4 arg5 harg5 arg6 harg6 arg7 harg7 arg8 harg8 arg9 harg9 arg10 harg10 arg11 harg11 arg12 harg12 arg13 harg13 k) K := by
  by_cases hc : k0_cond5 i = 1#1
  · simp only [if_pos hc]
    exact br5_taken c i arg3 harg3 arg4 harg4 arg5 harg5 arg6 harg6 arg7 harg7 arg8 harg8 arg9 harg9 arg10 harg10 arg11 harg11 arg12 harg12 arg13 harg13 k hc h w tl cw d E K
  · simp only [if_neg hc]
    unfold br5
    iintro ⟨H10, H11, H7, H8, H13, Hk⟩
    sl_exec (disch := sl_exact hc)
    iapply Hk
    isplitl [H10]
    · iexact H10
    isplitl [H11]
    · iexact H11
    isplitl [H7]
    · iexact H7
    isplitl [H8]
    · iexact H8
    iexact H13

end Cert.KernelIdeal.Inproj

end
-- ==== Proof.Inproj.Run6.lean ====
/- a convolved column tile: what its output tile and its history hold. -/
module

public import proofs.«01_k».proof.Proof.Inproj.Tile

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem br6_taken (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (hc : k0_cond6 i = 1#1) (h : Vec F S4x1024x2048 .bf16) (w : Vec F S1024x2048 .bf16) (tl : Vec F S3x8x1024 .f32) (cw : Vec F S4x1024 .f32) (d : Vec F S1024x1024 .bf16) (E : Set ℕ) (K : PUnit → sProp 𝕄) :
    iprop(owns (c : Thread nD τ) arg10 fullShare h ∗ owns (c : Thread nD τ) arg11 fullShare w ∗ owns (c : Thread nD τ) arg7 fullShare cw ∗ owns (c : Thread nD τ) arg8 fullShare d ∗ owns (c : Thread nD τ) arg13 fullShare tl
      ∗ (iprop(owns (c : Thread nD τ) arg10 fullShare h ∗ owns (c : Thread nD τ) arg11 fullShare w ∗ owns (c : Thread nD τ) arg7 fullShare cw ∗ owns (c : Thread nD τ) arg8 fullShare (convTile cw (startHist (rowTile i) (tailAt tl (part i))) (rows (slot h (i 2))) (rows w)) ∗ owns (c : Thread nD τ) arg13 fullShare (setTail tl (part i) (newTail (rows (slot h (i 2))) (rows w)))) -∗ wp frame (wpE (defs₀ (F := F)) Variants.none c none) E (k ⟨⟩) K))
    ⊢ wp frame (wpE (defs₀ (F := F)) Variants.none c none) E (br6 i arg3 harg3 arg4 harg4 arg5 harg5 arg6 harg6 arg7 harg7 arg8 harg8 arg9 harg9 arg10 harg10 arg11 harg11 arg12 harg12 arg13 harg13 k) K := by
  unfold br6
  simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f10, %hf10, H10⟩, ⟨%f11, %hf11, H11⟩, ⟨%f7, %hf7, H7⟩, ⟨%f8, %hf8, H8⟩, ⟨%f13, %hf13, H13⟩, Hk⟩
  obtain rfl := harg10.eq_unread hf10
  obtain rfl := harg11.eq_unread hf11
  obtain rfl := harg7.eq_unread hf7
  obtain rfl := harg8.eq_unread hf8
  obtain rfl := harg13.eq_unread hf13
  sl_exec (disch := sl_exact hc)
  iapply Hk
  isplitl [H10]
  · iexists _; isplitr; · ipureintro; exact harg10.read_unread _
    iexact H10
  isplitl [H11]
  · iexists _; isplitr; · ipureintro; exact harg11.read_unread _
    iexact H11
  isplitl [H7]
  · iexists _; isplitr; · ipureintro; exact harg7.read_unread _
    iexact H7
  isplitl [H8]
  · iexists _; isplitr; swap; · iexact H8
    ipureintro
    have eA := load_slot arg10 harg10 h (i 2) (k0_off6 i) (k0_off6_eq i) (k0_off6_inb i hc)
    have eB := load_rows arg11 harg11 w
    have eT := load_tail arg13 harg13 tl (part i) (k0_off5 i) (k0_off5_eq i hc) (k0_off5_inb i hc)
    have eC : (View.readAt (Elt F) arg7.view (Rect.unit (s := S4x1024) ![0, 0] S4x1024.size inb_S4x1024_S4x1024_0_0).toLoadRect (harg7.unread cw) : Vec F S4x1024 .f32) = cw :=
      (View.readAt_full arg7.view _ _).trans (harg7.read_unread _)
    refine (read_glue arg8.view _ (fun r c => truncf .bf16 (convChunk (View.readAt (Elt F) arg7.view (Rect.unit (s := S4x1024) ![0, 0] S4x1024.size inb_S4x1024_S4x1024_0_0).toLoadRect (harg7.unread cw)) (startHist (rowTile i) (View.readAt (Elt F) arg13.view (Rect.unit (s := S3x8x1024) (k0_off5 i) S1x8x1024.size (k0_off5_inb i hc)).toLoadRect (harg13.unread tl))) (fun r : Fin 4 => (View.readAt (Elt F) ((arg10.slice (Rect.unit (s := S4x1024x2048) (k0_off6 i) S1x1024x2048.size (k0_off6_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) (fun r : Fin 4 => (View.readAt (Elt F) arg11.view (Rect.unit (s := S1024x2048) ![256 * r.val, 0] S256x2048.size (inbRows r)).toLoadRect (harg11.unread w) : Vec F S256x2048 .bf16)) r c) bitsLt_bf16_f32)).trans ?_
    show convTile (View.readAt (Elt F) arg7.view (Rect.unit (s := S4x1024) ![0, 0] S4x1024.size inb_S4x1024_S4x1024_0_0).toLoadRect (harg7.unread cw)) (startHist (rowTile i) (View.readAt (Elt F) arg13.view (Rect.unit (s := S3x8x1024) (k0_off5 i) S1x8x1024.size (k0_off5_inb i hc)).toLoadRect (harg13.unread tl))) (fun r : Fin 4 => (View.readAt (Elt F) ((arg10.slice (Rect.unit (s := S4x1024x2048) (k0_off6 i) S1x1024x2048.size (k0_off6_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) (fun r : Fin 4 => (View.readAt (Elt F) arg11.view (Rect.unit (s := S1024x2048) ![256 * r.val, 0] S256x2048.size (inbRows r)).toLoadRect (harg11.unread w) : Vec F S256x2048 .bf16)) = _
    rw [eA, eB, eT, eC]
  · iexists _; isplitr; swap; · iexact H13
    ipureintro
    have eA := load_slot arg10 harg10 h (i 2) (k0_off6 i) (k0_off6_eq i) (k0_off6_inb i hc)
    have eB := load_rows arg11 harg11 w
    rw [← eA, ← eB]
    exact store_tail arg13 harg13 tl (part i) (k0_off5 i) (k0_off5_eq i hc) (k0_off5_inb i hc) (newTail (fun r : Fin 4 => (View.readAt (Elt F) ((arg10.slice (Rect.unit (s := S4x1024x2048) (k0_off6 i) S1x1024x2048.size (k0_off6_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) (fun r : Fin 4 => (View.readAt (Elt F) arg11.view (Rect.unit (s := S1024x2048) ![256 * r.val, 0] S256x2048.size (inbRows r)).toLoadRect (harg11.unread w) : Vec F S256x2048 .bf16)))

/-- A convolved column tile: what its output tile and its history hold. -/
theorem br6_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (h : Vec F S4x1024x2048 .bf16) (w : Vec F S1024x2048 .bf16) (tl : Vec F S3x8x1024 .f32) (cw : Vec F S4x1024 .f32) (d : Vec F S1024x1024 .bf16) (E : Set ℕ) (K : PUnit → sProp 𝕄) :
    iprop(owns (c : Thread nD τ) arg10 fullShare h ∗ owns (c : Thread nD τ) arg11 fullShare w ∗ owns (c : Thread nD τ) arg7 fullShare cw ∗ owns (c : Thread nD τ) arg8 fullShare d ∗ owns (c : Thread nD τ) arg13 fullShare tl
      ∗ (iprop(owns (c : Thread nD τ) arg10 fullShare h ∗ owns (c : Thread nD τ) arg11 fullShare w ∗ owns (c : Thread nD τ) arg7 fullShare cw ∗ owns (c : Thread nD τ) arg8 fullShare (if k0_cond6 i = 1#1 then (convTile cw (startHist (rowTile i) (tailAt tl (part i))) (rows (slot h (i 2))) (rows w)) else d) ∗ owns (c : Thread nD τ) arg13 fullShare (if k0_cond6 i = 1#1 then (setTail tl (part i) (newTail (rows (slot h (i 2))) (rows w))) else tl)) -∗ wp frame (wpE (defs₀ (F := F)) Variants.none c none) E (k ⟨⟩) K))
    ⊢ wp frame (wpE (defs₀ (F := F)) Variants.none c none) E (br6 i arg3 harg3 arg4 harg4 arg5 harg5 arg6 harg6 arg7 harg7 arg8 harg8 arg9 harg9 arg10 harg10 arg11 harg11 arg12 harg12 arg13 harg13 k) K := by
  by_cases hc : k0_cond6 i = 1#1
  · simp only [if_pos hc]
    exact br6_taken c i arg3 harg3 arg4 harg4 arg5 harg5 arg6 harg6 arg7 harg7 arg8 harg8 arg9 harg9 arg10 harg10 arg11 harg11 arg12 harg12 arg13 harg13 k hc h w tl cw d E K
  · simp only [if_neg hc]
    unfold br6
    iintro ⟨H10, H11, H7, H8, H13, Hk⟩
    sl_exec (disch := sl_exact hc)
    iapply Hk
    isplitl [H10]
    · iexact H10
    isplitl [H11]
    · iexact H11
    isplitl [H7]
    · iexact H7
    isplitl [H8]
    · iexact H8
    iexact H13

end Cert.KernelIdeal.Inproj

end
-- ==== Proof.Inproj.Run7.lean ====
/- a gate's column tile: what its output tile holds. -/
module

public import proofs.«01_k».proof.Proof.Inproj.Tile

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem br7_taken (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (hc : k0_cond7 i = 1#1) (h : Vec F S4x1024x2048 .bf16) (w : Vec F S1024x2048 .bf16) (d : Vec F S1024x1024 .bf16) (E : Set ℕ) (K : PUnit → sProp 𝕄) :
    iprop(owns (c : Thread nD τ) arg10 fullShare h ∗ owns (c : Thread nD τ) arg11 fullShare w ∗ owns (c : Thread nD τ) arg8 fullShare d
      ∗ (iprop(owns (c : Thread nD τ) arg10 fullShare h ∗ owns (c : Thread nD τ) arg11 fullShare w ∗ owns (c : Thread nD τ) arg8 fullShare (gateTile (rows (slot h (i 2))) (rows w))) -∗ wp frame (wpE (defs₀ (F := F)) Variants.none c none) E (k ⟨⟩) K))
    ⊢ wp frame (wpE (defs₀ (F := F)) Variants.none c none) E (br7 i arg3 harg3 arg4 harg4 arg5 harg5 arg6 harg6 arg7 harg7 arg8 harg8 arg9 harg9 arg10 harg10 arg11 harg11 arg12 harg12 arg13 harg13 k) K := by
  unfold br7
  simp only [k0_part39_eq_skeleton, k0_part40_eq_skeleton, k0_part41_eq_skeleton, k0_part42_eq_skeleton, k0_part43_eq_skeleton, k0_part44_eq_skeleton, k0_part45_eq_skeleton]
  unfold owns
  iintro ⟨⟨%f10, %hf10, H10⟩, ⟨%f11, %hf11, H11⟩, ⟨%f8, %hf8, H8⟩, Hk⟩
  obtain rfl := harg10.eq_unread hf10
  obtain rfl := harg11.eq_unread hf11
  obtain rfl := harg8.eq_unread hf8
  sl_exec (disch := sl_exact hc)
  iapply Hk
  isplitl [H10]
  · iexists _; isplitr; · ipureintro; exact harg10.read_unread _
    iexact H10
  isplitl [H11]
  · iexists _; isplitr; · ipureintro; exact harg11.read_unread _
    iexact H11
  · iexists _; isplitr; swap; · iexact H8
    ipureintro
    have eA := load_slot arg10 harg10 h (i 2) (k0_off7 i) (k0_off7_eq i) (k0_off7_inb i hc)
    have eB := load_rows arg11 harg11 w
    rw [← eA, ← eB]
    exact read_glue arg8.view _ (fun r c => gateChunk (accOf ((fun r : Fin 4 => (View.readAt (Elt F) ((arg10.slice (Rect.unit (s := S4x1024x2048) (k0_off7 i) S1x1024x2048.size (k0_off7_inb i hc)) (fun _ => rfl)).squeeze S1024x2048 squeezes_S1x1024x2048_S1024x2048).view (Rect.unit (s := S1024x2048) ![256 * r.val, 0] S256x2048.size (inbRows r)).toLoadRect (harg10.unread h) : Vec F S256x2048 .bf16)) r) ((fun r : Fin 4 => (View.readAt (Elt F) arg11.view (Rect.unit (s := S1024x2048) ![256 * r.val, 0] S256x2048.size (inbRows r)).toLoadRect (harg11.unread w) : Vec F S256x2048 .bf16)) c)))

/-- A gate's column tile: what its output tile holds. -/
theorem br7_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole) (k : PUnit.{1} → Prog (TpuEff nD τ sig (Elt F) Λ₀ .tc) PUnit)
    (h : Vec F S4x1024x2048 .bf16) (w : Vec F S1024x2048 .bf16) (d : Vec F S1024x1024 .bf16) (E : Set ℕ) (K : PUnit → sProp 𝕄) :
    iprop(owns (c : Thread nD τ) arg10 fullShare h ∗ owns (c : Thread nD τ) arg11 fullShare w ∗ owns (c : Thread nD τ) arg8 fullShare d
      ∗ (iprop(owns (c : Thread nD τ) arg10 fullShare h ∗ owns (c : Thread nD τ) arg11 fullShare w ∗ owns (c : Thread nD τ) arg8 fullShare (if k0_cond7 i = 1#1 then (gateTile (rows (slot h (i 2))) (rows w)) else d)) -∗ wp frame (wpE (defs₀ (F := F)) Variants.none c none) E (k ⟨⟩) K))
    ⊢ wp frame (wpE (defs₀ (F := F)) Variants.none c none) E (br7 i arg3 harg3 arg4 harg4 arg5 harg5 arg6 harg6 arg7 harg7 arg8 harg8 arg9 harg9 arg10 harg10 arg11 harg11 arg12 harg12 arg13 harg13 k) K := by
  by_cases hc : k0_cond7 i = 1#1
  · simp only [if_pos hc]
    exact br7_taken c i arg3 harg3 arg4 harg4 arg5 harg5 arg6 harg6 arg7 harg7 arg8 harg8 arg9 harg9 arg10 harg10 arg11 harg11 arg12 harg12 arg13 harg13 k hc h w d E K
  · simp only [if_neg hc]
    unfold br7
    iintro ⟨H10, H11, H8, Hk⟩
    sl_exec (disch := sl_exact hc)
    iapply Hk
    isplitl [H10]
    · iexact H10
    isplitl [H11]
    · iexact H11
    iexact H8

end Cert.KernelIdeal.Inproj

end
-- ==== Proof.Inproj.Body.lean ====
/- The kernel's body on any contents: what it leaves in each buffer. -/
module

public import proofs.«01_k».proof.Proof.Inproj.Run1
public import proofs.«01_k».proof.Proof.Inproj.Run2
public import proofs.«01_k».proof.Proof.Inproj.Run3
public import proofs.«01_k».proof.Proof.Inproj.Run4
public import proofs.«01_k».proof.Proof.Inproj.Run5
public import proofs.«01_k».proof.Proof.Inproj.Run6
public import proofs.«01_k».proof.Proof.Inproj.Run7

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The small weights after a point: cast at the first point. -/
abbrev wsAfter (i : grid0.Coords) (x6 : Vec F S16x2048 .f32) (ws : Vec F S128x2048 .bf16) : Vec F S128x2048 .bf16 :=
  if Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1 then k0_pay216 x6 else ws

/-- The histories before the convolution: zero from the first point on. -/
abbrev tlStart (i : grid0.Coords) (tl : Vec F S3x8x1024 .f32) : Vec F S3x8x1024 .f32 :=
  if Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32)) : BitVec 32) 0#32 = 1#1 then k0_pay215 else tl

/-- The weight block after a point: cast at the first row tile. -/
abbrev wAfter (i : grid0.Coords) (x5 : Vec F S1024x2048 .f32) (w : Vec F S1024x2048 .bf16) : Vec F S1024x2048 .bf16 :=
  if Scalar.cmpi .ne (Scalar.extui (Scalar.cmpi .eq (BitVec.ofNat 32 (i 2).val) 0#32) : BitVec 32) 0#32 = 1#1 then k0_pay217 x5 else w

/-- The four row tiles after a point: in the first column tile the point's slot takes the normalised rows. -/
abbrev hAfter (i : grid0.Coords) (x3 : Vec F S1024x2048 .f32) (x4 : Vec F S1x2048 .f32) (h : Vec F S4x1024x2048 .bf16) : Vec F S4x1024x2048 .bf16 :=
  if k0_cond3 i = 1#1 then setSlot h (i 2) (k0_pay218 x3 x4) else h

/-- The small product after a point. -/
abbrev smAfter (i : grid0.Coords) (x3 : Vec F S1024x2048 .f32) (x4 : Vec F S1x2048 .f32) (x6 : Vec F S16x2048 .f32)
    (sm : Vec F S1024x128 .f32) (ws : Vec F S128x2048 .bf16) : Vec F S1024x128 .f32 :=
  if k0_cond3 i = 1#1 then k0_pay220 x3 x4 (wsAfter i x6 ws) else sm

/-- The output tile, from the row tiles, the weight block and the histories at the point. -/
abbrev outOf (i : grid0.Coords) (cw : Vec F S4x1024 .f32) (d : Vec F S1024x1024 .bf16) (h : Vec F S4x1024x2048 .bf16)
    (w : Vec F S1024x2048 .bf16) (tl : Vec F S3x8x1024 .f32) : Vec F S1024x1024 .bf16 :=
  if k0_cond7 i = 1#1 then gateTile (rows (slot h (i 2))) (rows w) else
  if k0_cond6 i = 1#1 then convTile cw (startHist (rowTile i) (tailAt (if k0_cond5 i = 1#1 then setTail tl (part i) (newTail (rows (slot h (i 2))) (rows w)) else tl) (part i))) (rows (slot h (i 2))) (rows w) else
  if k0_cond5 i = 1#1 then normTile (normScale i) cw (startHist (rowTile i) (tailAt tl (part i))) (rows (slot h (i 2))) (rows w) else
  if k0_cond4 i = 1#1 then plainTile (isSilu i) (rows (slot h (i 2))) (rows w) else d

/-- The histories, from the row tiles, the weight block and the histories at the point. -/
abbrev tlOf (i : grid0.Coords) (h : Vec F S4x1024x2048 .bf16) (w : Vec F S1024x2048 .bf16) (tl : Vec F S3x8x1024 .f32) : Vec F S3x8x1024 .f32 :=
  if k0_cond6 i = 1#1 then setTail (if k0_cond5 i = 1#1 then setTail tl (part i) (newTail (rows (slot h (i 2))) (rows w)) else tl) (part i) (newTail (rows (slot h (i 2))) (rows w))
  else if k0_cond5 i = 1#1 then setTail tl (part i) (newTail (rows (slot h (i 2))) (rows w)) else tl

/-- The output tile after a point. -/
abbrev outAfter (i : grid0.Coords) (x3 : Vec F S1024x2048 .f32) (x4 : Vec F S1x2048 .f32) (x5 : Vec F S1024x2048 .f32) (cw : Vec F S4x1024 .f32)
    (d : Vec F S1024x1024 .bf16) (h : Vec F S4x1024x2048 .bf16) (w : Vec F S1024x2048 .bf16) (tl : Vec F S3x8x1024 .f32) : Vec F S1024x1024 .bf16 :=
  outOf i cw d (hAfter i x3 x4 h) (wAfter i x5 w) (tlStart i tl)

/-- The histories after a point. -/
abbrev tlAfter (i : grid0.Coords) (x3 : Vec F S1024x2048 .f32) (x4 : Vec F S1x2048 .f32) (x5 : Vec F S1024x2048 .f32)
    (h : Vec F S4x1024x2048 .bf16) (w : Vec F S1024x2048 .bf16) (tl : Vec F S3x8x1024 .f32) : Vec F S3x8x1024 .f32 :=
  tlOf i (hAfter i x3 x4 h) (wAfter i x5 w) (tlStart i tl)

set_option maxHeartbeats 4000000 in
/-- The body runs from any contents, and leaves those named. -/
theorem body_run (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .f32) (harg5 : arg5.IsWhole) (arg6 : Memref sig .tc .vmem S16x2048 .f32) (harg6 : arg6.IsWhole) (arg7 : Memref sig .tc .vmem S4x1024 .f32) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S4x1024x2048 .bf16) (harg10 : arg10.IsWhole) (arg11 : Memref sig .tc .vmem S1024x2048 .bf16) (harg11 : arg11.IsWhole) (arg12 : Memref sig .tc .vmem S128x2048 .bf16) (harg12 : arg12.IsWhole) (arg13 : Memref sig .tc .vmem S3x8x1024 .f32) (harg13 : arg13.IsWhole)
    (x3 : Vec F S1024x2048 .f32) (x4 : Vec F S1x2048 .f32) (x5 : Vec F S1024x2048 .f32) (x6 : Vec F S16x2048 .f32) (cw : Vec F S4x1024 .f32)
    (d : Vec F S1024x1024 .bf16) (sm : Vec F S1024x128 .f32) (h : Vec F S4x1024x2048 .bf16) (w : Vec F S1024x2048 .bf16)
    (ws : Vec F S128x2048 .bf16) (tl : Vec F S3x8x1024 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare cw ∗ owns (c : Thread nD τ) arg8 fullShare d ∗ owns (c : Thread nD τ) arg9 fullShare sm ∗ owns (c : Thread nD τ) arg10 fullShare h ∗ owns (c : Thread nD τ) arg11 fullShare w ∗ owns (c : Thread nD τ) arg12 fullShare ws ∗ owns (c : Thread nD τ) arg13 fullShare tl
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare cw ∗ owns (c : Thread nD τ) arg8 fullShare (outAfter i x3 x4 x5 cw d h w tl) ∗ owns (c : Thread nD τ) arg9 fullShare (smAfter i x3 x4 x6 sm ws) ∗ owns (c : Thread nD τ) arg10 fullShare (hAfter i x3 x4 h) ∗ owns (c : Thread nD τ) arg11 fullShare (wAfter i x5 w) ∗ owns (c : Thread nD τ) arg12 fullShare (wsAfter i x6 ws) ∗ owns (c : Thread nD τ) arg13 fullShare (tlAfter i x3 x4 x5 h w tl)) -∗ K ⟨⟩))
    ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13) K := by
  rw [body_eq]
  iintro ⟨H3, H4, H5, H6, H7, H8, H9, H10, H11, H12, H13, Hk⟩
  simp only [wp_bind]
  iapply (br1_run c)
  isplitl [H6]
  · iexact H6
  isplitl [H13]
  · iexact H13
  isplitl [H12]
  · iexact H12
  iintro ⟨H6, H13, H12⟩
  iapply (br2_run c)
  isplitl [H5]
  · iexact H5
  isplitl [H11]
  · iexact H11
  iintro ⟨H5, H11⟩
  iapply (br3_run c)
  isplitl [H3]
  · iexact H3
  isplitl [H4]
  · iexact H4
  isplitl [H12]
  · iexact H12
  isplitl [H10]
  · iexact H10
  isplitl [H9]
  · iexact H9
  iintro ⟨H3, H4, H12, H10, H9⟩
  iapply (br4_run c)
  isplitl [H10]
  · iexact H10
  isplitl [H11]
  · iexact H11
  isplitl [H8]
  · iexact H8
  iintro ⟨H10, H11, H8⟩
  iapply (br5_run c)
  isplitl [H10]
  · iexact H10
  isplitl [H11]
  · iexact H11
  isplitl [H7]
  · iexact H7
  isplitl [H8]
  · iexact H8
  isplitl [H13]
  · iexact H13
  iintro ⟨H10, H11, H7, H8, H13⟩
  iapply (br6_run c)
  isplitl [H10]
  · iexact H10
  isplitl [H11]
  · iexact H11
  isplitl [H7]
  · iexact H7
  isplitl [H8]
  · iexact H8
  isplitl [H13]
  · iexact H13
  iintro ⟨H10, H11, H7, H8, H13⟩
  simp only [wp_pure]
  imodintro
  iapply (br7_run c)
  isplitl [H10]
  · iexact H10
  isplitl [H11]
  · iexact H11
  isplitl [H8]
  · iexact H8
  iintro ⟨H10, H11, H8⟩
  simp only [wp_pure]
  imodintro
  iapply Hk
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexact H13

end Cert.KernelIdeal.Inproj

end
-- ==== Proof.Inproj.State.lean ====
/- What the kernel's buffers hold from point to point. -/
module

public import proofs.«01_k».proof.Proof.Inproj.Body
public import proofs.«01_k».proof.Proof.Gen.KernelIdeal.Frame

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The branches, in closed form -/

theorem first_iff : ∀ t : Fin grid0.N, (Scalar.cmpi .ne (Scalar.extui (Scalar.andi (Scalar.andi (Scalar.cmpi .eq (BitVec.ofNat 32 (grid0.coords t 0).val) 0#32) (Scalar.cmpi .eq (BitVec.ofNat 32 (grid0.coords t 1).val) 0#32)) (Scalar.cmpi .eq (BitVec.ofNat 32 (grid0.coords t 2).val) 0#32)) : BitVec 32) 0#32 = 1#1) ↔ t.val = 0 := by decide +kernel
theorem newRow_iff : ∀ t : Fin grid0.N, (Scalar.cmpi .ne (Scalar.extui (Scalar.cmpi .eq (BitVec.ofNat 32 (grid0.coords t 2).val) 0#32) : BitVec 32) 0#32 = 1#1) ↔ t.val % 4 = 0 := by decide +kernel
theorem cond3_iff : ∀ t : Fin grid0.N, k0_cond3 (grid0.coords t) = 1#1 ↔ t.val / 4 % 12 = 0 := by decide +kernel
theorem cond4_iff : ∀ t : Fin grid0.N, k0_cond4 (grid0.coords t) = 1#1 ↔ (t.val / 4 % 12 < 4 ∨ t.val / 4 % 12 = 7) := by decide +kernel
theorem cond5_iff : ∀ t : Fin grid0.N, k0_cond5 (grid0.coords t) = 1#1 ↔ (t.val / 4 % 12 = 4 ∨ t.val / 4 % 12 = 5) := by decide +kernel
theorem cond6_iff : ∀ t : Fin grid0.N, k0_cond6 (grid0.coords t) = 1#1 ↔ t.val / 4 % 12 = 6 := by decide +kernel
theorem cond7_iff : ∀ t : Fin grid0.N, k0_cond7 (grid0.coords t) = 1#1 ↔ 8 ≤ t.val / 4 % 12 := by decide +kernel
theorem coord2_eq : ∀ t : Fin grid0.N, ((grid0.coords t) 2).val = t.val % 4 := by decide +kernel
theorem part_eq : ∀ t : Fin grid0.N, 4 ≤ t.val / 4 % 12 → t.val / 4 % 12 ≤ 6 → (part (grid0.coords t)).val = t.val / 4 % 12 - 4 := by decide +kernel
theorem start_bit : ∀ t : Fin grid0.N, t.val % 2 = 0 →
    Scalar.cmpi .eq (Scalar.remsi (Scalar.muli (rowTile (grid0.coords t)) 1024#32) 2048#32) 0#32 = 1#1 := by decide +kernel
/-- The small product's window is written back neither between the first column tile's last point and the group's last point. -/
theorem keep6 : ∀ t : Fin grid0.N, t.val / 4 % 12 ≠ 0 → win0_6.flush ⟨t.val - 1, by omega⟩ = false := by decide +kernel

/-- Where a sequence starts, the history does not depend on what was kept. -/
theorem startHist_start (v : BitVec 32) (h : Scalar.cmpi .eq (Scalar.remsi (Scalar.muli v 1024#32) 2048#32) 0#32 = 1#1)
    (T T' : Vec F S1x8x1024 .f32) : startHist v T = startHist v T' := by
  unfold startHist
  rw [h]
  rfl

theorem tailAt_setTail (tl : Vec F S3x8x1024 .f32) (p : Fin 3) (w : Vec F S1x8x1024 .f32) : tailAt (setTail tl p w) p = w := by
  funext y
  show (if p.val = p.val then w (ix3 0 (y 1) (y 2)) else _) = _
  rw [if_pos rfl]
  congr 1
  funext a
  match a with
  | ⟨0, _⟩ => exact Fin.ext (by have h : (y 0).val < 1 := (y 0).isLt; show 0 = (y 0).val; omega)
  | ⟨1, _⟩ => rfl
  | ⟨2, _⟩ => rfl

theorem slot_setSlot (h : Vec F S4x1024x2048 .bf16) (s p : Fin 4) (w : Vec F S1024x2048 .bf16) :
    slot (setSlot h s w) p = if p.val = s.val then w else slot h p := by
  funext y
  show (if p.val = s.val then w (ix2 (y 0) (y 1)) else h (ix3 p (y 0) (y 1))) = _
  split
  · congr 1
    funext a
    match a with
    | ⟨0, _⟩ => rfl
    | ⟨1, _⟩ => rfl
  · rfl

/-! ## What is computed at a point -/

/-- The point of row tile `s` in the first column tile of the group of `t`. -/
def srcPt (t : Fin cfg0.N) (s : Fin 4) : Fin cfg0.N := ⟨48 * (t.val / 48) + s.val, by have h : t.val < 96 := t.isLt; show _ < 96; omega⟩
/-- The first point of the column tile of `t`. -/
def colPt (t : Fin cfg0.N) : Fin cfg0.N := ⟨4 * (t.val / 4), by have h : t.val < 96 := t.isLt; show _ < 96; omega⟩
/-- The point before `t`. -/
def prevPt (t : Fin cfg0.N) : Fin cfg0.N := ⟨t.val - 1, by have h : t.val < 96 := t.isLt; show _ < 96; omega⟩
/-- The first point. -/
def zeroPt (t : Fin cfg0.N) : Fin cfg0.N := ⟨0, by have h : t.val < 96 := t.isLt; show _ < 96; omega⟩
/-- The row tile within the group. -/
def rowOf (t : Fin cfg0.N) : Fin 4 := ⟨t.val % 4, by omega⟩
/-- The row tile that the small product's window is on. -/
def smRow (t : Fin cfg0.N) : Fin 4 := if t.val / 4 % 12 = 0 then rowOf t else 3

/-- The normalised rows of row tile `s` of the group of `t`. -/
def normed (c : Dev nD) (t : Fin cfg0.N) (s : Fin 4) : Vec F S1024x2048 .bf16 := k0_pay218 (iblk m c 0 (srcPt t s)) (iblk m c 1 (srcPt t s))
/-- The weight block of the column tile of `t`. -/
def weights (c : Dev nD) (t : Fin cfg0.N) : Vec F S1024x2048 .bf16 := k0_pay217 (iblk m c 2 (colPt t))
/-- The small weights. -/
def smallW (c : Dev nD) (t : Fin cfg0.N) : Vec F S128x2048 .bf16 := k0_pay216 (iblk m c 3 (zeroPt t))
/-- The history that point `t` leaves. -/
def tailOf (c : Dev nD) (t : Fin cfg0.N) : Vec F S1x8x1024 .f32 := newTail (rows (normed m c t (rowOf t))) (rows (weights m c t))
/-- The history that point `t` starts from. -/
def histAt (c : Dev nD) (t : Fin cfg0.N) : FVec F S8x1024 .f32 := startHist (rowTile (grid0.coords t)) (tailOf m c (prevPt t))
/-- The output tile of point `t`. -/
def outAt (c : Dev nD) (t : Fin cfg0.N) : Vec F S1024x1024 .bf16 :=
  if 8 ≤ t.val / 4 % 12 then gateTile (rows (normed m c t (rowOf t))) (rows (weights m c t)) else
  if t.val / 4 % 12 = 6 then convTile (iblk m c 4 t) (histAt m c t) (rows (normed m c t (rowOf t))) (rows (weights m c t)) else
  if t.val / 4 % 12 = 4 ∨ t.val / 4 % 12 = 5 then normTile (normScale (grid0.coords t)) (iblk m c 4 t) (histAt m c t) (rows (normed m c t (rowOf t))) (rows (weights m c t)) else
  plainTile (isSilu (grid0.coords t)) (rows (normed m c t (rowOf t))) (rows (weights m c t))
/-- The small product in its window after point `t`. -/
def smallAt (c : Dev nD) (t : Fin cfg0.N) : Vec F S1024x128 .f32 :=
  k0_pay220 (iblk m c 0 (srcPt t (smRow t))) (iblk m c 1 (srcPt t (smRow t))) (smallW m c t)

/-! ## The invariant -/

/-- What the memory kept between points holds after point `t`. -/
structure After (c : Dev nD) (t : Fin cfg0.N) (h : Vec F S4x1024x2048 .bf16) (w : Vec F S1024x2048 .bf16)
    (ws : Vec F S128x2048 .bf16) (tl : Vec F S3x8x1024 .f32) : Prop where
  small : ws = smallW m c t
  slots : ∀ s : Fin 4, (s.val ≤ t.val % 4 ∨ t.val / 4 % 12 ≠ 0) → slot h s = normed m c t s
  block : w = weights m c t
  tails : 4 ≤ t.val / 4 % 12 → t.val / 4 % 12 ≤ 6 → tailAt tl (part (grid0.coords t)) = tailOf m c t

/-- What it holds before point `n`: what the point before left. -/
def Inv (c : Dev nD) (n : ℕ) (h : Vec F S4x1024x2048 .bf16) (w : Vec F S1024x2048 .bf16)
    (ws : Vec F S128x2048 .bf16) (tl : Vec F S3x8x1024 .f32) : Prop := ∀ t : Fin cfg0.N, t.val + 1 = n → After m c t h w ws tl

section Step
variable {c : Dev nD} {t : Fin cfg0.N} {h : Vec F S4x1024x2048 .bf16} {w : Vec F S1024x2048 .bf16}
  {ws : Vec F S128x2048 .bf16} {tl : Vec F S3x8x1024 .f32}

theorem prev_after (H : Inv m c t.val h w ws tl) (ht : t.val ≠ 0) : After m c (prevPt t) h w ws tl :=
  H (prevPt t) (by show t.val - 1 + 1 = t.val; omega)

theorem small_step (H : Inv m c t.val h w ws tl) : wsAfter (grid0.coords t) (iblk m c 3 t) ws = smallW m c t := by
  unfold wsAfter
  by_cases ht : t.val = 0
  · rw [if_pos ((first_iff t).2 ht)]
    rw [show t = zeroPt t from Fin.ext ht]
    rfl
  · rw [if_neg (fun e => ht ((first_iff t).1 e))]
    exact (prev_after m H ht).small

theorem block_step (H : Inv m c t.val h w ws tl) : wAfter (grid0.coords t) (iblk m c 2 t) w = weights m c t := by
  unfold wAfter
  by_cases ht : t.val % 4 = 0
  · rw [if_pos ((newRow_iff t).2 ht)]
    unfold weights
    rw [show colPt t = t from Fin.ext (by show 4 * (t.val / 4) = t.val; omega)]
  · rw [if_neg (fun e => ht ((newRow_iff t).1 e)), (prev_after m H (by omega)).block]
    unfold weights
    rw [show colPt (prevPt t) = colPt t from Fin.ext (by show 4 * ((t.val - 1) / 4) = 4 * (t.val / 4); omega)]

theorem normed_prev (s : Fin 4) (ht : t.val % 48 ≠ 0) : normed m c (prevPt t) s = normed m c t s := by
  unfold normed
  rw [show srcPt (prevPt t) s = srcPt t s from Fin.ext (by show 48 * ((t.val - 1) / 48) + s.val = 48 * (t.val / 48) + s.val; omega)]

theorem slots_step (H : Inv m c t.val h w ws tl) (s : Fin 4) (hs : s.val ≤ t.val % 4 ∨ t.val / 4 % 12 ≠ 0) :
    slot (hAfter (grid0.coords t) (iblk m c 0 t) (iblk m c 1 t) h) s = normed m c t s := by
  have hs4 : s.val < 4 := s.isLt
  unfold hAfter
  by_cases ht : t.val / 4 % 12 = 0
  · rw [if_pos ((cond3_iff t).2 ht)]
    refine (slot_setSlot _ _ _ _).trans ?_
    by_cases e : s.val = t.val % 4
    · rw [if_pos (by rw [coord2_eq]; exact e)]
      unfold normed
      rw [show srcPt t s = t from Fin.ext (by show 48 * (t.val / 48) + s.val = t.val; omega)]
    · rw [if_neg (by rw [coord2_eq]; exact e), (prev_after m H (by omega)).slots s (.inl (by show s.val ≤ (t.val - 1) % 4; omega)),
        normed_prev m s (by omega)]
  · rw [if_neg (fun e => ht ((cond3_iff t).1 e)), (prev_after m H (by omega)).slots s (by
      show s.val ≤ (t.val - 1) % 4 ∨ (t.val - 1) / 4 % 12 ≠ 0; omega), normed_prev m s (by omega)]

theorem own_slot (H : Inv m c t.val h w ws tl) :
    slot (hAfter (grid0.coords t) (iblk m c 0 t) (iblk m c 1 t) h) ((grid0.coords t) 2) = normed m c t (rowOf t) := by
  rw [show ((grid0.coords t) 2 : Fin 4) = rowOf t from Fin.ext (coord2_eq t)]
  exact slots_step m H (rowOf t) (.inl le_rfl)

/-- The history that a convolution starts from is the one that the point before left. -/
theorem hist_step (H : Inv m c t.val h w ws tl) (h4 : 4 ≤ t.val / 4 % 12) (h6 : t.val / 4 % 12 ≤ 6) :
    startHist (rowTile (grid0.coords t)) (tailAt (tlStart (grid0.coords t) tl) (part (grid0.coords t))) = histAt m c t := by
  unfold histAt
  by_cases ht : t.val % 2 = 0
  · exact startHist_start _ (start_bit t ht) _ _
  · congr 1
    unfold tlStart
    rw [if_neg (fun e => ht (by rw [(first_iff t).1 e]))]
    rw [← (prev_after m H (by omega)).tails (by show 4 ≤ (t.val - 1) / 4 % 12; omega) (by show (t.val - 1) / 4 % 12 ≤ 6; omega)]
    congr 1
    refine Fin.ext ?_
    rw [part_eq t h4 h6]
    refine Eq.trans ?_ (part_eq (prevPt t) (by show 4 ≤ (t.val - 1) / 4 % 12; omega) (by show (t.val - 1) / 4 % 12 ≤ 6; omega)).symm
    show t.val / 4 % 12 - 4 = (t.val - 1) / 4 % 12 - 4
    omega

theorem out_step (H : Inv m c t.val h w ws tl) (d : Vec F S1024x1024 .bf16) :
    outAfter (grid0.coords t) (iblk m c 0 t) (iblk m c 1 t) (iblk m c 2 t) (iblk m c 4 t) d h w tl = outAt m c t := by
  unfold outAfter outOf outAt
  rw [own_slot m H, block_step m H]
  by_cases h7 : 8 ≤ t.val / 4 % 12
  · rw [if_pos ((cond7_iff t).2 h7), if_pos h7]
  rw [if_neg (fun e => h7 ((cond7_iff t).1 e)), if_neg h7]
  by_cases h6 : t.val / 4 % 12 = 6
  · rw [if_pos ((cond6_iff t).2 h6), if_pos h6, if_neg (fun e => by have := (cond5_iff t).1 e; omega), hist_step m H (by omega) (by omega)]
  rw [if_neg (fun e => h6 ((cond6_iff t).1 e)), if_neg h6]
  by_cases h5 : t.val / 4 % 12 = 4 ∨ t.val / 4 % 12 = 5
  · rw [if_pos ((cond5_iff t).2 h5), if_pos h5, hist_step m H (by omega) (by omega)]
  rw [if_neg (fun e => h5 ((cond5_iff t).1 e)), if_neg h5, if_pos ((cond4_iff t).2 (by omega))]

theorem tails_step (H : Inv m c t.val h w ws tl) (h4 : 4 ≤ t.val / 4 % 12) (h6 : t.val / 4 % 12 ≤ 6) :
    tailAt (tlAfter (grid0.coords t) (iblk m c 0 t) (iblk m c 1 t) (iblk m c 2 t) h w tl) (part (grid0.coords t)) = tailOf m c t := by
  unfold tlAfter tlOf tailOf
  rw [own_slot m H, block_step m H]
  by_cases h6 : t.val / 4 % 12 = 6
  · rw [if_pos ((cond6_iff t).2 h6), tailAt_setTail]
  · rw [if_neg (fun e => h6 ((cond6_iff t).1 e)), if_pos ((cond5_iff t).2 (by omega)), tailAt_setTail]

/-- Each point keeps the invariant. -/
theorem inv_step (H : Inv m c t.val h w ws tl) :
    Inv m c (t.val + 1) (hAfter (grid0.coords t) (iblk m c 0 t) (iblk m c 1 t) h) (wAfter (grid0.coords t) (iblk m c 2 t) w)
      (wsAfter (grid0.coords t) (iblk m c 3 t) ws) (tlAfter (grid0.coords t) (iblk m c 0 t) (iblk m c 1 t) (iblk m c 2 t) h w tl) := by
  intro t' ht'
  obtain rfl : t' = t := Fin.ext (by omega)
  exact ⟨small_step m H, slots_step m H, block_step m H, tails_step m H⟩

/-- In a later column tile the small product stays. -/
theorem small_same (ht : t.val / 4 % 12 ≠ 0) : smallAt m c (prevPt t) = smallAt m c t := by
  unfold smallAt smRow
  rw [if_neg ht, show srcPt (prevPt t) (if (prevPt t).val / 4 % 12 = 0 then rowOf (prevPt t) else 3) = srcPt t 3 from Fin.ext (by
    show 48 * ((t.val - 1) / 48) + (if (t.val - 1) / 4 % 12 = 0 then rowOf (prevPt t) else (3 : Fin 4)).val = 48 * (t.val / 48) + 3
    by_cases e : (t.val - 1) / 4 % 12 = 0
    · rw [if_pos e]
      show _ + (t.val - 1) % 4 = _
      omega
    · rw [if_neg e]
      show _ + 3 = _
      omega)]
  rfl

/-- The small product after a point, where before a later column tile its window holds what the point before left. -/
theorem sm_step (H : Inv m c t.val h w ws tl) (sm : Vec F S1024x128 .f32) (hsm : t.val / 4 % 12 ≠ 0 → sm = smallAt m c (prevPt t)) :
    smAfter (grid0.coords t) (iblk m c 0 t) (iblk m c 1 t) (iblk m c 3 t) sm ws = smallAt m c t := by
  unfold smAfter
  rw [small_step m H]
  by_cases ht : t.val / 4 % 12 = 0
  · rw [if_pos ((cond3_iff t).2 ht)]
    unfold smallAt smRow
    rw [if_pos ht, show srcPt t (rowOf t) = t from Fin.ext (by show 48 * (t.val / 48) + t.val % 4 = t.val; omega)]
  · rw [if_neg (fun e => ht ((cond3_iff t).1 e)), hsm ht, small_same m ht]
end Step

end Cert.KernelIdeal.Inproj

end
-- ==== Proof.Inproj.Launch.lean ====
/- The kernel's run: every point's body keeps the invariant, so the launch ends with the outputs that the points leave. -/
module

public import proofs.«01_k».proof.Proof.Inproj.State
public import Idealize.ShloMosaic.Lib.Claim

@[expose] public section

set_option maxRecDepth 16384

noncomputable section

namespace Cert.KernelIdeal.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's memory that no window stages: the row tiles, the weight block, the small weights, the histories. -/
abbrev hMem : Memref sig .tc .vmem S4x1024x2048 .bf16 := Memref.whole cc0_scratch0
abbrev wMem : Memref sig .tc .vmem S1024x2048 .bf16 := Memref.whole cc0_scratch1
abbrev wsMem : Memref sig .tc .vmem S128x2048 .bf16 := Memref.whole cc0_scratch2
abbrev tlMem : Memref sig .tc .vmem S3x8x1024 .f32 := Memref.whole cc0_scratch3

/-- The memory before point `n`, at contents that satisfy the invariant. -/
def mem (c : Dev nD) (n : ℕ) : sProp 𝕄 :=
  iprop((∃ h : Vec F S4x1024x2048 .bf16, ∃ w : Vec F S1024x2048 .bf16, ∃ ws : Vec F S128x2048 .bf16, ∃ tl : Vec F S3x8x1024 .f32,
    ⌜Inv m c n h w ws tl⌝ ∗ owns (c : Thread nD τ) hMem fullShare h ∗ owns (c : Thread nD τ) wMem fullShare w
      ∗ owns (c : Thread nD τ) wsMem fullShare ws ∗ owns (c : Thread nD τ) tlMem fullShare tl) ∗ (∃ r, prngReg c r))

/-- The proof data: the inputs' blocks stay, the outputs take the tiles of `outAt` and `smallAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => smallAt m c t
  Φ n := mem m c n.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem after_6 (c : Dev nD) (t : Fin cfg0.N) : (dats m 0 c).after 6 t = smallAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem idle_5 : ∀ t : Fin grid0.N, idle0 5 (grid0.coords t) = false := by decide +kernel
theorem idle_6 : ∀ t : Fin grid0.N, idle0 6 (grid0.coords t) = decide (t.val / 4 % 12 ≠ 0) := by decide +kernel

/-- In a later column tile, the small product's window holds what the point before left. -/
theorem before_6 (c : Dev nD) : ∀ (n : ℕ) (t : Fin cfg0.N) (_ : t.val = n) (d) (_ : t.val / 4 % 12 ≠ 0), (dats m 0 c).before 6 t d = smallAt m c (prevPt t)
  | 0, t, hn, d, ht => absurd (by rw [hn]) ht
  | n + 1, t, hn, d, ht => by
    rw [(dats m 0 c).before_of_pos 6 t (by omega) (win0_6.fetch_out rfl t) d]
    have hk : (cfg0.win 6).flush ⟨t.val - 1, Nat.lt_of_le_of_lt (Nat.sub_le _ _) t.isLt⟩ = false := keep6 t ht
    rw [hk, if_neg Bool.false_ne_true]
    show (dats m 0 c).left 6 (prevPt t) d = _
    unfold Dat.left
    have hi : cfg0.idle 6 (cfg0.grid.coords (prevPt t)) = decide ((t.val - 1) / 4 % 12 ≠ 0) := idle_6 (prevPt t)
    rw [hi]
    by_cases hp : (t.val - 1) / 4 % 12 = 0
    · rw [decide_eq_false (by simpa using hp)]
      show (dats m 0 c).kept 6 (prevPt t) d = _
      unfold Dat.kept
      rw [Pipeline.fill_of_clip_none (cfg := cfg0) 6 _ (fun _ => rfl) d ((dats m 0 c).after 6 (prevPt t)), Window.fill_cut]
      exact after_6 m c (prevPt t)
    · rw [decide_eq_true hp]
      show (dats m 0 c).before 6 (prevPt t) d = _
      rw [before_6 c n (prevPt t) (by show t.val - 1 = n; omega) d hp]
      exact small_same m hp

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point keeps the invariant and leaves the point's tiles. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6]
  rw [show (dats m 0 c).Φ t.castSucc = mem m c t.val from rfl, show (dats m 0 c).Φ t.succ = mem m c (t.val + 1) from rfl]
  unfold mem
  iintro ⟨⟨⟨%h, %w, %ws, %tl, %H, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  have ho := out_step m H ((dats m 0 c).before 5 t d5)
  have hs := sm_step m H ((dats m 0 c).before 6 t d6) (fun e => before_6 m c _ t rfl d6 e)
  have hi := inv_step m H
  iapply (body_run c (grid0.coords t) _ _ _ _ _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) h w ws tl Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [HS0]
  · iexact HS0
  isplitl [HS1]
  · iexact HS1
  isplitl [HS2]
  · iexact HS2
  isplitl [HS3]
  · iexact HS3
  rw [ho, hs]
  iintro ⟨H0, H1, H2, H3, H4, H5, H6, HS0, HS1, HS2, HS3⟩
  isplitl [HS0 HS1 HS2 HS3 Hg]
  · isplitl [HS0 HS1 HS2 HS3]
    · iexists _, _, _, _
      isplitr
      · ipureintro
        exact hi
      isplitl [HS0]
      · iexact HS0
      isplitl [HS1]
      · iexact HS1
      isplitl [HS2]
      · iexact HS2
      iexact HS3
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  have e5 : cfg0.idle 5 (cfg0.grid.coords t) = false := idle_5 t
  have e6 : cfg0.idle 6 (cfg0.grid.coords t) = decide (t.val / 4 % 12 ≠ 0) := idle_6 t
  rw [e5, e6]
  by_cases h : t.val / 4 % 12 = 0
  · rw [decide_eq_false (by simpa using h)]
  · rw [decide_eq_true h]
    cases hf : (cfg0.win 6).flush t
    · iintro ⟨HI, Ho, H0, H1, H2, H3, H4, H5, H6⟩
      isplitl [HI]
      · iexact HI
      isplitl [Ho]
      · iexact Ho
      isplitl [H0]
      · iexact H0
      isplitl [H1]
      · iexact H1
      isplitl [H2]
      · iexact H2
      isplitl [H3]
      · iexact H3
      isplitl [H4]
      · iexact H4
      isplitl [H5]
      · iexact H5
      iexists ((dats m 0 c).after 6 t)
      rw [before_6 m c _ t rfl _ h, small_same m h, after_6]
      iexact H6
    · exact .rfl

/-- The scoped memory at any contents is the four buffers at some contents. -/
theorem rest_eq (c : Dev nD) : (Pipeline.ΦA spec0 c : sProp 𝕄) = iprop(iprop((∃ d, owns (c : Thread nD τ) hMem fullShare d)
    ∗ (∃ d, owns (c : Thread nD τ) wMem fullShare d) ∗ (∃ d, owns (c : Thread nD τ) wsMem fullShare d) ∗ (∃ d, owns (c : Thread nD τ) tlMem fullShare d)) ∗ (∃ r, prngReg c r)) := by
  unfold Pipeline.ΦA; rw [scopedRest0_eq]; simp only [hMem, wMem, wsMem, tlMem, owns_whole]; try rfl

theorem mem_start (c : Dev nD) : (Pipeline.ΦA spec0 c : sProp 𝕄) ⊢ mem m c 0 := by
  rw [rest_eq]
  unfold mem
  iintro ⟨⟨⟨%h, H0⟩, ⟨%w, H1⟩, ⟨%ws, H2⟩, ⟨%tl, H3⟩⟩, Hg⟩
  isplitl [H0 H1 H2 H3]
  · iexists h, w, ws, tl
    isplitr
    · ipureintro
      intro t ht
      omega
    isplitl [H0]
    · iexact H0
    isplitl [H1]
    · iexact H1
    isplitl [H2]
    · iexact H2
    iexact H3
  iexact Hg

theorem mem_end (c : Dev nD) (n : ℕ) : mem m c n ⊢ (Pipeline.ΦA spec0 c : sProp 𝕄) := by
  rw [rest_eq]
  unfold mem
  iintro ⟨⟨%h, %w, %ws, %tl, %H, H0, H1, H2, H3⟩, Hg⟩
  isplitl [H0 H1 H2 H3]
  · isplitl [H0]
    · iexists h; iexact H0
    isplitl [H1]
    · iexists w; iexact H1
    isplitl [H2]
    · iexists ws; iexact H2
    iexists tl; iexact H3
  iexact Hg

set_option backward.isDefEq.respectTransparency.types false in
/-- The launch: it ends with the arrays that the points' tiles make, and with every counter at zero. -/
theorem run_main_quiescent : θ_run defs (onTc (τ := τ) (main (F := F))) (s₀ m ρ)
    (fun r => (Pipeline.FramePost cfgs (dats m) (0 : Fin 1) (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => mem_start m c) (hout := fun c => mem_end m c _)

theorem run_main : θ_run defs (onTc (τ := τ) (main (F := F))) (s₀ m ρ) (Pipeline.FramePost cfgs (dats m) (0 : Fin 1) (V m)) :=
  (θ_run defs _ _).mono (fun _ h => h.1) (run_main_quiescent m ρ)

/-- The frame: the run ends with the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Inproj

end
-- ==== Proof.Inproj.Blocks.lean ====
/- The blocks that the kernel's windows hold, in terms of the arguments. -/
module

public import proofs.«01_k».proof.Proof.Inproj.State
public import proofs.«01_k».proof.Proof.Inproj.Spec
public import Idealize.ShloMosaic.Lib.Pipeline.Value

@[expose] public section

set_option maxRecDepth 16384

noncomputable section

namespace Cert.KernelIdeal.Inproj

open Cert.KernelIdeal Cert.KernelIdeal.Gen Cert.Inproj
open Idealize Idealize.ShloMosaic Idealize.ShloMosaic.TcCoe Idealize.ShloMosaic.ValueIdx

variable (m : (ℓ : Loc nD τ sig) → Buf (Elt Ideal) ℓ) (c : Dev nD)

/-- The input of the layer. -/
abbrev argX : ℕ → ℕ → EReal := xOf (m ((c : Thread nD τ).loc main_arg0))
/-- The gain of the norm. -/
abbrev argG : ℕ → EReal := gOf (m ((c : Thread nD τ).loc main_arg1))
/-- The weights. -/
abbrev argW : ℕ → ℕ → EReal := wOf (m ((c : Thread nD τ).loc main_arg2))
/-- The coefficients of the short convolution. -/
abbrev argK : ℕ → ℕ → EReal := kOf (m ((c : Thread nD τ).loc main_arg3))

/-! ## The arrays that the host prepares -/

theorem V_v0 : V m c main_v0 = shapeCast S8192x2048 (m ((c : Thread nD τ).loc main_arg0)) shapeCasts_S4x2048x2048_S8192x2048 := rfl
theorem V_v2 : V m c main_v2 = broadcastInDim S1x2048 ![1] bcast_S2048_S1x2048_1
    (shapeCast S2048 (m ((c : Thread nD τ).loc main_arg1)) shapeCasts_S1x2048_S2048) := rfl
theorem V_v4 : V m c main_v4 = transpose S12304x2048 [1, 0]
    (shapeCast S2048x12304 (m ((c : Thread nD τ).loc main_arg2)) shapeCasts_S1x2048x12304_S2048x12304) transposes_S2048x12304_S12304x2048_1_0 := rfl
theorem V_v5 : V m c main_v5 = shapeCast S4x3072 (m ((c : Thread nD τ).loc main_arg3)) shapeCasts_S1x4x3072_S4x3072 := rfl

/-- The tokens, one row each. -/
theorem tokens_read (i : S8192x2048.Idx) : V m c main_v0 i = argX m c (i 0).val (i 1).val := by
  have l0 : (i 0).val < 8192 := (i 0).isLt
  have l1 : (i 1).val < 2048 := (i 1).isLt
  rw [V_v0]
  refine Eq.trans (shapeCast_apply (t := S8192x2048) _ shapeCasts_S4x2048x2048_S8192x2048 i
    (ix3 ⟨(i 0).val / 2048, by omega⟩ ⟨(i 0).val % 2048, by omega⟩ ⟨(i 1).val, l1⟩ : S4x2048x2048.Idx) ?_) ?_
  · rw [Shape.rowMajor_val_three, Shape.rowMajor_val_two]
    show ((i 0).val / 2048 * 2048 + (i 0).val % 2048) * 2048 + (i 1).val = (i 0).val * 2048 + (i 1).val
    omega
  · exact xOf_eq _ _ (i 0).val (i 1).val rfl rfl rfl

/-- The gain, as a row. -/
theorem gain_read (i : S1x2048.Idx) : V m c main_v2 i = argG m c (i 1).val := by
  have l1 : (i 1).val < 2048 := (i 1).isLt
  rw [V_v2]
  refine Eq.trans (broadcastInDim_apply (t := S1x2048) _ bcast_S2048_S1x2048_1 _ i (ix1 ⟨(i 1).val, l1⟩ : S2048.Idx) (fun a => ?_)) ?_
  · match a with
    | ⟨0, _⟩ => show (i 1).val = if (2048 : ℕ) = 1 then 0 else (i 1).val; rw [if_neg (by decide)]
  refine Eq.trans (shapeCast_apply (t := S2048) _ shapeCasts_S1x2048_S2048 _ (ix2 0 ⟨(i 1).val, l1⟩ : S1x2048.Idx) ?_) ?_
  · rw [Shape.rowMajor_val_two, Shape.rowMajor_val_one]
    show 0 * 2048 + (i 1).val = (i 1).val
    omega
  · exact gOf_eq _ _ (i 1).val rfl

/-- The weights, one row for each column of the projection. -/
theorem weight_read (i : S12304x2048.Idx) : V m c main_v4 i = argW m c (i 1).val (i 0).val := by
  have l0 : (i 0).val < 12304 := (i 0).isLt
  have l1 : (i 1).val < 2048 := (i 1).isLt
  rw [V_v4]
  refine Eq.trans (transpose_apply (t := S12304x2048) _ _ transposes_S2048x12304_S12304x2048_1_0 i
    (ix2 ⟨(i 1).val, l1⟩ ⟨(i 0).val, l0⟩ : S2048x12304.Idx) (fun b => ?_)) ?_
  · match b with
    | ⟨0, _⟩ => rfl
    | ⟨1, _⟩ => rfl
  refine Eq.trans (shapeCast_apply (t := S2048x12304) _ shapeCasts_S1x2048x12304_S2048x12304 _
    (ix3 0 ⟨(i 1).val, l1⟩ ⟨(i 0).val, l0⟩ : S1x2048x12304.Idx) ?_) ?_
  · rw [Shape.rowMajor_val_three, Shape.rowMajor_val_two]
    show (0 * 2048 + (i 1).val) * 12304 + (i 0).val = (i 1).val * 12304 + (i 0).val
    omega
  · exact wOf_eq _ _ (i 1).val (i 0).val rfl rfl

/-- The convolution's coefficients. -/
theorem coeff_read (i : S4x3072.Idx) : V m c main_v5 i = argK m c (i 0).val (i 1).val := by
  have l0 : (i 0).val < 4 := (i 0).isLt
  have l1 : (i 1).val < 3072 := (i 1).isLt
  rw [V_v5]
  refine Eq.trans (shapeCast_apply (t := S4x3072) _ shapeCasts_S1x4x3072_S4x3072 i
    (ix3 0 ⟨(i 0).val, l0⟩ ⟨(i 1).val, l1⟩ : S1x4x3072.Idx) ?_) ?_
  · rw [Shape.rowMajor_val_three, Shape.rowMajor_val_two]
    show (0 * 4 + (i 0).val) * 3072 + (i 1).val = (i 0).val * 3072 + (i 1).val
    omega
  · exact kOf_eq _ _ (i 0).val (i 1).val rfl rfl

/-! ## Where the windows stand -/

theorem index_0 : ∀ t : Fin cfg0.N, win0_0.index t (0 : Fin 2) = 4 * (t.val / 48) + (if t.val / 4 % 12 = 0 then t.val % 4 else 3)
    ∧ win0_0.index t (1 : Fin 2) = 0 := (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 1024 * (t.val / 4 % 12) + (if 8 ≤ t.val / 4 % 12 then 16 else 0)
    ∧ win0_2.index t (1 : Fin 2) = 0 := (by decide +kernel : ∀ t : Fin grid0.N, _)
theorem index_3 : ∀ t : Fin cfg0.N, win0_3.index t (0 : Fin 2) = 512 ∧ win0_3.index t (1 : Fin 2) = 0 :=
  (by decide +kernel : ∀ t : Fin grid0.N, _)
theorem index_4 : ∀ t : Fin cfg0.N, 4 ≤ t.val / 4 % 12 → t.val / 4 % 12 ≤ 6 →
    win0_4.index t (0 : Fin 2) = 0 ∧ win0_4.index t (1 : Fin 2) = t.val / 4 % 12 - 4 := (by decide +kernel : ∀ t : Fin grid0.N, _)
theorem index_5 : ∀ t : Fin cfg0.N, win0_5.index t (0 : Fin 2) = 4 * (t.val / 48) + t.val % 4 ∧ win0_5.index t (1 : Fin 2) = t.val / 4 % 12 :=
  (by decide +kernel : ∀ t : Fin grid0.N, _)
theorem index_6 : ∀ t : Fin cfg0.N, win0_6.index t (0 : Fin 2) = 4 * (t.val / 48) + (if t.val / 4 % 12 = 0 then t.val % 4 else 3)
    ∧ win0_6.index t (1 : Fin 2) = 0 := (by decide +kernel : ∀ t : Fin grid0.N, _)

/-! ## The blocks -/

variable (t : Fin cfg0.N)

/-- A block of tokens. -/
theorem block_0 (s : Fin 4) (y : S1024x2048.Idx) :
    iblk m c 0 (srcPt t s) y = argX m c (1024 * (4 * (t.val / 48) + s.val) + (y 0).val) (y 1).val := by
  have hs : s.val < 4 := s.isLt
  have lt : t.val < 96 := t.isLt
  have e := index_0 (srcPt t s)
  have e0 : win0_0.index (srcPt t s) (0 : Fin 2) = 4 * (t.val / 48) + s.val := by
    rw [e.1]
    show 4 * ((48 * (t.val / 48) + s.val) / 48) + (if (48 * (t.val / 48) + s.val) / 4 % 12 = 0 then (48 * (t.val / 48) + s.val) % 4 else 3) = _
    rw [if_pos (by omega)]
    omega
  refine Eq.trans (tokens_read m c (((cfg0.win 0).blk (srcPt t s)).view.emb y)) ?_
  congr 1
  · show win0_0.index (srcPt t s) (0 : Fin 2) * 1024 + 1 * (y 0).val = _
    omega
  · show win0_0.index (srcPt t s) (1 : Fin 2) * 2048 + 1 * (y 1).val = _
    omega

/-- The gain. -/
theorem block_1 (y : S1x2048.Idx) : iblk m c 1 t y = argG m c (y 1).val := by
  have e := index_1 t
  refine Eq.trans (gain_read m c (((cfg0.win 1).blk t).view.emb y)) ?_
  congr 1
  show win0_1.index t (1 : Fin 2) * 2048 + 1 * (y 1).val = _
  omega

/-- A block of weights: it starts sixteen rows later past the small projections. -/
theorem block_2 (y : S1024x2048.Idx) :
    iblk m c 2 (colPt t) y = argW m c (y 1).val (1024 * (t.val / 4 % 12) + (if 8 ≤ t.val / 4 % 12 then 16 else 0) + (y 0).val) := by
  have e := index_2 (colPt t)
  have hc : (colPt t).val / 4 % 12 = t.val / 4 % 12 := by show 4 * (t.val / 4) / 4 % 12 = _; omega
  rw [hc] at e
  refine Eq.trans (weight_read m c (((cfg0.win 2).blk (colPt t)).view.emb y)) ?_
  congr 1
  · show win0_2.index (colPt t) (1 : Fin 2) + 1 * (y 1).val = _
    omega
  · show win0_2.index (colPt t) (0 : Fin 2) + 1 * (y 0).val = _
    omega

/-- The small projections' weights. -/
theorem block_3 (y : S16x2048.Idx) : iblk m c 3 t y = argW m c (y 1).val (8192 + (y 0).val) := by
  have e := index_3 t
  refine Eq.trans (weight_read m c (((cfg0.win 3).blk t).view.emb y)) ?_
  congr 1
  · show win0_3.index t (1 : Fin 2) * 2048 + 1 * (y 1).val = _
    omega
  · show win0_3.index t (0 : Fin 2) * 16 + 1 * (y 0).val = _
    omega

/-- A block of the convolution's coefficients. -/
theorem block_4 (h4 : 4 ≤ t.val / 4 % 12) (h6 : t.val / 4 % 12 ≤ 6) (y : S4x1024.Idx) :
    iblk m c 4 t y = argK m c (y 0).val (1024 * (t.val / 4 % 12 - 4) + (y 1).val) := by
  have e := index_4 t h4 h6
  refine Eq.trans (coeff_read m c (((cfg0.win 4).blk t).view.emb y)) ?_
  congr 1
  · show win0_4.index t (0 : Fin 2) * 4 + 1 * (y 0).val = _
    omega
  · show win0_4.index t (1 : Fin 2) * 1024 + 1 * (y 1).val = _
    omega

end Cert.KernelIdeal.Inproj
-- ==== Proof.Inproj.Math.lean ====
module

public import proofs.«01_k».proof.Proof.Inproj.Spec
public import Idealize.ShloMosaic.Lib.IdealHost

@[expose] public section

/-! Facts about the extended reals that the kernel's formulas need: the sigmoid from the hyperbolic tangent, SiLU from
half of its argument, and that a token's norm, and with finite weights its projection, is real. -/

namespace Cert.Inproj

open Idealize Idealize.ShloMosaic

/-- One half, as the kernel writes it. -/
noncomputable def half : EReal := Ideal.ofBits .f32 0x3F000000#32

theorem half_eq : half = ((1 / 2 : ℝ) : EReal) := by
  unfold half
  simp [Ideal.ofBits, Ideal.ieee]
  rw [← EReal.coe_mul]
  norm_num

theorem width_eq : width = ((2048 : ℝ) : EReal) := by
  unfold width
  simp [Ideal.ofBits, Ideal.ieee]
  rw [← EReal.coe_mul]
  norm_num

theorem eps_pos : ∃ e : ℝ, 0 < e ∧ eps = (e : EReal) := by
  unfold eps
  refine ⟨_, ?_, by simp only [Ideal.ofBits, Ideal.ieee]; rw [if_neg (by decide), if_neg (by decide)]⟩
  rw [if_neg (by decide)]
  positivity

theorem tanh_half (r : ℝ) : (1 / 2 : ℝ) * (Real.tanh ((1 / 2) * r) + 1) = (1 + Real.exp (-r))⁻¹ := by
  have h1 : Real.exp (1 / 2 * r) * Real.exp (-(1 / 2 * r)) = 1 := by rw [← Real.exp_add]; simp
  have h2 : Real.exp (-r) = Real.exp (-(1 / 2 * r)) * Real.exp (-(1 / 2 * r)) := by rw [← Real.exp_add]; congr 1; ring
  have p1 := Real.exp_pos (1 / 2 * r)
  have p2 := Real.exp_pos (-(1 / 2 * r))
  rw [Real.tanh_eq_sinh_div_cosh, Real.sinh_eq, Real.cosh_eq, h2]
  generalize Real.exp (1 / 2 * r) = a at *
  generalize Real.exp (-(1 / 2 * r)) = b at *
  have hb : b = a⁻¹ := eq_inv_of_mul_eq_one_right h1
  subst hb
  have ha : a ≠ 0 := p1.ne'
  have q : a + a⁻¹ ≠ 0 := by positivity
  have q' : 1 + a⁻¹ * a⁻¹ ≠ 0 := by positivity
  field_simp
  ring

/-- The kernel's sigmoid is the logistic function at every extended real. -/
theorem sigmoid_eq (y : EReal) : half * (Ideal.tanh (half * y) + 1) = logi y := by
  show _ = Ideal.logistic y
  rw [half_eq]
  induction y with
  | bot =>
    rw [EReal.coe_mul_bot_of_pos (by norm_num), Ideal.tanh_bot, Ideal.logistic_bot]
    rw [show (-1 : EReal) + 1 = ((-1 + 1 : ℝ) : EReal) by rw [EReal.coe_add]; rfl]
    simp
  | top =>
    rw [EReal.coe_mul_top_of_pos (by norm_num), Ideal.tanh_top, Ideal.logistic_top]
    rw [show (1 : EReal) + 1 = ((1 + 1 : ℝ) : EReal) by rw [EReal.coe_add]; rfl, ← EReal.coe_mul]
    norm_num
  | coe r =>
    rw [← EReal.coe_mul, Ideal.tanh_coe, Ideal.logistic_coe, show (1 : EReal) = ((1 : ℝ) : EReal) from rfl, ← EReal.coe_add,
      ← EReal.coe_mul, tanh_half]

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem isReal_zero : IsReal 0 := ⟨0, rfl⟩
theorem isReal_sum {ι : Type} (s : Finset ι) (f : ι → EReal) (h : ∀ i, IsReal (f i)) : IsReal (∑ i ∈ s, f i) := by
  classical
  induction s using Finset.induction_on with
  | empty => exact isReal_zero
  | insert a s ha ih => rw [Finset.sum_insert ha]; exact (h a).add ih

theorem isReal_iff (x : EReal) : IsReal x ↔ x ≠ ⊥ ∧ x ≠ ⊤ := by
  induction x with
  | bot => exact ⟨fun ⟨r, h⟩ => absurd h.symm (EReal.coe_ne_bot r), fun h => absurd rfl h.1⟩
  | top => exact ⟨fun ⟨r, h⟩ => absurd h.symm (EReal.coe_ne_top r), fun h => absurd rfl h.2⟩
  | coe r => exact ⟨fun _ => ⟨EReal.coe_ne_bot r, EReal.coe_ne_top r⟩, fun _ => ⟨r, rfl⟩⟩

/-- SiLU from half of a real argument. -/
theorem silu_half (c : EReal) (h : IsReal c) : half * c + half * c * Ideal.tanh (half * c) = silu c := by
  obtain ⟨r, rfl⟩ := h
  show _ = (r : EReal) * Ideal.logistic r
  rw [half_eq, ← EReal.coe_mul, Ideal.tanh_coe, ← EReal.coe_mul, ← EReal.coe_add, Ideal.logistic_coe, ← EReal.coe_mul, ← tanh_half]
  congr 1
  ring

/-- Four taps with halved weights, in the kernel's order, are half of the convolution. -/
theorem half_taps (e0 e1 e2 e3 k0 k1 k2 k3 : EReal) (h0 : IsReal e0) (h1 : IsReal e1) (h2 : IsReal e2) (h3 : IsReal e3)
    (g0 : IsReal k0) (g1 : IsReal k1) (g2 : IsReal k2) (g3 : IsReal k3) :
    (half * k3 * e0 + half * k2 * e1) + (half * k1 * e2 + half * k0 * e3)
      = half * (e3 * k0 + e2 * k1 + e1 * k2 + e0 * k3) := by
  obtain ⟨a0, rfl⟩ := h0; obtain ⟨a1, rfl⟩ := h1; obtain ⟨a2, rfl⟩ := h2; obtain ⟨a3, rfl⟩ := h3
  obtain ⟨b0, rfl⟩ := g0; obtain ⟨b1, rfl⟩ := g1; obtain ⟨b2, rfl⟩ := g2; obtain ⟨b3, rfl⟩ := g3
  rw [half_eq]
  simp only [← EReal.coe_mul, ← EReal.coe_add]
  congr 1
  ring

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem mul_self_nonneg' (x : EReal) : 0 ≤ x * x := by
  induction x with
  | bot => simp
  | top => simp
  | coe r => rw [← EReal.coe_mul]; exact_mod_cast mul_self_nonneg r

/-- A token's element times the token's reciprocal root mean square is real, whatever the token holds. -/
theorem isReal_normed (f : Fin 2048 → EReal) (k : Fin 2048) :
    IsReal (f k * Ideal.rsqrt (Ideal.div (∑ k : Fin 2048, f k * f k) width + eps)) := by
  obtain ⟨e, he, hee⟩ := eps_pos
  rw [hee, width_eq, Ideal.div_coe (by norm_num)]
  by_cases h : ∀ k, IsReal (f k)
  · choose g hg using h
    have hs : (∑ k : Fin 2048, f k * f k) = ((∑ k : Fin 2048, g k * g k : ℝ) : EReal) := by
      rw [coe_sum]
      exact Finset.sum_congr rfl fun k _ => by rw [hg k, EReal.coe_mul]
    have hp : 0 ≤ ∑ k : Fin 2048, g k * g k := Finset.sum_nonneg fun k _ => mul_self_nonneg _
    rw [hs, ← EReal.coe_mul, ← EReal.coe_add, Ideal.rsqrt_coe, if_neg (by nlinarith), if_neg (by nlinarith)]
    exact IsReal.mul ⟨g k, hg k⟩ ⟨_, rfl⟩
  · obtain ⟨j, hj⟩ := not_forall.mp h
    have hjj : f j * f j = ⊤ := by
      rcases not_and_or.mp (fun h => hj ((isReal_iff _).mpr h)) with h | h
      · rw [not_not.mp h]; simp
      · rw [not_not.mp h]; simp
    have hs : (∑ k : Fin 2048, f k * f k) = ⊤ := by
      rw [← top_le_iff, ← hjj]
      exact Finset.single_le_sum (f := fun k => f k * f k) (fun k _ => mul_self_nonneg' (f k)) (Finset.mem_univ j)
    rw [hs, EReal.top_mul_coe_of_pos (by norm_num), EReal.top_add_coe, Ideal.rsqrt_top, mul_zero]
    exact isReal_zero

variable (X : ℕ → ℕ → EReal) (G : ℕ → EReal) (W : ℕ → ℕ → EReal) (K : ℕ → ℕ → EReal)

/-- With a finite gain and a finite column of weights the projection is real, whatever the token holds. -/
theorem isReal_proj (R n : ℕ) (hG : ∀ k : Fin 2048, IsReal (G k)) (hW : ∀ k : Fin 2048, IsReal (W k n)) : IsReal (proj X G W R n) :=
  isReal_sum _ _ fun k => ((isReal_normed (fun k : Fin 2048 => X R k) k).mul (hG k)).mul (hW k)

theorem isReal_past (R d c : ℕ) (hG : ∀ k : Fin 2048, IsReal (G k)) (hW : ∀ k : Fin 2048, IsReal (W k (4096 + c))) :
    IsReal (past X G W R d c) := by
  unfold past
  split_ifs
  · exact isReal_zero
  · exact isReal_proj X G W _ _ hG hW

end Cert.Inproj
-- ==== Proof.Inproj.TileRead.lean ====
/- The kernel's tiles read at an index, at the extended reals. -/
module

public import proofs.«01_k».proof.Proof.Inproj.Tile
public import proofs.«01_k».proof.Proof.Inproj.Math
public import Idealize.ShloMosaic.Lib.KernelVsHost
public import Idealize.ShloMosaic.Lib.Pipeline.Value

@[expose] public section

set_option maxRecDepth 16384

noncomputable section

namespace Cert.KernelIdeal.Inproj

open Cert.KernelIdeal Cert.KernelIdeal.Gen Cert.Inproj
open Idealize Idealize.ShloMosaic Idealize.ShloMosaic.ValueIdx

/-- The kernel's sigmoid at an index. -/
theorem sigm_apply (v : FVec Ideal S256x256 .f32) (x : S256x256.Idx) : sigm (F := Ideal) v x = logi (v x) := by
  rw [← sigmoid_eq, ← Ideal.ofBits_one_f32]
  rfl

theorem gateChunk_apply (v : FVec Ideal S256x256 .f32) (x : S256x256.Idx) : gateChunk (F := Ideal) v x = logi (v x) :=
  sigm_apply v x

theorem plainChunk_apply (b : BitVec 1) (v : FVec Ideal S256x256 .f32) (x : S256x256.Idx) :
    plainChunk (F := Ideal) b v x = if b = 1 then silu (v x) else v x := by
  show v x * (Scalar.select b (sigm v) (broadcast S256x256 (Scalar.ofBits .f32 0x3F800000#32))) x = _
  unfold Scalar.select
  split_ifs
  · show v x * sigm v x = _
    rw [sigm_apply]
    rfl
  · show v x * Ideal.ofBits .f32 0x3F800000#32 = _
    rw [Ideal.ofBits_one_f32, mul_one]

theorem lhs_acc (i : S256x256.Idx) (q : dot_S256x2048_S256x2048_S256x256_1_1_0_0_n_n.contr.Idx) :
    (dot_S256x2048_S256x2048_S256x256_1_1_0_0_n_n.lhsIdx i q 0).val = (i 0).val := by
  unfold DotDims.lhsIdx
  rw [dif_neg (show ¬(0 : Fin S256x2048.rank) ∈ dot_S256x2048_S256x2048_S256x256_1_1_0_0_n_n.lhsBatch by decide), dif_pos (show (0 : Fin S256x2048.rank) ∈ dot_S256x2048_S256x2048_S256x256_1_1_0_0_n_n.lhsNonContracting by decide)]
  rfl

theorem rhs_acc (i : S256x256.Idx) (q : dot_S256x2048_S256x2048_S256x256_1_1_0_0_n_n.contr.Idx) :
    (dot_S256x2048_S256x2048_S256x256_1_1_0_0_n_n.rhsIdx i q 0).val = (i 1).val := by
  unfold DotDims.rhsIdx
  rw [dif_neg (show ¬(0 : Fin S256x2048.rank) ∈ dot_S256x2048_S256x2048_S256x256_1_1_0_0_n_n.rhsBatch by decide), dif_pos (show (0 : Fin S256x2048.rank) ∈ dot_S256x2048_S256x2048_S256x256_1_1_0_0_n_n.rhsNonContracting by decide)]
  rfl

/-- A chunk's product at an index: the sum over the 2048 inner columns. -/
theorem accOf_apply (a b : Vec Ideal S256x2048 .bf16) (x : S256x256.Idx) :
    accOf (F := Ideal) a b x = ∑ k : Fin 2048, (a (ix2 ⟨(x 0).val, (x 0).isLt⟩ k) : EReal) * b (ix2 ⟨(x 1).val, (x 1).isLt⟩ k) := by
  unfold accOf
  simp only [matmul]
  rw [Ideal.matmul_constant_zero_apply, ← Equiv.sum_comp (ValueIdx.contrEquiv1 dot_S256x2048_S256x2048_S256x256_1_1_0_0_n_n 2048 rfl rfl).symm]
  refine Finset.sum_congr rfl fun k _ => ?_
  have hk := ValueIdx.contrEquiv1_symm_val dot_S256x2048_S256x2048_S256x256_1_1_0_0_n_n 2048 rfl rfl k
  have el : dot_S256x2048_S256x2048_S256x256_1_1_0_0_n_n.lhsIdx x ((ValueIdx.contrEquiv1 dot_S256x2048_S256x2048_S256x256_1_1_0_0_n_n 2048 rfl rfl).symm k)
      = ix2 ⟨(x 0).val, (x 0).isLt⟩ k := funext fun a => Fin.ext (by
    match a with
    | ⟨0, _⟩ => exact lhs_acc _ _
    | ⟨1, _⟩ => exact (dot_S256x2048_S256x2048_S256x256_1_1_0_0_n_n.lhsIdx_val_of_single rfl x _).trans hk)
  have er : dot_S256x2048_S256x2048_S256x256_1_1_0_0_n_n.rhsIdx x ((ValueIdx.contrEquiv1 dot_S256x2048_S256x2048_S256x256_1_1_0_0_n_n 2048 rfl rfl).symm k)
      = ix2 ⟨(x 1).val, (x 1).isLt⟩ k := funext fun a => Fin.ext (by
    match a with
    | ⟨0, _⟩ => exact rhs_acc _ _
    | ⟨1, _⟩ => exact (dot_S256x2048_S256x2048_S256x256_1_1_0_0_n_n.rhsIdx_val_of_single rfl x _).trans hk)
  rw [el, er]
  rfl

/-- A head's rows divided by their norms, at an index. -/
theorem headNorm_apply (s : EReal) (y : FVec Ideal S256x128 .f32) (z : S256x128.Idx) :
    headNorm (F := Ideal) s y z
      = y z * (Ideal.rsqrt ((∑ d : Fin 128, y (ix2 ⟨(z 0).val, (z 0).isLt⟩ d) * y (ix2 ⟨(z 0).val, (z 0).isLt⟩ d)) + eps) * s) := by
  have l0 : (z 0).val < 256 := (z 0).isLt
  unfold headNorm
  show y z * broadcastTo S256x128 _ _ z = _
  refine congrArg (y z * ·) ?_
  rw [broadcastTo_apply _ broadcasts_S256x1_S256x128 z (ix2 ⟨(z 0).val, l0⟩ 0 : S256x1.Idx) (fun a => by
    match a with
    | ⟨0, _⟩ => show (z 0).val = if (256 : ℕ) = 1 then 0 else (z 0).val; rw [if_neg (by decide)]
    | ⟨1, _⟩ => show 0 = if (1 : ℕ) = 1 then 0 else (z 1).val; rw [if_pos rfl])]
  show Ideal.rsqrt (shapeCast S256x1 _ _ _ + eps) * s = _
  refine congrArg (fun q => Ideal.rsqrt (q + eps) * s) ?_
  rw [shapeCast_apply _ shapeCasts_S256_S256x1 _ (ix1 ⟨(z 0).val, l0⟩ : S256.Idx)
    (by rw [Shape.rowMajor_val_one, Shape.rowMajor_val_two]; show (z 0).val = (z 0).val * 1 + 0; omega)]
  refine Eq.trans (Ideal.multiReduction_add_single (mulf y y) 0x00000000#32 reduces_S256x128_S256 (.inl rfl) rfl (ix1 ⟨(z 0).val, l0⟩ : S256.Idx)) ?_
  refine Finset.sum_congr rfl fun k _ => ?_
  show (y _ * y _ : EReal) = _
  rw [show (reduces_S256x128_S256.lift (ix1 ⟨(z 0).val, l0⟩ : S256.Idx) k : S256x128.Idx) = ix2 ⟨(z 0).val, l0⟩ ⟨k.val, k.isLt⟩ from
    funext fun a => Fin.ext (by match a with | ⟨0, _⟩ => rfl | ⟨1, _⟩ => rfl)]
  rfl

/-- A chunk's two heads divided by their norms, at an index. -/
theorem normChunk_apply (s : EReal) (y : FVec Ideal S256x256 .f32) (x : S256x256.Idx) :
    normChunk (F := Ideal) s y x
      = y x * (Ideal.rsqrt ((∑ d : Fin 128, y (ix2 ⟨(x 0).val, (x 0).isLt⟩ ⟨128 * ((x 1).val / 128) + d.val, by
            have h : (x 1).val < 256 := (x 1).isLt; omega⟩)
          * y (ix2 ⟨(x 0).val, (x 0).isLt⟩ ⟨128 * ((x 1).val / 128) + d.val, by have h : (x 1).val < 256 := (x 1).isLt; omega⟩)) + eps) * s) := by
  have l0 : (x 0).val < 256 := (x 0).isLt
  have l1 : (x 1).val < 256 := (x 1).isLt
  unfold normChunk
  by_cases h : (x 1).val < 128
  · rw [concatenate_pair_apply_left (t := S256x256) (1 : Fin 2) _ _ concatenates_S256x128_S256x128_S256x256_d1 x rfl
      (ix2 ⟨(x 0).val, l0⟩ ⟨(x 1).val, h⟩ : S256x128.Idx) (fun b => by match b with | ⟨0, _⟩ => rfl | ⟨1, _⟩ => rfl), headNorm_apply]
    have rd : ∀ (d : Fin 128) (d' : Fin 256), d'.val = d.val →
        extractStridedSlice S256x128 ![0, 0] y slices_S256x256_o0_0_S256x128 (ix2 ⟨(x 0).val, l0⟩ d : S256x128.Idx) = y (ix2 ⟨(x 0).val, l0⟩ d') :=
      fun d d' e => extractStridedSlice_apply _ y slices_S256x256_o0_0_S256x128 _ _ (fun a => by
        match a with
        | ⟨0, _⟩ => show (x 0).val = 0 + (x 0).val; omega
        | ⟨1, _⟩ => show d'.val = 0 + d.val; omega)
    have e : ∀ d : Fin 128, 128 * ((x 1).val / 128) + d.val = d.val := fun d => by omega
    rw [rd ⟨(x 1).val, h⟩ ⟨(x 1).val, l1⟩ rfl]
    refine congr (congrArg HMul.hMul ?_) (congrArg (fun q => Ideal.rsqrt (q + eps) * s) (Finset.sum_congr rfl fun d _ => ?_))
    · exact congrArg y (funext fun a => by match a with | ⟨0, _⟩ => rfl | ⟨1, _⟩ => rfl)
    · rw [← rd d ⟨128 * ((x 1).val / 128) + d.val, by omega⟩ (e d)]
  · rw [concatenate_pair_apply_right (t := S256x256) (1 : Fin 2) _ _ concatenates_S256x128_S256x128_S256x256_d1 x rfl rfl
      (ix2 ⟨(x 0).val, l0⟩ ⟨(x 1).val - 128, by omega⟩ : S256x128.Idx)
      (fun b hb => by match b with | ⟨0, _⟩ => rfl | ⟨1, _⟩ => exact absurd rfl hb)
      (by show (x 1).val - 128 + 128 = (x 1).val; omega), headNorm_apply]
    have rd : ∀ (d : Fin 128) (d' : Fin 256), d'.val = 128 + d.val →
        extractStridedSlice S256x128 ![0, 128] y slices_S256x256_o0_128_S256x128 (ix2 ⟨(x 0).val, l0⟩ d : S256x128.Idx) = y (ix2 ⟨(x 0).val, l0⟩ d') :=
      fun d d' e => extractStridedSlice_apply _ y slices_S256x256_o0_128_S256x128 _ _ (fun a => by
        match a with
        | ⟨0, _⟩ => show (x 0).val = 0 + (x 0).val; omega
        | ⟨1, _⟩ => show d'.val = 128 + d.val; omega)
    rw [rd ⟨(x 1).val - 128, by omega⟩ ⟨(x 1).val, l1⟩ (by show (x 1).val = 128 + ((x 1).val - 128); omega)]
    refine congr (congrArg HMul.hMul ?_) (congrArg (fun q => Ideal.rsqrt (q + eps) * s) (Finset.sum_congr rfl fun d _ => ?_))
    · exact congrArg y (funext fun a => by match a with | ⟨0, _⟩ => rfl | ⟨1, _⟩ => rfl)
    · rw [← rd d ⟨128 * ((x 1).val / 128) + d.val, by omega⟩ (by show 128 * ((x 1).val / 128) + d.val = _; omega)]

/-- The convolution of an extended chunk at an index. -/
theorem convSum_apply (k0 k1 k2 k3 : FVec Ideal S1x256 .f32) (e : FVec Ideal S264x256 .f32) (x : S256x256.Idx) :
    convSum (F := Ideal) k0 k1 k2 k3 e x
      = ((k3 (ix2 0 ⟨(x 1).val, (x 1).isLt⟩) : EReal) * e (ix2 ⟨8 + (x 0).val, by have h : (x 0).val < 256 := (x 0).isLt; omega⟩ ⟨(x 1).val, (x 1).isLt⟩)
          + k2 (ix2 0 ⟨(x 1).val, (x 1).isLt⟩) * e (ix2 ⟨7 + (x 0).val, by have h : (x 0).val < 256 := (x 0).isLt; omega⟩ ⟨(x 1).val, (x 1).isLt⟩))
        + (k1 (ix2 0 ⟨(x 1).val, (x 1).isLt⟩) * e (ix2 ⟨6 + (x 0).val, by have h : (x 0).val < 256 := (x 0).isLt; omega⟩ ⟨(x 1).val, (x 1).isLt⟩)
          + k0 (ix2 0 ⟨(x 1).val, (x 1).isLt⟩) * e (ix2 ⟨5 + (x 0).val, by have h : (x 0).val < 256 := (x 0).isLt; omega⟩ ⟨(x 1).val, (x 1).isLt⟩)) := by
  have l0 : (x 0).val < 256 := (x 0).isLt
  have l1 : (x 1).val < 256 := (x 1).isLt
  have sc : ∀ (k : FVec Ideal S1x256 .f32) (f : FVec Ideal S264x256 .f32) (r : Fin 264),
      scaleRows (F := Ideal) k f (ix2 r ⟨(x 1).val, l1⟩) = (k (ix2 0 ⟨(x 1).val, l1⟩) : EReal) * f (ix2 r ⟨(x 1).val, l1⟩) := fun k f r => by
    unfold scaleRows
    show broadcastTo S264x256 k _ _ * f _ = _
    rw [broadcastTo_apply k broadcasts_S1x256_S264x256 _ (ix2 0 ⟨(x 1).val, l1⟩ : S1x256.Idx) (fun a => by
      match a with
      | ⟨0, _⟩ => show 0 = if (1 : ℕ) = 1 then 0 else r.val; rw [if_pos rfl]
      | ⟨1, _⟩ => show (x 1).val = if (256 : ℕ) = 1 then 0 else (x 1).val; rw [if_neg (by decide)])]
  have r1 : ∀ (f : FVec Ideal S264x256 .f32) (r r' : Fin 264), r'.val + 1 = r.val →
      dynamicRotate 0 1#32 none f rotates_S264x256_d0 (ix2 r ⟨(x 1).val, l1⟩) = f (ix2 r' ⟨(x 1).val, l1⟩) := fun f r r' hr =>
    dynamicRotate_apply (0 : Fin 2) 1#32 f rotates_S264x256_d0 _ _ (fun b => by
      match b with
      | ⟨0, _⟩ => exact (show r'.val = (r.val + 264 - 1 % 264) % 264 by omega).trans (if_pos rfl).symm
      | ⟨1, _⟩ => exact (if_neg (Fin.ne_of_val_ne Nat.one_ne_zero)).symm)
  have r2 : ∀ (f : FVec Ideal S264x256 .f32) (r r' : Fin 264), r'.val + 2 = r.val →
      dynamicRotate 0 2#32 none f rotates_S264x256_d0 (ix2 r ⟨(x 1).val, l1⟩) = f (ix2 r' ⟨(x 1).val, l1⟩) := fun f r r' hr =>
    dynamicRotate_apply (0 : Fin 2) 2#32 f rotates_S264x256_d0 _ _ (fun b => by
      match b with
      | ⟨0, _⟩ => exact (show r'.val = (r.val + 264 - 2 % 264) % 264 by omega).trans (if_pos rfl).symm
      | ⟨1, _⟩ => exact (if_neg (Fin.ne_of_val_ne Nat.one_ne_zero)).symm)
  unfold convSum
  rw [extractStridedSlice_apply ![8, 0] _ slices_S264x256_o8_0_S256x256 x (ix2 ⟨8 + (x 0).val, by omega⟩ ⟨(x 1).val, l1⟩ : S264x256.Idx) (fun a => by
    match a with
    | ⟨0, _⟩ => rfl
    | ⟨1, _⟩ => show (x 1).val = 0 + (x 1).val; omega)]
  show ((scaleRows k3 e _ + scaleRows k2 _ _) + dynamicRotate 0 2#32 none _ _ _ : EReal) = _
  rw [r2 _ ⟨8 + (x 0).val, by omega⟩ ⟨6 + (x 0).val, by omega⟩ (by show 6 + (x 0).val + 2 = 8 + (x 0).val; omega)]
  show ((scaleRows k3 e _ + scaleRows k2 _ _) + (scaleRows k1 e _ + scaleRows k0 _ _) : EReal) = _
  rw [sc, sc, sc, sc, r1 e ⟨8 + (x 0).val, by omega⟩ ⟨7 + (x 0).val, by omega⟩ (by show 7 + (x 0).val + 1 = 8 + (x 0).val; omega),
    r1 e ⟨6 + (x 0).val, by omega⟩ ⟨5 + (x 0).val, by omega⟩ (by show 5 + (x 0).val + 1 = 6 + (x 0).val; omega)]

/-- The halved weights of a tap at a column. -/
theorem coef_apply (cw : Vec Ideal S4x1024 .f32) (k c : Fin 4) (q : Fin 256) :
    coef (F := Ideal) (halfW cw) k c (ix2 0 q) = half * (cw (ix2 k ⟨256 * c.val + q.val, by omega⟩) : EReal) := by
  unfold coef
  rw [extractStridedSlice_apply _ (halfW cw) (slices_coef k c) _ (ix2 k ⟨256 * c.val + q.val, by omega⟩ : S4x1024.Idx) (fun a => by
    match a with
    | ⟨0, _⟩ => rfl
    | ⟨1, _⟩ => rfl)]
  unfold halfW
  show half * shapeCast S4x1024 cw _ _ = _
  rw [shapeCast_apply cw shapeCasts_S4x1024_S4x1024 _ _ rfl]

/-- The columns of a chunk of the history. -/
theorem histCols_apply (h : FVec Ideal S8x1024 .f32) (c : Fin 4) (p : Fin 8) (q : Fin 256) :
    histCols (F := Ideal) h c (ix2 p q) = h (ix2 p ⟨256 * c.val + q.val, by omega⟩) :=
  extractStridedSlice_apply _ h (slices_hist c) _ _ (fun a => by
    match a with
    | ⟨0, _⟩ => show p.val = 0 + p.val; omega
    | ⟨1, _⟩ => rfl)

theorem lastRows_apply (v : FVec Ideal S256x256 .f32) (p : Fin 8) (q : Fin 256) :
    lastRows (F := Ideal) v (ix2 p q) = v (ix2 ⟨248 + p.val, by omega⟩ q) :=
  extractStridedSlice_apply _ v slices_S256x256_o248_0_S8x256 _ _ (fun a => by
    match a with
    | ⟨0, _⟩ => rfl
    | ⟨1, _⟩ => show q.val = 0 + q.val; omega)

/-- An extended chunk below its first eight rows. -/
theorem extend_low (h : FVec Ideal S8x256 .f32) (v : FVec Ideal S256x256 .f32) (z : Fin 264) (p : Fin 256) (q : Fin 256) (hz : 8 + p.val = z.val) :
    extend (F := Ideal) h v (ix2 z q) = v (ix2 p q) :=
  concatenate_pair_apply_right (t := S264x256) (0 : Fin 2) h v concatenates_S8x256_S256x256_S264x256_d0 _ rfl rfl _
    (fun b hb => by match b with | ⟨0, _⟩ => exact absurd rfl hb | ⟨1, _⟩ => rfl) (by show p.val + 8 = z.val; omega)

/-- The first eight rows of an extended chunk. -/
theorem extend_high (h : FVec Ideal S8x256 .f32) (v : FVec Ideal S256x256 .f32) (z : Fin 264) (p : Fin 8) (q : Fin 256) (hz : p.val = z.val) :
    extend (F := Ideal) h v (ix2 z q) = h (ix2 p q) :=
  concatenate_pair_apply_left (t := S264x256) (0 : Fin 2) h v concatenates_S8x256_S256x256_S264x256_d0 _ rfl _
    (fun b => by match b with | ⟨0, _⟩ => exact hz | ⟨1, _⟩ => rfl)

/-- The history that a tile leaves, at an index. -/
theorem newTail_apply (A B : Fin 4 → Vec Ideal S256x2048 .bf16) (p : Fin 8) (c : Fin 4) (q : Fin 256) (q' : Fin 1024) (hq : q'.val = 256 * c.val + q.val) :
    newTail (F := Ideal) A B (ix3 0 p q') = accOf (A 3) (B c) (ix2 ⟨248 + p.val, by omega⟩ q) := by
  unfold newTail
  rw [shapeCast_apply _ shapeCasts_S8x1024_S1x8x1024 _ (ix2 p q' : S8x1024.Idx)
    (by rw [Shape.rowMajor_val_two, Shape.rowMajor_val_three]; show p.val * 1024 + q'.val = (0 * 8 + p.val) * 1024 + q'.val; omega)]
  have side : ∀ b : Fin S8x256.rank, b.cast rfl ≠ (1 : Fin S8x1024.rank) → ((ix2 p q : S8x256.Idx) b).val = ((ix2 p q' : S8x1024.Idx) (b.cast rfl)).val :=
    fun b hb => by match b with | ⟨0, _⟩ => rfl | ⟨1, _⟩ => exact absurd rfl hb
  match c with
  | ⟨0, _⟩ =>
    exact Eq.trans (concatenate_apply_piece (t := S8x1024) (1 : Fin 2) _ _ _ 0 (Nat.lt_of_sub_eq_succ rfl) S8x256 (lastRows (accOf (A 3) (B 0))) rfl rfl 0 rfl
      (ix2 p q : S8x256.Idx) side (by show 0 + q.val = q'.val; have : q'.val = 256 * 0 + q.val := hq; omega)) (lastRows_apply _ p q)
  | ⟨1, _⟩ =>
    exact Eq.trans (concatenate_apply_piece (t := S8x1024) (1 : Fin 2) _ _ _ 1 (Nat.lt_of_sub_eq_succ rfl) S8x256 (lastRows (accOf (A 3) (B 1))) rfl rfl 256 rfl
      (ix2 p q : S8x256.Idx) side (by show 256 + q.val = q'.val; have : q'.val = 256 * 1 + q.val := hq; omega)) (lastRows_apply _ p q)
  | ⟨2, _⟩ =>
    exact Eq.trans (concatenate_apply_piece (t := S8x1024) (1 : Fin 2) _ _ _ 2 (Nat.lt_of_sub_eq_succ rfl) S8x256 (lastRows (accOf (A 3) (B 2))) rfl rfl 512 rfl
      (ix2 p q : S8x256.Idx) side (by show 512 + q.val = q'.val; have : q'.val = 256 * 2 + q.val := hq; omega)) (lastRows_apply _ p q)
  | ⟨3, _⟩ =>
    exact Eq.trans (concatenate_apply_piece (t := S8x1024) (1 : Fin 2) _ _ _ 3 (Nat.lt_of_sub_eq_succ rfl) S8x256 (lastRows (accOf (A 3) (B 3))) rfl rfl 768 rfl
      (ix2 p q : S8x256.Idx) side (by show 768 + q.val = q'.val; have : q'.val = 256 * 3 + q.val := hq; omega)) (lastRows_apply _ p q)

end Cert.KernelIdeal.Inproj
-- ==== Proof.Inproj.Norm.lean ====
/- The kernel's norm, its weights and its small product read at an index, at the extended reals. -/
module

public import proofs.«01_k».proof.Proof.Inproj.TileRead

@[expose] public section

set_option maxRecDepth 16384

noncomputable section

namespace Cert.KernelIdeal.Inproj

open Cert.KernelIdeal Cert.KernelIdeal.Gen Cert.Inproj
open Idealize Idealize.ShloMosaic Idealize.ShloMosaic.ValueIdx

/-- The normalised tokens at an index. -/
theorem normRows_apply (x : Vec Ideal S1024x2048 .f32) (g : Vec Ideal S1x2048 .f32) (y : S1024x2048.Idx)
    (X : ℕ → ℕ → EReal) (G : ℕ → EReal) (R : ℕ)
    (hX : ∀ k : Fin 2048, x (ix2 ⟨(y 0).val, (y 0).isLt⟩ k) = X R k.val) (hG : ∀ k : Fin 2048, g (ix2 0 k) = G k.val) :
    k0_pay218 (F := Ideal) x g y = hid X G R (y 1).val := by
  have l0 : (y 0).val < 1024 := (y 0).isLt
  have l1 : (y 1).val < 2048 := (y 1).isLt
  have sc : ∀ z : S1024x2048.Idx, shapeCast S1024x2048 x shapeCasts_S1024x2048_S1024x2048 z = x z := fun z =>
    shapeCast_apply (t := S1024x2048) x shapeCasts_S1024x2048_S1024x2048 z z rfl
  unfold k0_pay218
  show (shapeCast S1024x2048 x shapeCasts_S1024x2048_S1024x2048 y * broadcastTo S1024x2048 _ broadcasts_S1024x1_S1024x2048 y)
    * broadcastTo S1024x2048 _ broadcasts_S1x2048_S1024x2048 y = _
  unfold hid
  congr 1
  · congr 1
    · rw [sc, ← hX ⟨(y 1).val, l1⟩]
      refine congrArg x (funext fun a => Fin.ext ?_)
      match a with
      | ⟨0, _⟩ => rfl
      | ⟨1, _⟩ => rfl
    · refine Eq.trans (broadcastTo_apply (t := S1024x2048) _ broadcasts_S1024x1_S1024x2048 y (ix2 ⟨(y 0).val, l0⟩ 0 : S1024x1.Idx) (fun a => ?_)) ?_
      · match a with
        | ⟨0, _⟩ => show (y 0).val = if (1024 : ℕ) = 1 then 0 else (y 0).val; rw [if_neg (by decide)]
        | ⟨1, _⟩ => show 0 = if (1 : ℕ) = 1 then 0 else (y 1).val; rw [if_pos rfl]
      · unfold Cert.Inproj.inv
        show Ideal.rsqrt (Ideal.div (shapeCast S1024x1 _ shapeCasts_S1024_S1024x1 _) width + eps) = _
        refine congrArg (fun q => Ideal.rsqrt (Ideal.div q width + eps)) ?_
        refine Eq.trans (shapeCast_apply (t := S1024x1) _ shapeCasts_S1024_S1024x1 _ (ix1 ⟨(y 0).val, l0⟩ : S1024.Idx)
          (by rw [Shape.rowMajor_val_one, Shape.rowMajor_val_two]; show (y 0).val = (y 0).val * 1 + 0; omega)) ?_
        refine Eq.trans (Ideal.multiReduction_add_single _ 0x00000000#32 reduces_S1024x2048_S1024 (.inl rfl) rfl (ix1 ⟨(y 0).val, l0⟩ : S1024.Idx)) ?_
        refine Finset.sum_congr rfl fun k _ => ?_
        have hk : shapeCast S1024x2048 x shapeCasts_S1024x2048_S1024x2048 (reduces_S1024x2048_S1024.lift (ix1 ⟨(y 0).val, l0⟩ : S1024.Idx) k : S1024x2048.Idx) = X R k.val := by
          rw [sc, ← hX ⟨k.val, k.isLt⟩]
          refine congrArg x (funext fun a => Fin.ext ?_)
          match a with
          | ⟨0, _⟩ => rfl
          | ⟨1, _⟩ => rfl
        exact congrArg₂ (fun a b : EReal => a * b) hk hk
  · refine Eq.trans (broadcastTo_apply (t := S1024x2048) _ broadcasts_S1x2048_S1024x2048 y (ix2 0 ⟨(y 1).val, l1⟩ : S1x2048.Idx) (fun a => ?_)) ?_
    · match a with
      | ⟨0, _⟩ => show 0 = if (1 : ℕ) = 1 then 0 else (y 0).val; rw [if_pos rfl]
      | ⟨1, _⟩ => show (y 1).val = if (2048 : ℕ) = 1 then 0 else (y 1).val; rw [if_neg (by decide)]
    · refine Eq.trans (shapeCast_apply (t := S1x2048) _ shapeCasts_S1x2048_S1x2048 _ (ix2 0 ⟨(y 1).val, l1⟩ : S1x2048.Idx) rfl) ?_
      exact hG ⟨(y 1).val, l1⟩

/-- A block of weights is kept as it is. -/
theorem weightRows_apply (w : Vec Ideal S1024x2048 .f32) (y : S1024x2048.Idx) : k0_pay217 (F := Ideal) w y = w y := by
  unfold k0_pay217
  refine Eq.trans (shapeCast_apply (t := S1024x2048) _ shapeCasts_S1024x2048_S1024x2048 y y rfl) ?_
  exact shapeCast_apply (t := S1024x2048) w shapeCasts_S1024x2048_S1024x2048 y y rfl

/-- The small weights: sixteen rows, then zeros. -/
theorem smallRows_apply (w : Vec Ideal S16x2048 .f32) (y : S128x2048.Idx) (f : ℕ → ℕ → EReal)
    (hw : ∀ (p : Fin 16) (k : Fin 2048), w (ix2 p k) = f p.val k.val) :
    k0_pay216 (F := Ideal) w y = if (y 0).val < 16 then f (y 0).val (y 1).val else 0 := by
  have l0 : (y 0).val < 128 := (y 0).isLt
  have l1 : (y 1).val < 2048 := (y 1).isLt
  unfold k0_pay216
  refine Eq.trans (shapeCast_apply (t := S128x2048) _ shapeCasts_S128x2048_S128x2048 y y rfl) ?_
  show concatenate S128x2048 0 [⟨S16x2048, _⟩, ⟨S112x2048, _⟩] concatenates_S16x2048_S112x2048_S128x2048_d0 y = _
  by_cases h : (y 0).val < 16
  · rw [if_pos h]
    refine Eq.trans (concatenate_pair_apply_left (t := S128x2048) (0 : Fin 2) _ _ concatenates_S16x2048_S112x2048_S128x2048_d0 y rfl
      (ix2 ⟨(y 0).val, h⟩ ⟨(y 1).val, l1⟩ : S16x2048.Idx) (fun b => by match b with | ⟨0, _⟩ => rfl | ⟨1, _⟩ => rfl)) ?_
    refine Eq.trans (shapeCast_apply (t := S16x2048) _ shapeCasts_S16x2048_S16x2048 _ _ rfl) ?_
    exact hw _ _
  · rw [if_neg h]
    refine Eq.trans (concatenate_pair_apply_right (t := S128x2048) (0 : Fin 2) _ _ concatenates_S16x2048_S112x2048_S128x2048_d0 y rfl rfl
      (ix2 ⟨(y 0).val - 16, by omega⟩ ⟨(y 1).val, l1⟩ : S112x2048.Idx) (fun b hb => ?_) ?_) ?_
    · match b with
      | ⟨0, _⟩ => exact absurd rfl hb
      | ⟨1, _⟩ => rfl
    · show (y 0).val - 16 + 16 = (y 0).val
      omega
    · exact Ideal.ofBits_zero_f32

theorem lhs_small (i : S1024x128.Idx) (q : dot_S1024x2048_S128x2048_S1024x128_1_1_0_0_n_n.contr.Idx) :
    (dot_S1024x2048_S128x2048_S1024x128_1_1_0_0_n_n.lhsIdx i q 0).val = (i 0).val := by
  unfold DotDims.lhsIdx
  rw [dif_neg (show ¬(0 : Fin S1024x2048.rank) ∈ dot_S1024x2048_S128x2048_S1024x128_1_1_0_0_n_n.lhsBatch by decide), dif_pos (show (0 : Fin S1024x2048.rank) ∈ dot_S1024x2048_S128x2048_S1024x128_1_1_0_0_n_n.lhsNonContracting by decide)]
  rfl

theorem rhs_small (i : S1024x128.Idx) (q : dot_S1024x2048_S128x2048_S1024x128_1_1_0_0_n_n.contr.Idx) :
    (dot_S1024x2048_S128x2048_S1024x128_1_1_0_0_n_n.rhsIdx i q 0).val = (i 1).val := by
  unfold DotDims.rhsIdx
  rw [dif_neg (show ¬(0 : Fin S128x2048.rank) ∈ dot_S1024x2048_S128x2048_S1024x128_1_1_0_0_n_n.rhsBatch by decide), dif_pos (show (0 : Fin S128x2048.rank) ∈ dot_S1024x2048_S128x2048_S1024x128_1_1_0_0_n_n.rhsNonContracting by decide)]
  rfl

/-- The small product at an index. -/
theorem smallProduct_apply (x : Vec Ideal S1024x2048 .f32) (g : Vec Ideal S1x2048 .f32) (w : Vec Ideal S128x2048 .bf16) (y : S1024x128.Idx) :
    k0_pay220 (F := Ideal) x g w y
      = ∑ k : Fin 2048, (k0_pay218 (F := Ideal) x g (ix2 ⟨(y 0).val, (y 0).isLt⟩ k) : EReal) * w (ix2 ⟨(y 1).val, (y 1).isLt⟩ k) := by
  unfold k0_pay220
  simp only [matmul]
  rw [Ideal.matmul_constant_zero_apply, ← Equiv.sum_comp (ValueIdx.contrEquiv1 dot_S1024x2048_S128x2048_S1024x128_1_1_0_0_n_n 2048 rfl rfl).symm]
  refine Finset.sum_congr rfl fun k _ => ?_
  have hk := ValueIdx.contrEquiv1_symm_val dot_S1024x2048_S128x2048_S1024x128_1_1_0_0_n_n 2048 rfl rfl k
  have el : dot_S1024x2048_S128x2048_S1024x128_1_1_0_0_n_n.lhsIdx y ((ValueIdx.contrEquiv1 dot_S1024x2048_S128x2048_S1024x128_1_1_0_0_n_n 2048 rfl rfl).symm k)
      = ix2 ⟨(y 0).val, (y 0).isLt⟩ k := funext fun a => Fin.ext (by
    match a with
    | ⟨0, _⟩ => exact lhs_small _ _
    | ⟨1, _⟩ => exact (dot_S1024x2048_S128x2048_S1024x128_1_1_0_0_n_n.lhsIdx_val_of_single rfl y _).trans hk)
  have er : dot_S1024x2048_S128x2048_S1024x128_1_1_0_0_n_n.rhsIdx y ((ValueIdx.contrEquiv1 dot_S1024x2048_S128x2048_S1024x128_1_1_0_0_n_n 2048 rfl rfl).symm k)
      = ix2 ⟨(y 1).val, (y 1).isLt⟩ k := funext fun a => Fin.ext (by
    match a with
    | ⟨0, _⟩ => exact rhs_small _ _
    | ⟨1, _⟩ => exact (dot_S1024x2048_S128x2048_S1024x128_1_1_0_0_n_n.rhsIdx_val_of_single rfl y _).trans hk)
  rw [el, er]
  rfl

end Cert.KernelIdeal.Inproj
-- ==== Proof.Inproj.TileVal.lean ====
/- The output tiles at an index, in terms of the mathematical functions: given what the chunks' products
   are, each kind of tile is the corresponding columns of the first result. -/
module

public import proofs.«01_k».proof.Proof.Inproj.TileRead

@[expose] public section

set_option maxRecDepth 16384

noncomputable section

namespace Cert.KernelIdeal.Inproj

open Cert.KernelIdeal Cert.KernelIdeal.Gen Cert.Inproj
open Idealize Idealize.ShloMosaic Idealize.ShloMosaic.ValueIdx

variable {X : ℕ → ℕ → EReal} {G : ℕ → EReal} {W K : ℕ → ℕ → EReal}
  {A B : Fin 4 → Vec Ideal S256x2048 .bf16} {R0 N0 : ℕ}

/-- The chunks' products are the projection, from row `R0` and column `N0`. -/
def Products (X : ℕ → ℕ → EReal) (G : ℕ → EReal) (W : ℕ → ℕ → EReal) (A B : Fin 4 → Vec Ideal S256x2048 .bf16) (R0 N0 : ℕ) : Prop :=
  ∀ (r c : Fin 4) (p q : Fin 256), accOf (F := Ideal) (A r) (B c) (ix2 p q) = proj X G W (R0 + 256 * r.val + p.val) (N0 + 256 * c.val + q.val)

/-- The eight rows before a tile: zero where a sequence starts, and the projection elsewhere. -/
def History (X : ℕ → ℕ → EReal) (G : ℕ → EReal) (W : ℕ → ℕ → EReal) (h : FVec Ideal S8x1024 .f32) (R0 N0 : ℕ) : Prop :=
  ∀ (p : Fin 8) (q : Fin 1024), h (ix2 p q) = if R0 % 2048 = 0 then (0 : EReal) else proj X G W (R0 + p.val - 8) (N0 + q.val)

/-- A tile at an index, from its chunks. -/
theorem glue_read (T : Fin 4 → Fin 4 → FVec Ideal S256x256 .bf16) (f : ℕ → ℕ → EReal)
    (hT : ∀ (r c : Fin 4) (p q : Fin 256), T r c (ix2 p q) = f (256 * r.val + p.val) (256 * c.val + q.val)) (y : S1024x1024.Idx) :
    glue (F := Ideal) T y = f (y 0).val (y 1).val := by
  have l0 : (y 0).val < 1024 := (y 0).isLt
  have l1 : (y 1).val < 1024 := (y 1).isLt
  unfold glue
  rw [hT]
  refine congr (congrArg f ?_) ?_
  · show 256 * ((y 0).val / 256) + (y 0).val % 256 = (y 0).val; omega
  · show 256 * ((y 1).val / 256) + (y 1).val % 256 = (y 1).val; omega

/-- A plain tile at an index. -/
theorem plainTile_read (hP : Products X G W A B R0 N0) (b : BitVec 1) (y : S1024x1024.Idx) :
    plainTile (F := Ideal) b A B y = if b = 1 then silu (proj X G W (R0 + (y 0).val) (N0 + (y 1).val)) else proj X G W (R0 + (y 0).val) (N0 + (y 1).val) := by
  unfold plainTile
  refine glue_read _ (fun p q => if b = 1 then silu (proj X G W (R0 + p) (N0 + q)) else proj X G W (R0 + p) (N0 + q)) (fun r c p q => ?_) y
  rw [plainChunk_apply, hP r c p q, Nat.add_assoc, Nat.add_assoc]

/-- A gate's tile at an index. -/
theorem gateTile_read (hP : Products X G W A B R0 N0) (y : S1024x1024.Idx) :
    gateTile (F := Ideal) A B y = logi (proj X G W (R0 + (y 0).val) (N0 + (y 1).val)) := by
  unfold gateTile
  refine glue_read _ (fun p q => logi (proj X G W (R0 + p) (N0 + q))) (fun r c p q => ?_) y
  rw [gateChunk_apply, hP r c p q, Nat.add_assoc, Nat.add_assoc]

/-- The rows that the convolution looks back at: row `8 + p - d` of an extended chunk is the projection `d` rows before row `p`. -/
theorem extend_read {h : FVec Ideal S8x1024 .f32} {C0 : ℕ} (hP : Products X G W A B R0 (4096 + C0)) (hH : History X G W h R0 (4096 + C0)) (hR : R0 % 1024 = 0)
    (r c : Fin 4) (p q : Fin 256) (d : ℕ) (hd : d ≤ 3) (z : Fin 264) (hz : z.val + d = 8 + p.val) :
    extend (F := Ideal) (before h A B c r) (accOf (A r) (B c)) (ix2 z q) = past X G W (R0 + 256 * r.val + p.val) d (C0 + 256 * c.val + q.val) := by
  have lr : r.val < 4 := r.isLt
  have lp : p.val < 256 := p.isLt
  by_cases hp : d ≤ p.val
  · rw [extend_low _ _ z ⟨p.val - d, by omega⟩ q (by show 8 + (p.val - d) = z.val; omega), hP]
    unfold past
    rw [if_neg (by omega)]
    refine congr (congrArg _ ?_) ?_
    · show R0 + 256 * r.val + (p.val - d) = _; omega
    · omega
  · rw [extend_high _ _ z ⟨8 + p.val - d, by omega⟩ q (by show 8 + p.val - d = z.val; omega)]
    have chunk : ∀ r r' : Fin 4, r'.val + 1 = r.val → lastRows (F := Ideal) (accOf (A r') (B c)) (ix2 ⟨8 + p.val - d, by omega⟩ q)
        = past X G W (R0 + 256 * r.val + p.val) d (C0 + 256 * c.val + q.val) := fun r r' hr => by
      have lr : r.val < 4 := r.isLt
      rw [lastRows_apply, hP]
      unfold past
      rw [if_neg (by omega)]
      refine congr (congrArg _ ?_) ?_
      · show R0 + 256 * r'.val + (248 + (8 + p.val - d)) = _; omega
      · omega
    match r with
    | ⟨0, _⟩ =>
      show histCols (F := Ideal) h c _ = _
      rw [histCols_apply, hH]
      unfold past
      by_cases h0 : R0 % 2048 = 0
      · rw [if_pos h0, if_pos (by show (R0 + 256 * 0 + p.val) % 2048 < d; omega)]
      · rw [if_neg h0, if_neg (by show ¬ (R0 + 256 * 0 + p.val) % 2048 < d; omega)]
        refine congr (congrArg _ ?_) ?_
        · show R0 + (8 + p.val - d) - 8 = R0 + 256 * 0 + p.val - d; omega
        · show 4096 + C0 + (256 * c.val + q.val) = _; omega
    | ⟨1, _⟩ => exact chunk 1 0 rfl
    | ⟨2, _⟩ => exact chunk 2 1 rfl
    | ⟨3, _⟩ => exact chunk 3 2 rfl

/-- A convolved chunk at an index: the convolution after SiLU. -/
theorem convChunk_read {h : FVec Ideal S8x1024 .f32} {C0 : ℕ} {cw : Vec Ideal S4x1024 .f32}
    (hP : Products X G W A B R0 (4096 + C0)) (hH : History X G W h R0 (4096 + C0)) (hR : R0 % 1024 = 0) (hC : C0 + 1024 ≤ 3072)
    (hK : ∀ (a : Fin 4) (q : Fin 1024), cw (ix2 a q) = K a.val (C0 + q.val))
    (rG : ∀ k : Fin 2048, IsReal (G k)) (rW : ∀ (k : Fin 2048) (c : ℕ), c < 3072 → IsReal (W k (4096 + c))) (rK : ∀ a c : ℕ, IsReal (K a c))
    (r c : Fin 4) (p q : Fin 256) :
    convChunk (F := Ideal) cw h A B r c (ix2 p q) = act X G W K (R0 + 256 * r.val + p.val) (C0 + 256 * c.val + q.val) := by
  have lc : c.val < 4 := c.isLt
  have lq : q.val < 256 := q.isLt
  have lp : p.val < 256 := p.isLt
  have key : convSum (F := Ideal) (coef (halfW cw) 0 c) (coef (halfW cw) 1 c) (coef (halfW cw) 2 c) (coef (halfW cw) 3 c)
      (extend (before h A B c r) (accOf (A r) (B c))) (ix2 p q)
      = half * conv X G W K (R0 + 256 * r.val + p.val) (C0 + 256 * c.val + q.val) := by
    have rp : ∀ d, IsReal (past X G W (R0 + 256 * r.val + p.val) d (C0 + 256 * c.val + q.val)) :=
      fun d => isReal_past X G W _ d _ rG (fun k => rW k _ (by omega))
    have e : ∀ (d : ℕ) (hd : d ≤ 3) (z : Fin 264) (hz : z.val + d = 8 + p.val),
        extend (F := Ideal) (before h A B c r) (accOf (A r) (B c)) (ix2 z q) = past X G W (R0 + 256 * r.val + p.val) d (C0 + 256 * c.val + q.val) :=
      fun d hd z hz => extend_read hP hH hR r c p q d hd z hz
    have g : ∀ k : Fin 4, coef (F := Ideal) (halfW cw) k c (ix2 0 q) = half * K k.val (C0 + 256 * c.val + q.val) := fun k => by
      rw [coef_apply, hK]
      refine congrArg (fun n => half * K k.val n) ?_
      show C0 + (256 * c.val + q.val) = _; omega
    rw [convSum_apply]
    show ((coef (halfW cw) 3 c (ix2 0 q) : EReal) * extend (before h A B c r) (accOf (A r) (B c)) (ix2 ⟨8 + p.val, by omega⟩ q)
        + coef (halfW cw) 2 c (ix2 0 q) * extend (before h A B c r) (accOf (A r) (B c)) (ix2 ⟨7 + p.val, by omega⟩ q))
      + (coef (halfW cw) 1 c (ix2 0 q) * extend (before h A B c r) (accOf (A r) (B c)) (ix2 ⟨6 + p.val, by omega⟩ q)
        + coef (halfW cw) 0 c (ix2 0 q) * extend (before h A B c r) (accOf (A r) (B c)) (ix2 ⟨5 + p.val, by omega⟩ q)) = _
    rw [g 0, g 1, g 2, g 3, e 0 (by omega) ⟨8 + p.val, by omega⟩ (by show 8 + p.val + 0 = _; omega),
      e 1 (by omega) ⟨7 + p.val, by omega⟩ (by show 7 + p.val + 1 = _; omega),
      e 2 (by omega) ⟨6 + p.val, by omega⟩ (by show 6 + p.val + 2 = _; omega),
      e 3 (by omega) ⟨5 + p.val, by omega⟩ (by show 5 + p.val + 3 = _; omega)]
    exact half_taps _ _ _ _ _ _ _ _ (rp 0) (rp 1) (rp 2) (rp 3) (rK 0 _) (rK 1 _) (rK 2 _) (rK 3 _)
  have rc : IsReal (conv X G W K (R0 + 256 * r.val + p.val) (C0 + 256 * c.val + q.val)) := by
    have rp : ∀ d, IsReal (past X G W (R0 + 256 * r.val + p.val) d (C0 + 256 * c.val + q.val)) :=
      fun d => isReal_past X G W _ d _ rG (fun k => rW k _ (by omega))
    unfold conv
    exact ((((rp 3).mul (rK 0 _)).add ((rp 2).mul (rK 1 _))).add ((rp 1).mul (rK 2 _))).add ((rp 0).mul (rK 3 _))
  unfold convChunk siluHalf act
  refine Eq.trans ?_ (silu_half _ rc)
  rw [← key]
  rfl

/-- A convolved tile at an index. -/
theorem convTile_read {h : FVec Ideal S8x1024 .f32} {C0 : ℕ} {cw : Vec Ideal S4x1024 .f32}
    (hP : Products X G W A B R0 (4096 + C0)) (hH : History X G W h R0 (4096 + C0)) (hR : R0 % 1024 = 0) (hC : C0 + 1024 ≤ 3072)
    (hK : ∀ (a : Fin 4) (q : Fin 1024), cw (ix2 a q) = K a.val (C0 + q.val))
    (rG : ∀ k : Fin 2048, IsReal (G k)) (rW : ∀ (k : Fin 2048) (c : ℕ), c < 3072 → IsReal (W k (4096 + c))) (rK : ∀ a c : ℕ, IsReal (K a c))
    (y : S1024x1024.Idx) : convTile (F := Ideal) cw h A B y = act X G W K (R0 + (y 0).val) (C0 + (y 1).val) := by
  unfold convTile
  refine glue_read _ (fun p q => act X G W K (R0 + p) (C0 + q)) (fun r c p q => ?_) y
  refine Eq.trans (convChunk_read hP hH hR hC hK rG rW rK r c p q) ?_
  rw [Nat.add_assoc, Nat.add_assoc]

/-- A convolved and normalised tile at an index. -/
theorem normTile_read {h : FVec Ideal S8x1024 .f32} {C0 : ℕ} {cw : Vec Ideal S4x1024 .f32} (s : EReal) (hC0 : C0 % 1024 = 0)
    (hP : Products X G W A B R0 (4096 + C0)) (hH : History X G W h R0 (4096 + C0)) (hR : R0 % 1024 = 0) (hC : C0 + 1024 ≤ 3072)
    (hK : ∀ (a : Fin 4) (q : Fin 1024), cw (ix2 a q) = K a.val (C0 + q.val))
    (rG : ∀ k : Fin 2048, IsReal (G k)) (rW : ∀ (k : Fin 2048) (c : ℕ), c < 3072 → IsReal (W k (4096 + c))) (rK : ∀ a c : ℕ, IsReal (K a c))
    (y : S1024x1024.Idx) : normTile (F := Ideal) s cw h A B y = unit X G W K (R0 + (y 0).val) (C0 + (y 1).val) * s := by
  unfold normTile
  refine glue_read _ (fun p q => unit X G W K (R0 + p) (C0 + q) * s) (fun r c p q => ?_) y
  have lq : q.val < 256 := q.isLt
  have e : ∀ q' : Fin 256, convChunk (F := Ideal) cw h A B r c (ix2 p q') = act X G W K (R0 + (256 * r.val + p.val)) (C0 + 256 * c.val + q'.val) := fun q' => by
    rw [convChunk_read hP hH hR hC hK rG rW rK r c p q', Nat.add_assoc]
  show normChunk (F := Ideal) s (convChunk cw h A B r c) (ix2 p q) = _
  rw [normChunk_apply]
  unfold unit
  rw [mul_assoc]
  refine congr (congrArg HMul.hMul ((e q).trans (by rw [Nat.add_assoc]))) (congrArg (fun x => Ideal.rsqrt (x + eps) * s) (Finset.sum_congr rfl fun d _ => ?_))
  have ed : ∀ h', convChunk (F := Ideal) cw h A B r c (ix2 p ⟨128 * (q.val / 128) + d.val, h'⟩)
      = act X G W K (R0 + (256 * r.val + p.val)) (128 * ((C0 + (256 * c.val + q.val)) / 128) + d.val) := fun h' => by
    rw [e]
    refine congrArg _ ?_
    show C0 + 256 * c.val + (128 * (q.val / 128) + d.val) = _; omega
  exact congrArg₂ (fun a b : EReal => a * b) (ed _) (ed _)

end Cert.KernelIdeal.Inproj
-- ==== Proof.Inproj.Value.lean ====
/- What the kernel computes at each point, in terms of the arguments. -/
module

public import proofs.«01_k».proof.Proof.Inproj.Blocks
public import proofs.«01_k».proof.Proof.Inproj.Norm
public import proofs.«01_k».proof.Proof.Inproj.TileVal

@[expose] public section

set_option maxRecDepth 16384

noncomputable section

namespace Cert.KernelIdeal.Inproj

open Cert.KernelIdeal Cert.KernelIdeal.Gen Cert.Inproj
open Idealize Idealize.ShloMosaic Idealize.ShloMosaic.TcCoe Idealize.ShloMosaic.ValueIdx

variable (m : (ℓ : Loc nD τ sig) → Buf (Elt Ideal) ℓ) (c : Dev nD) (t : Fin cfg0.N)

/-- The first row of row tile `s` in the group of point `t`. -/
def firstRow (t : Fin cfg0.N) (s : Fin 4) : ℕ := 1024 * (4 * (t.val / 48) + s.val)
/-- The first column of the projection that point `t` computes. -/
def firstCol (t : Fin cfg0.N) : ℕ := 1024 * (t.val / 4 % 12) + (if 8 ≤ t.val / 4 % 12 then 16 else 0)

/-- The normalised tokens. -/
theorem normed_read (s : Fin 4) (y : S1024x2048.Idx) :
    normed m c t s y = hid (argX m c) (argG m c) (firstRow t s + (y 0).val) (y 1).val := by
  unfold normed
  exact normRows_apply _ _ y (argX m c) (argG m c) (firstRow t s + (y 0).val) (fun k => block_0 m c t s _) (fun k => block_1 m c _ _)

/-- The weights. -/
theorem weights_read (y : S1024x2048.Idx) : weights m c t y = argW m c (y 1).val (firstCol t + (y 0).val) := by
  unfold weights
  rw [weightRows_apply]
  exact block_2 m c t y

/-- The chunks' products are columns of the projection. -/
theorem products_at (s : Fin 4) :
    Products (argX m c) (argG m c) (argW m c) (rows (normed m c t s)) (rows (weights m c t)) (firstRow t s) (firstCol t) := by
  intro r d p q
  rw [accOf_apply]
  refine Finset.sum_congr rfl fun k _ => ?_
  have e1 : rows (normed m c t s) r (ix2 p k) = hid (argX m c) (argG m c) (firstRow t s + 256 * r.val + p.val) k.val :=
    (normed_read m c t s _).trans (by rw [Nat.add_assoc])
  have e2 : rows (weights m c t) d (ix2 q k) = argW m c k.val (firstCol t + 256 * d.val + q.val) :=
    (weights_read m c t _).trans (by rw [Nat.add_assoc])
  exact congrArg₂ (fun a b : EReal => a * b) e1 e2

theorem firstCol_conv (h4 : 4 ≤ t.val / 4 % 12) (h6 : t.val / 4 % 12 ≤ 6) : firstCol t = 4096 + 1024 * (t.val / 4 % 12 - 4) := by
  unfold firstCol
  rw [if_neg (by omega)]
  omega

theorem firstRow_mod (s : Fin 4) : firstRow t s % 1024 = 0 := by
  unfold firstRow
  omega

theorem run_bit : ∀ t : Fin grid0.N, t.val % 2 = 1 →
    Scalar.cmpi .eq (Scalar.remsi (Scalar.muli (rowTile (grid0.coords t)) 1024#32) 2048#32) 0#32 = 0#1 := by decide +kernel

/-- The history that the convolution's points start from. -/
theorem history_at (h4 : 4 ≤ t.val / 4 % 12) (h6 : t.val / 4 % 12 ≤ 6) :
    History (argX m c) (argG m c) (argW m c) (histAt m c t) (firstRow t (rowOf t)) (4096 + 1024 * (t.val / 4 % 12 - 4)) := by
  intro p q
  have lq : q.val < 1024 := q.isLt
  have lp : p.val < 8 := p.isLt
  have hr : (rowOf t).val = t.val % 4 := rfl
  unfold histAt startHist
  by_cases h : t.val % 2 = 0
  · rw [start_bit t h, if_pos (by unfold firstRow; omega)]
    exact Ideal.ofBits_zero_f32
  · have h1 : t.val % 2 = 1 := by omega
    have sel : ∀ a b : FVec Ideal S8x1024 .f32, Scalar.select (0#1) a b = b := fun a b => if_neg (by decide)
    rw [run_bit t h1, sel, if_neg (by unfold firstRow; omega)]
    refine Eq.trans (shapeCast_apply (t := S8x1024) _ shapeCasts_S1x8x1024_S8x1024 _ (ix3 0 p q : S1x8x1024.Idx) ?_) ?_
    · rw [Shape.rowMajor_val_three, Shape.rowMajor_val_two]
      show (0 * 8 + p.val) * 1024 + q.val = p.val * 1024 + q.val
      omega
    unfold tailOf
    refine Eq.trans (newTail_apply _ _ p ⟨q.val / 256, by omega⟩ ⟨q.val % 256, by omega⟩ q (by show q.val = 256 * (q.val / 256) + q.val % 256; omega)) ?_
    refine Eq.trans (products_at m c (prevPt t) (rowOf (prevPt t)) 3 ⟨q.val / 256, by omega⟩ ⟨248 + p.val, by omega⟩ ⟨q.val % 256, by omega⟩) ?_
    have hv : (prevPt t).val = t.val - 1 := rfl
    have hw : (rowOf (prevPt t)).val = (t.val - 1) % 4 := rfl
    congr 1
    · show firstRow (prevPt t) (rowOf (prevPt t)) + 256 * 3 + (248 + p.val) = _
      unfold firstRow
      omega
    · rw [firstCol_conv (prevPt t) (by omega) (by omega)]
      show 4096 + 1024 * ((prevPt t).val / 4 % 12 - 4) + 256 * (q.val / 256) + q.val % 256 = _
      omega

/-! ## The output tiles -/

theorem isSilu_eq : ∀ t : Fin grid0.N, isSilu (grid0.coords t) = if t.val / 4 % 12 = 3 ∨ t.val / 4 % 12 = 7 then 1#1 else 0#1 := by decide +kernel
theorem scale_bit : ∀ t : Fin grid0.N, 4 ≤ t.val / 4 % 12 → t.val / 4 % 12 ≤ 6 →
    Scalar.cmpi .eq (Scalar.subi (BitVec.ofNat 32 ((grid0.coords t) 1).val) 4#32) 0#32 = if t.val / 4 % 12 = 4 then 1#1 else 0#1 := by decide +kernel

theorem normScale_eq (h4 : 4 ≤ t.val / 4 % 12) (h6 : t.val / 4 % 12 ≤ 6) :
    normScale (F := Ideal) (grid0.coords t) = if t.val / 4 % 12 = 4 then qscale else 1 := by
  unfold normScale
  rw [scale_bit t h4 h6]
  by_cases h : t.val / 4 % 12 = 4
  · rw [if_pos h, if_pos h]
    rfl
  · rw [if_neg h, if_neg h]
    exact Ideal.ofBits_one_f32

variable (rG : ∀ k : Fin 2048, IsReal (argG m c k)) (rW : ∀ (k : Fin 2048) (d : ℕ), d < 3072 → IsReal (argW m c k (4096 + d)))
  (rK : ∀ a d : ℕ, IsReal (argK m c a d))

include rG rW rK in
/-- The output tile of a point is its part of the first result. -/
theorem outAt_read (y : S1024x1024.Idx) :
    outAt m c t y = wide (argX m c) (argG m c) (argW m c) (argK m c) (firstRow t (rowOf t) + (y 0).val) (1024 * (t.val / 4 % 12) + (y 1).val) := by
  have l1 : (y 1).val < 1024 := (y 1).isLt
  have hP := products_at m c t (rowOf t)
  have hR := firstRow_mod t (rowOf t)
  obtain ⟨j, hj⟩ : ∃ j, t.val / 4 % 12 = j := ⟨_, rfl⟩
  have lj : j < 12 := by omega
  have hd : (1024 * j + (y 1).val) / 1024 = j := by omega
  unfold outAt wide
  rw [hj, hd]
  by_cases h8 : 8 ≤ j
  · rw [if_pos h8, if_pos (show 8192 ≤ 1024 * j + (y 1).val by omega)]
    have hn : firstCol t + (y 1).val = 1024 * j + (y 1).val + 16 := by
      unfold firstCol
      rw [hj, if_pos h8]
      omega
    rw [← hn]
    exact gateTile_read hP y
  rw [if_neg h8, if_neg (show ¬8192 ≤ 1024 * j + (y 1).val by omega)]
  by_cases h46 : 4 ≤ j ∧ j ≤ 6
  · have hH := history_at m c t (by omega) (by omega)
    rw [firstCol_conv t (by omega) (by omega)] at hP
    rw [hj] at hP hH
    have hK : ∀ (a : Fin 4) (q : Fin 1024), iblk m c 4 t (ix2 a q) = argK m c a.val (1024 * (j - 4) + q.val) := fun a q => by
      rw [← hj]
      exact block_4 m c t (by omega) (by omega) _
    have hc : 1024 * j + (y 1).val - 4096 = 1024 * (j - 4) + (y 1).val := by omega
    by_cases h6 : j = 6
    · rw [if_pos h6, if_pos h6, hc]
      exact convTile_read hP hH hR (by omega) hK rG rW rK y
    · rw [if_neg h6, if_pos (show j = 4 ∨ j = 5 by omega), if_neg h6, hc]
      refine (normTile_read _ (by omega) hP hH hR (by omega) hK rG rW rK y).trans ?_
      rw [normScale_eq t (by omega) (by omega), hj]
      by_cases h4 : j = 4
      · rw [if_pos h4, if_pos h4]
      · rw [if_neg h4, if_neg h4, if_pos (show j = 5 by omega), mul_one]
  · rw [if_neg (show ¬j = 6 by omega), if_neg (show ¬(j = 4 ∨ j = 5) by omega), if_neg (show ¬j = 6 by omega), if_neg (show ¬j = 4 by omega), if_neg (show ¬j = 5 by omega)]
    refine (plainTile_read hP _ y).trans ?_
    have hn : firstCol t + (y 1).val = 1024 * j + (y 1).val := by
      unfold firstCol
      rw [hj, if_neg h8, Nat.add_zero]
    rw [isSilu_eq t, hj, hn]
    by_cases h3 : j = 3 ∨ j = 7
    · rw [if_pos h3, if_pos h3]
      exact if_pos rfl
    · rw [if_neg h3, if_neg h3]
      exact if_neg (by decide)

/-- The small product of a point is its part of the second result. -/
theorem smallAt_read (y : S1024x128.Idx) :
    smallAt m c t y = small (argX m c) (argG m c) (argW m c) (firstRow t (smRow t) + (y 0).val) (y 1).val := by
  unfold smallAt small
  rw [smallProduct_apply]
  have e1 : ∀ k : Fin 2048, k0_pay218 (F := Ideal) (iblk m c 0 (srcPt t (smRow t))) (iblk m c 1 (srcPt t (smRow t))) (ix2 ⟨(y 0).val, (y 0).isLt⟩ k)
      = hid (argX m c) (argG m c) (firstRow t (smRow t) + (y 0).val) k.val := fun k => normed_read m c t (smRow t) _
  have e2 : ∀ k : Fin 2048, smallW m c t (ix2 ⟨(y 1).val, (y 1).isLt⟩ k)
      = if (y 1).val < 16 then argW m c k.val (8192 + (y 1).val) else 0 := fun k =>
    smallRows_apply _ _ (fun n k => argW m c k (8192 + n)) (fun p k => block_3 m c _ _)
  by_cases h : (y 1).val < 16
  · rw [if_pos h]
    refine Finset.sum_congr rfl fun k _ => ?_
    have e3 := e2 k
    rw [if_pos h] at e3
    exact congrArg₂ (fun a b : EReal => a * b) (e1 k) e3
  · rw [if_neg h]
    refine Finset.sum_eq_zero fun k _ => ?_
    have e3 := e2 k
    rw [if_neg h] at e3
    exact (congrArg₂ (fun a b : EReal => a * b) (e1 k) e3).trans (mul_zero _)

end Cert.KernelIdeal.Inproj
-- ==== Proof.Inproj.Out.lean ====
/- The two result arrays after the kernel's run, in terms of the arguments. -/
module

public import proofs.«01_k».proof.Proof.Inproj.Launch
public import proofs.«01_k».proof.Proof.Inproj.Value

@[expose] public section

set_option maxRecDepth 16384

noncomputable section

namespace Cert.KernelIdeal.Inproj

open Cert.KernelIdeal Cert.KernelIdeal.Gen Cert.Inproj
open Idealize Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The first result. -/
def wideArr : Vec Ideal S8192x12288 .bf16 := fun i => wide (argX m c) (argG m c) (argW m c) (argK m c) (i 0).val (i 1).val
/-- The second result. -/
def smallArr : Vec Ideal S8192x128 .f32 := fun i => small (argX m c) (argG m c) (argW m c) (i 0).val (i 1).val

theorem emb_5 (t : Fin cfg0.N) (y : S1024x1024.Idx) : (((cfg0.win 5).blk t).view.emb y 0).val = firstRow t (rowOf t) + (y 0).val
    ∧ (((cfg0.win 5).blk t).view.emb y 1).val = 1024 * (t.val / 4 % 12) + (y 1).val := by
  have e := index_5 t
  have hr : (rowOf t).val = t.val % 4 := rfl
  unfold firstRow
  constructor
  · show win0_5.index t (0 : Fin 2) * 1024 + 1 * (y 0).val = _
    omega
  · show win0_5.index t (1 : Fin 2) * 1024 + 1 * (y 1).val = _
    omega

theorem emb_6 (t : Fin cfg0.N) (y : S1024x128.Idx) : (((cfg0.win 6).blk t).view.emb y 0).val = firstRow t (smRow t) + (y 0).val
    ∧ (((cfg0.win 6).blk t).view.emb y 1).val = (y 1).val := by
  have e := index_6 t
  have hr : (smRow t).val = if t.val / 4 % 12 = 0 then t.val % 4 else 3 := by
    unfold smRow
    by_cases h : t.val / 4 % 12 = 0
    · rw [if_pos h, if_pos h]
      rfl
    · rw [if_neg h, if_neg h]
      rfl
  rw [← hr] at e
  unfold firstRow
  constructor
  · show win0_6.index t (0 : Fin 2) * 1024 + 1 * (y 0).val = _
    omega
  · show win0_6.index t (1 : Fin 2) * 128 + 1 * (y 1).val = _
    omega

/-- Every index of the first result lies in a block that is written back. -/
theorem covered_5 (i : S8192x12288.Idx) : ∃ t : Fin cfg0.N, (cfg0.win 5).flush t = true ∧ i ∈ ((cfg0.win 5).blk t).view.set := by
  have l0 : (i 0).val < 8192 := (i 0).isLt
  have l1 : (i 1).val < 12288 := (i 1).isLt
  obtain ⟨t, ht⟩ : ∃ t : Fin cfg0.N, t.val = 48 * ((i 0).val / 4096) + 4 * ((i 1).val / 1024) + (i 0).val / 1024 % 4 :=
    ⟨⟨48 * ((i 0).val / 4096) + 4 * ((i 1).val / 1024) + (i 0).val / 1024 % 4, by show _ < 96; omega⟩, rfl⟩
  refine ⟨t, flush0_5 t, ?_⟩
  have h := ((cfg0.win 5).blk t).view.emb_mem_set (ix2 ⟨(i 0).val % 1024, by omega⟩ ⟨(i 1).val % 1024, by omega⟩ : S1024x1024.Idx)
  have e := emb_5 t (ix2 ⟨(i 0).val % 1024, by omega⟩ ⟨(i 1).val % 1024, by omega⟩ : S1024x1024.Idx)
  have hr : (rowOf t).val = t.val % 4 := rfl
  have hi : ((cfg0.win 5).blk t).view.emb (ix2 ⟨(i 0).val % 1024, by omega⟩ ⟨(i 1).val % 1024, by omega⟩ : S1024x1024.Idx) = i := by
    funext a
    apply Fin.ext
    match a with
    | ⟨0, _⟩ =>
      refine e.1.trans ?_
      show firstRow t (rowOf t) + (i 0).val % 1024 = (i 0).val
      unfold firstRow
      omega
    | ⟨1, _⟩ =>
      refine e.2.trans ?_
      show 1024 * (t.val / 4 % 12) + (i 1).val % 1024 = (i 1).val
      omega
  rwa [hi] at h

theorem flush_6 : ∀ t : Fin cfg0.N, (t.val % 48 < 3 ∨ t.val % 48 = 47) → (cfg0.win 6).flush t = true :=
  (by decide +kernel : ∀ t : Fin grid0.N, (t.val % 48 < 3 ∨ t.val % 48 = 47) → win0_6.flush t = true)

/-- Every index of the second result lies in a block that is written back. -/
theorem covered_6 (i : S8192x128.Idx) : ∃ t : Fin cfg0.N, (cfg0.win 6).flush t = true ∧ i ∈ ((cfg0.win 6).blk t).view.set := by
  have l0 : (i 0).val < 8192 := (i 0).isLt
  have l1 : (i 1).val < 128 := (i 1).isLt
  obtain ⟨t, ht, hf, hs⟩ : ∃ t : Fin cfg0.N, t.val / 48 = (i 0).val / 4096 ∧ (t.val % 48 < 3 ∨ t.val % 48 = 47) ∧ (smRow t).val = (i 0).val / 1024 % 4 := by
    by_cases h : (i 0).val / 1024 % 4 < 3
    · refine ⟨⟨48 * ((i 0).val / 4096) + (i 0).val / 1024 % 4, by show _ < 96; omega⟩, ?_, ?_, ?_⟩
      · show (48 * ((i 0).val / 4096) + (i 0).val / 1024 % 4) / 48 = _
        omega
      · left
        show (48 * ((i 0).val / 4096) + (i 0).val / 1024 % 4) % 48 < 3
        omega
      · unfold smRow
        rw [if_pos (by show (48 * ((i 0).val / 4096) + (i 0).val / 1024 % 4) / 4 % 12 = 0; omega)]
        show (48 * ((i 0).val / 4096) + (i 0).val / 1024 % 4) % 4 = _
        omega
    · refine ⟨⟨48 * ((i 0).val / 4096) + 47, by show _ < 96; omega⟩, ?_, ?_, ?_⟩
      · show (48 * ((i 0).val / 4096) + 47) / 48 = _
        omega
      · right
        show (48 * ((i 0).val / 4096) + 47) % 48 = 47
        omega
      · unfold smRow
        rw [if_neg (by show ¬(48 * ((i 0).val / 4096) + 47) / 4 % 12 = 0; omega)]
        show 3 = _
        omega
  refine ⟨t, flush_6 t hf, ?_⟩
  have h := ((cfg0.win 6).blk t).view.emb_mem_set (ix2 ⟨(i 0).val % 1024, by omega⟩ ⟨(i 1).val, l1⟩ : S1024x128.Idx)
  have e := emb_6 t (ix2 ⟨(i 0).val % 1024, by omega⟩ ⟨(i 1).val, l1⟩ : S1024x128.Idx)
  have hi : ((cfg0.win 6).blk t).view.emb (ix2 ⟨(i 0).val % 1024, by omega⟩ ⟨(i 1).val, l1⟩ : S1024x128.Idx) = i := by
    funext a
    apply Fin.ext
    match a with
    | ⟨0, _⟩ =>
      refine e.1.trans ?_
      show firstRow t (smRow t) + (i 0).val % 1024 = (i 0).val
      unfold firstRow
      omega
    | ⟨1, _⟩ => exact e.2
  rwa [hi] at h

/-- The second result after the run. -/
theorem final_6 : (dats m 0 c).arrAt 6 cfg0.N = smallArr m c := by
  refine (dats m 0 c).arrAt_eq_of_cover 6 (smallArr m c) (fun t _ => ?_) covered_6
  funext y
  show (dats m 0 c).after 6 t y = smallArr m c (((cfg0.win 6).blk t).view.emb y)
  rw [after_6]
  refine (smallAt_read m c t y).trans ?_
  have e := emb_6 t y
  unfold smallArr
  rw [e.1, e.2]

variable (rG : ∀ k : Fin 2048, IsReal (argG m c k)) (rW : ∀ (k : Fin 2048) (d : ℕ), d < 3072 → IsReal (argW m c k (4096 + d)))
  (rK : ∀ a d : ℕ, IsReal (argK m c a d))

include rG rW rK in
/-- The first result after the run. -/
theorem final_5 : (dats m 0 c).arrAt 5 cfg0.N = wideArr m c := by
  refine (dats m 0 c).arrAt_eq_of_cover 5 (wideArr m c) (fun t _ => ?_) covered_5
  funext y
  show (dats m 0 c).after 5 t y = wideArr m c (((cfg0.win 5).blk t).view.emb y)
  rw [after_5]
  refine (outAt_read m c t rG rW rK y).trans ?_
  have e := emb_5 t y
  unfold wideArr
  rw [e.1, e.2]

end Cert.KernelIdeal.Inproj
-- ==== Proof.Inproj.Agree.lean ====
/- The certificate's claims about the input projection. -/
module

public import proofs.«01_k».proof.Defs
public import proofs.«01_k».proof.Proof.Gen.Kernel
public import proofs.«01_k».proof.Proof.Gen.ReferenceIdeal.Run
public import proofs.«01_k».proof.Proof.Gen.ReferenceIdeal.Read
public import proofs.«01_k».proof.Proof.Inproj.Ref
public import proofs.«01_k».proof.Proof.Inproj.Out

@[expose] public section

set_option maxRecDepth 16384

noncomputable section

namespace Cert.Inproj

open Idealize Idealize.ShloMosaic Idealize.ShloMosaic.TcCoe Idealize.ShloMosaic.ValueIdx
open Idealize.SL.Sem

/-- The precondition's shape relations. -/
instance facts_pre : Cert.Pre_finite_convolution.Facts := ⟨by decide, by decide, by decide, by decide⟩

/-- A value whose absolute value is below infinity is real. -/
theorem real_of_bit (x : Ideal .f32) (h : FloatOps.cmpf .olt (FloatOps.hostAbsf x) (FloatOps.ofBits (F := Ideal) .f32 0x7F800000#32) = 1#1) :
    IsReal x := by
  have top : Ideal.ofBits .f32 0x7F800000#32 = ⊤ := by simp [Ideal.ofBits, Ideal.ieee]
  have h1 : BitVec.ofBool (decide (max (x : EReal) (-x) < Ideal.ofBits .f32 0x7F800000#32)) = 1#1 := h
  rw [top] at h1
  have h2 : max (x : EReal) (-x) < ⊤ := by
    by_contra hn
    rw [decide_eq_false hn] at h1
    exact absurd h1 (by decide)
  rw [max_lt_iff] at h2
  refine (isReal_iff x).mpr ⟨fun e => ?_, h2.1.ne⟩
  have h3 := h2.2
  rw [e] at h3
  exact absurd h3 (by simp)

section Finite
variable {x0 : FVec Ideal Cert.Pre_finite_convolution.S4x2048x2048 .f32} {x1 : FVec Ideal Cert.Pre_finite_convolution.S1x2048 .f32}
  {x2 : FVec Ideal Cert.Pre_finite_convolution.S1x2048x12304 .f32} {x3 : FVec Ideal Cert.Pre_finite_convolution.S1x4x3072 .f32}

theorem real_gain (h : (Cert.Pre_finite_convolution.fn (F := Ideal) x0 x1 x2 x3).1 = fun _ => 1#1) (k : ℕ) : IsReal (gOf x1 k) :=
  real_of_bit _ (congrFun h (ix2 0 (Fin.ofNat 2048 k)))

theorem real_coeff (h : (Cert.Pre_finite_convolution.fn (F := Ideal) x0 x1 x2 x3).2.1 = fun _ => 1#1) (a d : ℕ) : IsReal (kOf x3 a d) :=
  real_of_bit _ (congrFun h (ix3 0 (Fin.ofNat 4 a) (Fin.ofNat 3072 d)))

theorem real_weight (h : (Cert.Pre_finite_convolution.fn (F := Ideal) x0 x1 x2 x3).2.2 = fun _ => 1#1) (k : Fin 2048) (d : ℕ) (hd : d < 3072) :
    IsReal (wOf x2 k (4096 + d)) := by
  have e := congrFun h (ix3 0 k ⟨d, hd⟩)
  have r := extractStridedSlice_apply (t := Cert.Pre_finite_convolution.S1x2048x3072) ![0, 0, 4096] x2
    Cert.Pre_finite_convolution.Facts.slices_S1x2048x12304_S1x2048x3072_0_0_4096 (ix3 0 k ⟨d, hd⟩)
    (ix3 0 k ⟨4096 + d, by omega⟩ : Cert.Pre_finite_convolution.S1x2048x12304.Idx) (fun a => by
      match a with
      | ⟨0, _⟩ => rfl
      | ⟨1, _⟩ => show k.val = 0 + k.val; omega
      | ⟨2, _⟩ => rfl)
  rw [← wOf_eq x2 (ix3 0 k ⟨4096 + d, by omega⟩) k.val (4096 + d) rfl rfl, ← r]
  exact real_of_bit _ e
end Finite

/-- The two programs have the same bodies. -/
theorem same_bodies : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- So they have the same body tables. -/
theorem same_defs : Cert.Kernel.defs (F := Bits) = Cert.KernelIdeal.defs (F := Bits) :=
  congrArg (Pipeline.defs Cert.KernelIdeal.pcfgs) same_bodies

/-- The kernel's frame on machine words. -/
theorem frame_kernel : Cert.quiescent_Kernel := fun m ρ _ => by
  rw [same_defs]
  exact Cert.KernelIdeal.Inproj.frame_any (F := Bits) m ρ

/-- The kernel's frame on the extended reals. -/
theorem frame_ideal : Cert.quiescent_KernelIdeal := fun m ρ _ => Cert.KernelIdeal.Inproj.frame_any (F := Ideal) m ρ

/-- The same under the precondition. -/
theorem frame_ideal_pre : Cert.quiescent_KernelIdeal_pre_finite_convolution := fun m ρ _ =>
  Cert.KernelIdeal.Inproj.frame_any (F := Ideal) m ρ

/-- The reference's frame. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same under the precondition. -/
theorem frame_reference_pre : Cert.quiescent_ReferenceIdeal_pre_finite_convolution := fun m ρ _ => frame_reference m ρ trivial

/-- The reference's run, with its results as functions of the arguments. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v99)
          = (fun i => wide (xOf (m ((c.tc : Thread Cert.ReferenceIdeal.nD Cert.ReferenceIdeal.τ).loc Cert.ReferenceIdeal.main_arg0)))
              (gOf (m ((c.tc : Thread Cert.ReferenceIdeal.nD Cert.ReferenceIdeal.τ).loc Cert.ReferenceIdeal.main_arg1)))
              (wOf (m ((c.tc : Thread Cert.ReferenceIdeal.nD Cert.ReferenceIdeal.τ).loc Cert.ReferenceIdeal.main_arg2)))
              (kOf (m ((c.tc : Thread Cert.ReferenceIdeal.nD Cert.ReferenceIdeal.τ).loc Cert.ReferenceIdeal.main_arg3))) (i 0).val (i 1).val :
              Vec Ideal Cert.ReferenceIdeal.S8192x12288 .bf16)
        ∧ r.2.mem ((c.tc : Thread Cert.ReferenceIdeal.nD Cert.ReferenceIdeal.τ).loc Cert.ReferenceIdeal.main_v100)
          = (fun i => small (xOf (m ((c.tc : Thread Cert.ReferenceIdeal.nD Cert.ReferenceIdeal.τ).loc Cert.ReferenceIdeal.main_arg0)))
              (gOf (m ((c.tc : Thread Cert.ReferenceIdeal.nD Cert.ReferenceIdeal.τ).loc Cert.ReferenceIdeal.main_arg1)))
              (wOf (m ((c.tc : Thread Cert.ReferenceIdeal.nD Cert.ReferenceIdeal.τ).loc Cert.ReferenceIdeal.main_arg2))) (i 0).val (i 1).val :
              Vec Ideal Cert.ReferenceIdeal.S8192x128 .f32)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun r h c =>
    ⟨((h c).1.trans (Cert.ReferenceIdeal.Read.val_main_v99_eq (StableHlo.launchContents m c))).trans (funext fun i => Ref.wide_read _ _ _ _ i),
     ((h c).2.1.trans (Cert.ReferenceIdeal.Read.val_main_v100_eq (StableHlo.launchContents m c))).trans (funext fun i => Ref.small_read _ _ _ i),
     (h c).2.2⟩)
    (Cert.ReferenceIdeal.Value.run (F := Ideal) m ρ)

section Kernel
open Cert.KernelIdeal Cert.KernelIdeal.Gen Cert.KernelIdeal.Inproj

/-- The kernel's run, with its results as functions of the arguments. -/
theorem run_kernel (m : (ℓ : Loc nD τ sig) → Buf (Elt Ideal) ℓ) (ρ : Dev nD → PrngReg)
    (rG : ∀ (c : Dev nD) (k : Fin 2048), IsReal (argG m c k)) (rW : ∀ (c : Dev nD) (k : Fin 2048) (d : ℕ), d < 3072 → IsReal (argW m c k (4096 + d)))
    (rK : ∀ (c : Dev nD) (a d : ℕ), IsReal (argK m c a d)) :
    θ_run (defs (F := Ideal)) (onTc (τ := τ) (main (F := Ideal))) ⟨m, fun _ => 0, ρ⟩ fun r => ∀ c : Dev nD,
      r.2.mem ((c.tc : Thread nD τ).loc main_v6_0) = wideArr m c
      ∧ r.2.mem ((c.tc : Thread nD τ).loc main_v6_1) = smallArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 5).trans (final_5 m c (rG c) (rW c) (rK c)), ((h.1 c).1 6).trans (final_6 m c), h.2 c⟩)
    (θ_run_and (run_main m ρ) (frame_of m ρ (dats m) (A_eq m) (run_main m ρ)))

end Kernel

/-- The kernel computes what the reference does. -/
theorem agree : Cert.algebraic_KernelIdeal_ReferenceIdeal_pre_finite_convolution := by
  intro m g m' g' hp hm
  refine ⟨fun c => Cert.KernelIdeal.Inproj.wideArr m c, fun c => Cert.KernelIdeal.Inproj.smallArr m c,
    run_kernel m g (fun c k => real_gain (hp c).1 k) (fun c k d hd => real_weight (hp c).2.2 k d hd) (fun c a d => real_coeff (hp c).2.1 a d), ?_⟩
  refine (θ_run Cert.ReferenceIdeal.defs _ _).mono (fun r h c => ⟨(h c).1.trans ?_, (h c).2.1.trans ?_, (h c).2.2⟩) (run_reference m' g')
  · rw [(hm c).1, (hm c).2.1, (hm c).2.2.1, (hm c).2.2.2]
    rfl
  · rw [(hm c).1, (hm c).2.1, (hm c).2.2.1]
    rfl

end Cert.Inproj
-- ==== Proof.Merge.Spec.lean ====
module

public import proofs.«01_k».proof.Proof.Inproj.Spec

@[expose] public section

/-! The gated merge of the two branches as plain functions of the extended reals.

A token is named by its row `R` in the flattened batch. `A` and `B` are the outputs of the two branches, `T` the row of
the projection whose last 4096 columns are the two gates, `X` the layer's input, `U`, `V`, `O` the three weights. -/

namespace Cert.Merge

open Idealize Idealize.ShloMosaic Idealize.ShloMosaic.ValueIdx Cert.Inproj

noncomputable section

variable (A B T X U V O : ℕ → ℕ → EReal)

/-- A channel of a branch after its projection. -/
def branch (R n : ℕ) : EReal := ∑ k : Fin 1024, A R k * U k n
/-- A channel of the merged branches: each one times its gate. -/
def mixed (R n : ℕ) : EReal := T R (8192 + n) * branch A U R n + T R (10240 + n) * branch B V R n
/-- A channel of the layer's output before the last norm. -/
def total (R n : ℕ) : EReal := X R n + ∑ k : Fin 2048, mixed A B T U V R k * O k n

/-- The output of a branch at a row and a channel. -/
def bOf (x : (⟨2, ![8192, 1024]⟩ : Shape).Idx → EReal) (R k : ℕ) : EReal := x (ix2 (Fin.ofNat 8192 R) (Fin.ofNat 1024 k))
/-- The wide projection at a row and a column. -/
def tOf (x : (⟨2, ![8192, 12288]⟩ : Shape).Idx → EReal) (R k : ℕ) : EReal := x (ix2 (Fin.ofNat 8192 R) (Fin.ofNat 12288 k))
/-- A branch's weight at a row and a column. -/
def uOf (x : (⟨3, ![1, 1024, 2048]⟩ : Shape).Idx → EReal) (k n : ℕ) : EReal := x (ix3 0 (Fin.ofNat 1024 k) (Fin.ofNat 2048 n))
/-- The output weight at a row and a column. -/
def oOf (x : (⟨3, ![1, 2048, 2048]⟩ : Shape).Idx → EReal) (k n : ℕ) : EReal := x (ix3 0 (Fin.ofNat 2048 k) (Fin.ofNat 2048 n))
/-- The last norm's gain at a column. -/
def fOf (x : (⟨1, ![2048]⟩ : Shape).Idx → EReal) (n : ℕ) : EReal := x (ix1 (Fin.ofNat 2048 n))

theorem bOf_eq (x : (⟨2, ![8192, 1024]⟩ : Shape).Idx → EReal) (i : (⟨2, ![8192, 1024]⟩ : Shape).Idx) (R k : ℕ)
    (h0 : (i 0).val = R) (h1 : (i 1).val = k) : x i = bOf x R k := by
  have l0 : (i 0).val < 8192 := (i 0).isLt
  have l1 : (i 1).val < 1024 := (i 1).isLt
  refine congrArg x (funext fun a => Fin.ext ?_)
  match a with
  | ⟨0, _⟩ => show (i 0).val = R % 8192; omega
  | ⟨1, _⟩ => show (i 1).val = k % 1024; omega

theorem tOf_eq (x : (⟨2, ![8192, 12288]⟩ : Shape).Idx → EReal) (i : (⟨2, ![8192, 12288]⟩ : Shape).Idx) (R k : ℕ)
    (h0 : (i 0).val = R) (h1 : (i 1).val = k) : x i = tOf x R k := by
  have l0 : (i 0).val < 8192 := (i 0).isLt
  have l1 : (i 1).val < 12288 := (i 1).isLt
  refine congrArg x (funext fun a => Fin.ext ?_)
  match a with
  | ⟨0, _⟩ => show (i 0).val = R % 8192; omega
  | ⟨1, _⟩ => show (i 1).val = k % 12288; omega

theorem uOf_eq (x : (⟨3, ![1, 1024, 2048]⟩ : Shape).Idx → EReal) (i : (⟨3, ![1, 1024, 2048]⟩ : Shape).Idx) (k n : ℕ)
    (h1 : (i 1).val = k) (h2 : (i 2).val = n) : x i = uOf x k n := by
  have l0 : (i 0).val < 1 := (i 0).isLt
  have l1 : (i 1).val < 1024 := (i 1).isLt
  have l2 : (i 2).val < 2048 := (i 2).isLt
  refine congrArg x (funext fun a => Fin.ext ?_)
  match a with
  | ⟨0, _⟩ => show (i 0).val = 0; omega
  | ⟨1, _⟩ => show (i 1).val = k % 1024; omega
  | ⟨2, _⟩ => show (i 2).val = n % 2048; omega

theorem oOf_eq (x : (⟨3, ![1, 2048, 2048]⟩ : Shape).Idx → EReal) (i : (⟨3, ![1, 2048, 2048]⟩ : Shape).Idx) (k n : ℕ)
    (h1 : (i 1).val = k) (h2 : (i 2).val = n) : x i = oOf x k n := by
  have l0 : (i 0).val < 1 := (i 0).isLt
  have l1 : (i 1).val < 2048 := (i 1).isLt
  have l2 : (i 2).val < 2048 := (i 2).isLt
  refine congrArg x (funext fun a => Fin.ext ?_)
  match a with
  | ⟨0, _⟩ => show (i 0).val = 0; omega
  | ⟨1, _⟩ => show (i 1).val = k % 2048; omega
  | ⟨2, _⟩ => show (i 2).val = n % 2048; omega

theorem fOf_eq (x : (⟨1, ![2048]⟩ : Shape).Idx → EReal) (i : (⟨1, ![2048]⟩ : Shape).Idx) (n : ℕ)
    (h0 : (i 0).val = n) : x i = fOf x n := by
  have l0 : (i 0).val < 2048 := (i 0).isLt
  refine congrArg x (funext fun a => Fin.ext ?_)
  match a with
  | ⟨0, _⟩ => show (i 0).val = n % 2048; omega

end

end Cert.Merge
-- ==== Proof.Merge.Ref.lean ====
module

public import proofs.«01_k».proof.Proof.Merge.Spec
public import proofs.«01_k».proof.Proof.Gen.Reference2Ideal.Read
public import Idealize.ShloMosaic.Lib.KernelVsHost
public import Idealize.ShloMosaic.Lib.IdealHost

public section

set_option maxRecDepth 16384

/-! The merge's reference, read at an index: its result is `hid` of `total`, both of the arguments. -/

namespace Cert.Merge.Ref

open Cert.Reference2Ideal Cert.Reference2Ideal.Gen Cert.Reference2Ideal.Read
open Cert.Inproj Cert.Merge
open Idealize Idealize.ShloMosaic Idealize.ShloMosaic.ValueIdx

variable (x0 x1 : (⟨S8192x1024, .bf16⟩ : BufTy).Contents (Elt Ideal)) (x2 : (⟨S8192x12288, .bf16⟩ : BufTy).Contents (Elt Ideal))
  (x3 : (⟨S4x2048x2048, .f32⟩ : BufTy).Contents (Elt Ideal)) (x4 x5 : (⟨S1x1024x2048, .f32⟩ : BufTy).Contents (Elt Ideal))
  (x6 : (⟨S1x2048x2048, .f32⟩ : BufTy).Contents (Elt Ideal)) (x7 : (⟨S2048, .f32⟩ : BufTy).Contents (Elt Ideal))

/-- The two gates of a token, side by side. -/
theorem gates_read (i : S4x2048x4096.Idx) (R n : ℕ) (h0 : (i 0).val = R / 2048) (h1 : (i 1).val = R % 2048) (h2 : (i 2).val = n) :
    val_main_v2 (F := Ideal) x2 i = tOf x2 R (8192 + n) := by
  have l2 : (i 2).val < 4096 := (i 2).isLt
  rw [val_main_v2_apply, val_main_v1_apply, Ideal.extf_def, val_main_v0_apply]
  refine tOf_eq x2 _ R (8192 + n) ?_ ?_
  · show (((i 0).val * 2048 + (i 1).val) * 4096 + (i 2).val) / 4096 = R
    omega
  · show 8192 + (((i 0).val * 2048 + (i 1).val) * 4096 + (i 2).val) % 4096 = 8192 + n
    omega

/-- The first branch's projection. -/
theorem first_read (i : S4x2048x2048.Idx) (R n : ℕ) (h0 : (i 0).val = R / 2048) (h1 : (i 1).val = R % 2048) (h2 : (i 2).val = n) :
    val_main_v8 (F := Ideal) x0 x4 i = branch (bOf x0) (uOf x4) R n := by
  have l2 : (i 2).val < 2048 := (i 2).isLt
  rw [val_main_v8_apply]
  refine Finset.sum_congr rfl fun k _ => ?_
  have lk : k.val < 1024 := k.isLt
  rw [val_main_v6_apply, val_main_v5_apply, Ideal.extf_def, val_main_v7_apply]
  refine congrArg₂ (fun a b : EReal => a * b) (bOf_eq x0 _ R k ?_ ?_) (uOf_eq x4 _ k n ?_ ?_)
  · show (((i 0).val * 2048 + (i 1).val) * 1024 + k.val) / 1024 = R
    omega
  · show (((i 0).val * 2048 + (i 1).val) * 1024 + k.val) % 1024 = k.val
    omega
  · show (k.val * 2048 + (i 2).val) / 2048 % 1024 = k.val
    omega
  · show (k.val * 2048 + (i 2).val) % 2048 = n
    omega

/-- The second branch's projection. -/
theorem second_read (i : S4x2048x2048.Idx) (R n : ℕ) (h0 : (i 0).val = R / 2048) (h1 : (i 1).val = R % 2048) (h2 : (i 2).val = n) :
    val_main_v13 (F := Ideal) x1 x5 i = branch (bOf x1) (uOf x5) R n := by
  have l2 : (i 2).val < 2048 := (i 2).isLt
  rw [val_main_v13_apply]
  refine Finset.sum_congr rfl fun k _ => ?_
  have lk : k.val < 1024 := k.isLt
  rw [val_main_v11_apply, val_main_v10_apply, Ideal.extf_def, val_main_v12_apply]
  refine congrArg₂ (fun a b : EReal => a * b) (bOf_eq x1 _ R k ?_ ?_) (uOf_eq x5 _ k n ?_ ?_)
  · show (((i 0).val * 2048 + (i 1).val) * 1024 + k.val) / 1024 = R
    omega
  · show (((i 0).val * 2048 + (i 1).val) * 1024 + k.val) % 1024 = k.val
    omega
  · show (k.val * 2048 + (i 2).val) / 2048 % 1024 = k.val
    omega
  · show (k.val * 2048 + (i 2).val) % 2048 = n
    omega

/-- The merged branches. -/
theorem mixed_read (i : S4x2048x2048.Idx) (R n : ℕ) (h0 : (i 0).val = R / 2048) (h1 : (i 1).val = R % 2048) (h2 : (i 2).val = n) :
    val_main_v15 (F := Ideal) x0 x1 x2 x4 x5 i = mixed (bOf x0) (bOf x1) (tOf x2) (uOf x4) (uOf x5) R n := by
  rw [val_main_v15_apply, val_main_v9_apply, val_main_v14_apply, Ideal.addf_def, Ideal.mulf_def, Ideal.mulf_def,
    val_main_v3_apply, val_main_v4_apply, first_read x0 x4 i R n h0 h1 h2, second_read x1 x5 i R n h0 h1 h2,
    gates_read x2 (idx_main_v3 i) R n h0 h1 h2, gates_read x2 (idx_main_v4 i) R (2048 + n) h0 h1 (by show 2048 + (i 2).val = _; omega),
    show 8192 + (2048 + n) = 10240 + n by omega]
  rfl

/-- The layer's output before its norm. -/
theorem total_read (i : S4x2048x2048.Idx) (R n : ℕ) (h0 : (i 0).val = R / 2048) (h1 : (i 1).val = R % 2048) (h2 : (i 2).val = n) :
    val_main_v18 (F := Ideal) x0 x1 x2 x3 x4 x5 x6 i
      = total (bOf x0) (bOf x1) (tOf x2) (xOf x3) (uOf x4) (uOf x5) (oOf x6) R n := by
  have l2 : (i 2).val < 2048 := (i 2).isLt
  rw [val_main_v18_apply, Ideal.addf_def, val_main_v17_apply, xOf_eq x3 i R n h0 h1 h2]
  unfold total
  refine congrArg (_ + ·) (Finset.sum_congr rfl fun k _ => ?_)
  have lk : k.val < 2048 := k.isLt
  rw [mixed_read x0 x1 x2 x4 x5 (lidx_main_v17 i k) R k h0 h1 rfl, val_main_v16_apply]
  refine congrArg (_ * ·) (oOf_eq x6 _ k n ?_ ?_)
  · show (k.val * 2048 + (i 2).val) / 2048 % 2048 = k.val
    omega
  · show (k.val * 2048 + (i 2).val) % 2048 = n
    omega

/-- The reciprocal root mean square of a token's row. -/
theorem inv_read (i : S4x2048x1.Idx) (R : ℕ) (h0 : (i 0).val = R / 2048) (h1 : (i 1).val = R % 2048) :
    val_main_v26 (F := Ideal) x0 x1 x2 x3 x4 x5 x6 i
      = inv (total (bOf x0) (bOf x1) (tOf x2) (xOf x3) (uOf x4) (uOf x5) (oOf x6)) R := by
  rw [val_main_v26_apply, val_main_v25_apply, val_main_v24_apply, val_main_v23_apply, val_main_v22_apply, val_main_v21_apply,
    val_main_v20_apply, val_main_cst_apply, val_main_cst_0_apply, val_main_cst_1_apply,
    Ideal.hostUnary_rsqrt_def, Ideal.addf_def, Ideal.hostDivf_def, Ideal.ofBits_def, Ideal.ofBits_def, Ideal.ofBits_def,
    Ideal.ofBits_zero_f32, zero_add]
  unfold Cert.Inproj.inv width eps
  refine congrArg (fun s => Ideal.rsqrt (Ideal.div s _ + _)) (Finset.sum_congr rfl fun k _ => ?_)
  rw [val_main_v19_apply, Ideal.mulf_def, total_read x0 x1 x2 x3 x4 x5 x6 (idx_main_v20 (idx_main_v21 i) k) R k h0 h1 rfl]

/-- The result. -/
theorem result_read (i : S8192x2048.Idx) : val_main_v32 (F := Ideal) x0 x1 x2 x3 x4 x5 x6 x7 i
    = hid (total (bOf x0) (bOf x1) (tOf x2) (xOf x3) (uOf x4) (uOf x5) (oOf x6)) (fOf x7) (i 0).val (i 1).val := by
  have l0 : (i 0).val < 8192 := (i 0).isLt
  have l1 : (i 1).val < 2048 := (i 1).isLt
  have e0 : ((idx_main_v32 i) 0).val = (i 0).val / 2048 := by
    show ((i 0).val * 2048 + (i 1).val) / 4194304 = _
    omega
  have e1 : ((idx_main_v32 i) 1).val = (i 0).val % 2048 := by
    show ((i 0).val * 2048 + (i 1).val) / 2048 % 2048 = _
    omega
  have e2 : ((idx_main_v32 i) 2).val = (i 1).val := by
    show ((i 0).val * 2048 + (i 1).val) % 2048 = _
    omega
  rw [val_main_v32_apply, val_main_v31_apply, val_main_v30_apply, val_main_v29_apply, val_main_v28_apply, val_main_v27_apply,
    Ideal.mulf_def, Ideal.mulf_def, total_read x0 x1 x2 x3 x4 x5 x6 _ (i 0).val (i 1).val e0 e1 e2,
    inv_read x0 x1 x2 x3 x4 x5 x6 _ (i 0).val e0 e1, fOf_eq x7 _ (i 1).val e2]
  rfl

end Cert.Merge.Ref
-- ==== Proof.Merge.Blocks.lean ====
/- The blocks that the merge's windows hold, in terms of the arguments. -/
module

public import proofs.«01_k».proof.Proof.Merge.Spec
public import proofs.«01_k».proof.Proof.Gen.Kernel2Ideal.Value
public import Idealize.ShloMosaic.Lib.Pipeline.Value

@[expose] public section

set_option maxRecDepth 16384

noncomputable section

namespace Cert.Kernel2Ideal.Merge

open Cert.Kernel2Ideal Cert.Kernel2Ideal.Gen Cert.Inproj Cert.Merge
open Idealize Idealize.ShloMosaic Idealize.ShloMosaic.TcCoe Idealize.ShloMosaic.ValueIdx

variable (m : (ℓ : Loc nD τ sig) → Buf (Elt Ideal) ℓ) (c : Dev nD)

/-- The attention branch. -/
abbrev argA : ℕ → ℕ → EReal := bOf (m ((c : Thread nD τ).loc main_arg0))
/-- The recurrent branch. -/
abbrev argB : ℕ → ℕ → EReal := bOf (m ((c : Thread nD τ).loc main_arg1))
/-- The wide projection with the gates. -/
abbrev argT : ℕ → ℕ → EReal := tOf (m ((c : Thread nD τ).loc main_arg2))
/-- The input of the layer. -/
abbrev argX : ℕ → ℕ → EReal := xOf (m ((c : Thread nD τ).loc main_arg3))
/-- The attention branch's weight. -/
abbrev argU : ℕ → ℕ → EReal := uOf (m ((c : Thread nD τ).loc main_arg4))
/-- The recurrent branch's weight. -/
abbrev argV : ℕ → ℕ → EReal := uOf (m ((c : Thread nD τ).loc main_arg5))
/-- The output weight. -/
abbrev argO : ℕ → ℕ → EReal := oOf (m ((c : Thread nD τ).loc main_arg6))
/-- The last norm's gain. -/
abbrev argF : ℕ → EReal := fOf (m ((c : Thread nD τ).loc main_arg7))

/-! ## The arrays that the host prepares -/

theorem V_v0 : V m c main_v0 = shapeCast S8192x2048 (m ((c : Thread nD τ).loc main_arg3)) shapeCasts_S4x2048x2048_S8192x2048 := rfl
theorem V_v2 : V m c main_v2 = truncf (F := Ideal) .bf16 (shapeCast S1024x2048 (m ((c : Thread nD τ).loc main_arg4)) shapeCasts_S1x1024x2048_S1024x2048) bitsLt_bf16_f32 := rfl
theorem V_v4 : V m c main_v4 = truncf (F := Ideal) .bf16 (shapeCast S1024x2048 (m ((c : Thread nD τ).loc main_arg5)) shapeCasts_S1x1024x2048_S1024x2048) bitsLt_bf16_f32 := rfl
theorem V_v6 : V m c main_v6 = truncf (F := Ideal) .bf16 (shapeCast S2048x2048 (m ((c : Thread nD τ).loc main_arg6)) shapeCasts_S1x2048x2048_S2048x2048) bitsLt_bf16_f32 := rfl
theorem V_v7 : V m c main_v7 = broadcastInDim S1x2048 ![1] bcast_S2048_S1x2048_1 (m ((c : Thread nD τ).loc main_arg7)) := rfl

/-- The tokens, one row each. -/
theorem tokens_read (i : S8192x2048.Idx) : V m c main_v0 i = argX m c (i 0).val (i 1).val := by
  have l0 : (i 0).val < 8192 := (i 0).isLt
  have l1 : (i 1).val < 2048 := (i 1).isLt
  rw [V_v0]
  refine Eq.trans (shapeCast_apply (t := S8192x2048) _ shapeCasts_S4x2048x2048_S8192x2048 i
    (ix3 ⟨(i 0).val / 2048, by omega⟩ ⟨(i 0).val % 2048, by omega⟩ ⟨(i 1).val, l1⟩ : S4x2048x2048.Idx) ?_) ?_
  · rw [Shape.rowMajor_val_three, Shape.rowMajor_val_two]
    show ((i 0).val / 2048 * 2048 + (i 0).val % 2048) * 2048 + (i 1).val = (i 0).val * 2048 + (i 1).val
    omega
  · exact xOf_eq _ _ (i 0).val (i 1).val rfl rfl rfl

/-- A branch's weight without its leading axis. -/
theorem flat_weight (w : (⟨S1x1024x2048, .f32⟩ : BufTy).Contents (Elt Ideal)) (i : S1024x2048.Idx) :
    truncf (F := Ideal) .bf16 (shapeCast S1024x2048 w shapeCasts_S1x1024x2048_S1024x2048) bitsLt_bf16_f32 i = uOf w (i 0).val (i 1).val := by
  have l0 : (i 0).val < 1024 := (i 0).isLt
  have l1 : (i 1).val < 2048 := (i 1).isLt
  refine Eq.trans (shapeCast_apply (t := S1024x2048) w shapeCasts_S1x1024x2048_S1024x2048 i
    (ix3 0 ⟨(i 0).val, l0⟩ ⟨(i 1).val, l1⟩ : S1x1024x2048.Idx) ?_) ?_
  · rw [Shape.rowMajor_val_three, Shape.rowMajor_val_two]
    show (0 * 1024 + (i 0).val) * 2048 + (i 1).val = (i 0).val * 2048 + (i 1).val
    omega
  · exact uOf_eq _ _ (i 0).val (i 1).val rfl rfl

/-- The output weight without its leading axis. -/
theorem flat_out (w : (⟨S1x2048x2048, .f32⟩ : BufTy).Contents (Elt Ideal)) (i : S2048x2048.Idx) :
    truncf (F := Ideal) .bf16 (shapeCast S2048x2048 w shapeCasts_S1x2048x2048_S2048x2048) bitsLt_bf16_f32 i = oOf w (i 0).val (i 1).val := by
  have l0 : (i 0).val < 2048 := (i 0).isLt
  have l1 : (i 1).val < 2048 := (i 1).isLt
  refine Eq.trans (shapeCast_apply (t := S2048x2048) w shapeCasts_S1x2048x2048_S2048x2048 i
    (ix3 0 ⟨(i 0).val, l0⟩ ⟨(i 1).val, l1⟩ : S1x2048x2048.Idx) ?_) ?_
  · rw [Shape.rowMajor_val_three, Shape.rowMajor_val_two]
    show (0 * 2048 + (i 0).val) * 2048 + (i 1).val = (i 0).val * 2048 + (i 1).val
    omega
  · exact oOf_eq _ _ (i 0).val (i 1).val rfl rfl

/-- The gain, as a row. -/
theorem gain_read (i : S1x2048.Idx) : V m c main_v7 i = argF m c (i 1).val := by
  have l1 : (i 1).val < 2048 := (i 1).isLt
  rw [V_v7]
  refine Eq.trans (broadcastInDim_apply (t := S1x2048) _ bcast_S2048_S1x2048_1 _ i (ix1 ⟨(i 1).val, l1⟩ : S2048.Idx) (fun a => ?_)) ?_
  · match a with
    | ⟨0, _⟩ => show (i 1).val = if (2048 : ℕ) = 1 then 0 else (i 1).val; rw [if_neg (by decide)]
  · exact fOf_eq _ _ (i 1).val rfl

/-! ## Where the windows stand -/

theorem index_0 : ∀ t : Fin cfg0.N, win0_0.index t (0 : Fin 2) = t.val ∧ win0_0.index t (1 : Fin 2) = 0 := (by decide +kernel : ∀ t : Fin grid0.N, _)
theorem index_1 : ∀ t : Fin cfg0.N, win0_1.index t (0 : Fin 2) = t.val ∧ win0_1.index t (1 : Fin 2) = 0 := (by decide +kernel : ∀ t : Fin grid0.N, _)
theorem index_2 : ∀ t : Fin cfg0.N, win0_2.index t (0 : Fin 2) = t.val ∧ win0_2.index t (1 : Fin 2) = 4 := (by decide +kernel : ∀ t : Fin grid0.N, _)
theorem index_3 : ∀ t : Fin cfg0.N, win0_3.index t (0 : Fin 2) = t.val ∧ win0_3.index t (1 : Fin 2) = 5 := (by decide +kernel : ∀ t : Fin grid0.N, _)
theorem index_4 : ∀ t : Fin cfg0.N, win0_4.index t (0 : Fin 2) = t.val ∧ win0_4.index t (1 : Fin 2) = 0 := (by decide +kernel : ∀ t : Fin grid0.N, _)
theorem index_5 : ∀ t : Fin cfg0.N, win0_5.index t (0 : Fin 2) = 0 ∧ win0_5.index t (1 : Fin 2) = 0 := (by decide +kernel : ∀ t : Fin grid0.N, _)
theorem index_6 : ∀ t : Fin cfg0.N, win0_6.index t (0 : Fin 2) = 0 ∧ win0_6.index t (1 : Fin 2) = 0 := (by decide +kernel : ∀ t : Fin grid0.N, _)
theorem index_7 : ∀ t : Fin cfg0.N, win0_7.index t (0 : Fin 2) = 0 ∧ win0_7.index t (1 : Fin 2) = 0 := (by decide +kernel : ∀ t : Fin grid0.N, _)
theorem index_8 : ∀ t : Fin cfg0.N, win0_8.index t (0 : Fin 2) = 0 ∧ win0_8.index t (1 : Fin 2) = 0 := (by decide +kernel : ∀ t : Fin grid0.N, _)
theorem index_9 : ∀ t : Fin cfg0.N, win0_9.index t (0 : Fin 2) = t.val ∧ win0_9.index t (1 : Fin 2) = 0 := (by decide +kernel : ∀ t : Fin grid0.N, _)

/-! ## The blocks -/

variable (t : Fin cfg0.N)

theorem block_0 (y : S512x1024.Idx) : iblk m c 0 t y = argA m c (512 * t.val + (y 0).val) (y 1).val := by
  have e := index_0 t
  refine Eq.trans (congrFun (V_main_arg0 m c) (((cfg0.win 0).blk t).view.emb y)) ?_
  refine bOf_eq _ _ _ _ ?_ ?_
  · show win0_0.index t (0 : Fin 2) * 512 + 1 * (y 0).val = _
    omega
  · show win0_0.index t (1 : Fin 2) * 1024 + 1 * (y 1).val = _
    omega

theorem block_1 (y : S512x1024.Idx) : iblk m c 1 t y = argB m c (512 * t.val + (y 0).val) (y 1).val := by
  have e := index_1 t
  refine Eq.trans (congrFun (V_main_arg1 m c) (((cfg0.win 1).blk t).view.emb y)) ?_
  refine bOf_eq _ _ _ _ ?_ ?_
  · show win0_1.index t (0 : Fin 2) * 512 + 1 * (y 0).val = _
    omega
  · show win0_1.index t (1 : Fin 2) * 1024 + 1 * (y 1).val = _
    omega

/-- The first gate: columns 8192 to 10239 of the projection. -/
theorem block_2 (y : S512x2048.Idx) : iblk m c 2 t y = argT m c (512 * t.val + (y 0).val) (8192 + (y 1).val) := by
  have e := index_2 t
  refine Eq.trans (congrFun (V_main_arg2 m c) (((cfg0.win 2).blk t).view.emb y)) ?_
  refine tOf_eq _ _ _ _ ?_ ?_
  · show win0_2.index t (0 : Fin 2) * 512 + 1 * (y 0).val = _
    omega
  · show win0_2.index t (1 : Fin 2) * 2048 + 1 * (y 1).val = _
    omega

/-- The second gate: columns 10240 to 12287. -/
theorem block_3 (y : S512x2048.Idx) : iblk m c 3 t y = argT m c (512 * t.val + (y 0).val) (10240 + (y 1).val) := by
  have e := index_3 t
  refine Eq.trans (congrFun (V_main_arg2 m c) (((cfg0.win 3).blk t).view.emb y)) ?_
  refine tOf_eq _ _ _ _ ?_ ?_
  · show win0_3.index t (0 : Fin 2) * 512 + 1 * (y 0).val = _
    omega
  · show win0_3.index t (1 : Fin 2) * 2048 + 1 * (y 1).val = _
    omega

theorem block_4 (y : S512x2048.Idx) : iblk m c 4 t y = argX m c (512 * t.val + (y 0).val) (y 1).val := by
  have e := index_4 t
  refine Eq.trans (tokens_read m c (((cfg0.win 4).blk t).view.emb y)) ?_
  congr 1
  · show win0_4.index t (0 : Fin 2) * 512 + 1 * (y 0).val = _
    omega
  · show win0_4.index t (1 : Fin 2) * 2048 + 1 * (y 1).val = _
    omega

theorem block_5 (y : S1024x2048.Idx) : iblk m c 5 t y = argU m c (y 0).val (y 1).val := by
  have e := index_5 t
  refine Eq.trans (Eq.trans (congrFun (V_v2 m c) (((cfg0.win 5).blk t).view.emb y)) (flat_weight _ _)) ?_
  congr 1
  · show win0_5.index t (0 : Fin 2) * 1024 + 1 * (y 0).val = _
    omega
  · show win0_5.index t (1 : Fin 2) * 2048 + 1 * (y 1).val = _
    omega

theorem block_6 (y : S1024x2048.Idx) : iblk m c 6 t y = argV m c (y 0).val (y 1).val := by
  have e := index_6 t
  refine Eq.trans (Eq.trans (congrFun (V_v4 m c) (((cfg0.win 6).blk t).view.emb y)) (flat_weight _ _)) ?_
  congr 1
  · show win0_6.index t (0 : Fin 2) * 1024 + 1 * (y 0).val = _
    omega
  · show win0_6.index t (1 : Fin 2) * 2048 + 1 * (y 1).val = _
    omega

theorem block_7 (y : S2048x2048.Idx) : iblk m c 7 t y = argO m c (y 0).val (y 1).val := by
  have e := index_7 t
  refine Eq.trans (Eq.trans (congrFun (V_v6 m c) (((cfg0.win 7).blk t).view.emb y)) (flat_out _ _)) ?_
  congr 1
  · show win0_7.index t (0 : Fin 2) * 2048 + 1 * (y 0).val = _
    omega
  · show win0_7.index t (1 : Fin 2) * 2048 + 1 * (y 1).val = _
    omega

theorem block_8 (y : S1x2048.Idx) : iblk m c 8 t y = argF m c (y 1).val := by
  have e := index_8 t
  refine Eq.trans (gain_read m c (((cfg0.win 8).blk t).view.emb y)) ?_
  congr 1
  show win0_8.index t (1 : Fin 2) * 2048 + 1 * (y 1).val = _
  omega

end Cert.Kernel2Ideal.Merge
-- ==== Proof.Merge.Tile.lean ====
/- A chunk of 256 rows of the merge, read at an index at the extended reals. -/
module

public import proofs.«01_k».proof.Proof.Merge.Spec
public import proofs.«01_k».proof.Proof.Gen.Kernel2Ideal.Skeleton
public import Idealize.ShloMosaic.Lib.KernelVsHost
public import Idealize.ShloMosaic.Lib.Pipeline.Value

@[expose] public section

set_option maxRecDepth 16384

noncomputable section

namespace Cert.Kernel2Ideal.Merge

open Cert.Kernel2Ideal Cert.Kernel2Ideal.Gen Cert.Inproj Cert.Merge
open Idealize Idealize.ShloMosaic Idealize.ShloMosaic.ValueIdx

/-- A branch's rows times its weight. -/
def branchChunk (a : Vec Ideal S256x1024 .bf16) (w : Vec Ideal S1024x2048 .bf16) : FVec Ideal S256x2048 .f32 :=
  matmul (φ₁ := .bf16) (φ₂ := .bf16) dot_S256x1024_S1024x2048_S256x2048_1_0_0_1_n_n none a (shapeCast S1024x2048 w shapeCasts_S1024x2048_S1024x2048)
    (constant S256x2048 .f32 0x00000000#32)

/-- The gated sum of the two branches. -/
def mixedChunk (a : Vec Ideal S256x1024 .bf16) (u : Vec Ideal S1024x2048 .bf16) (b : Vec Ideal S256x1024 .bf16)
    (v : Vec Ideal S1024x2048 .bf16) (p q : Vec Ideal S256x2048 .bf16) : FVec Ideal S256x2048 .f32 :=
  addf (mulf (extf .f32 p bitsLt_bf16_f32) (branchChunk a u)) (mulf (extf .f32 q bitsLt_bf16_f32) (branchChunk b v))

/-- Rows of the residual plus a product with the output weight. -/
def totalChunk (z : FVec Ideal S256x2048 .f32) (x : Vec Ideal S256x2048 .f32) (o : Vec Ideal S2048x2048 .bf16) : FVec Ideal S256x2048 .f32 :=
  addf (shapeCast S256x2048 x shapeCasts_S256x2048_S256x2048)
    (matmul (φ₁ := .bf16) (φ₂ := .bf16) dot_S256x2048_S2048x2048_S256x2048_1_0_0_1_n_n none (truncf .bf16 z bitsLt_bf16_f32)
      (shapeCast S2048x2048 o shapeCasts_S2048x2048_S2048x2048) (constant S256x2048 .f32 0x00000000#32))

/-- Rows divided by their root mean square. -/
def scaledChunk (z : FVec Ideal S256x2048 .f32) : FVec Ideal S256x2048 .f32 :=
  mulf z (broadcastTo S256x2048 (rsqrt (addf (divf (shapeCast S256x1
    (multiReduction .add [1] S256 (mulf z z) 0x00000000#32 reduces_S256x2048_S256 (.inl rfl) rfl) shapeCasts_S256_S256x1)
    (broadcast S256x1 (Scalar.ofBits .f32 0x45000000#32))) (broadcast S256x1 (Scalar.ofBits .f32 0x358637BD#32)))) broadcasts_S256x1_S256x2048)

theorem first_chunk (a : Vec Ideal S256x1024 .bf16) (u : Vec Ideal S1024x2048 .bf16) (b : Vec Ideal S256x1024 .bf16)
    (v : Vec Ideal S1024x2048 .bf16) (p q : Vec Ideal S256x2048 .bf16) (x : Vec Ideal S256x2048 .f32) (o : Vec Ideal S2048x2048 .bf16) :
    k0_pay2 (F := Ideal) a u b v p q x o = scaledChunk (totalChunk (mixedChunk a u b v p q) x o) := rfl

theorem second_chunk (a : Vec Ideal S256x1024 .bf16) (u : Vec Ideal S1024x2048 .bf16) (b : Vec Ideal S256x1024 .bf16)
    (v : Vec Ideal S1024x2048 .bf16) (p q : Vec Ideal S256x2048 .bf16) (x : Vec Ideal S256x2048 .f32) (o : Vec Ideal S2048x2048 .bf16) :
    k0_pay5 (F := Ideal) a u b v p q x o = scaledChunk (totalChunk (mixedChunk a u b v p q) x o) := rfl

theorem lhs_branch (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl

theorem rhs_branch (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

theorem lhs_total (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl

theorem rhs_total (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A branch's product at an index. -/
theorem branchChunk_apply (a : Vec Ideal S256x1024 .bf16) (w : Vec Ideal S1024x2048 .bf16) (y : S256x2048.Idx) :
    branchChunk a w y = ∑ k : Fin 1024, (a (ix2 ⟨(y 0).val, (y 0).isLt⟩ k) : EReal) * w (ix2 k ⟨(y 1).val, (y 1).isLt⟩) := by
  unfold branchChunk
  simp only [matmul]
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx y ((ValueIdx.contrEquiv1 dot_S256x1024_S1024x2048_S256x2048_1_0_0_1_n_n 1024 rfl rfl).symm k)
      = ix2 ⟨(y 0).val, (y 0).isLt⟩ k := funext fun a => Fin.ext (by
    match a with
    | ⟨0, _⟩ => exact lhs_branch _ _
    | ⟨1, _⟩ => exact (dot_S256x1024_S1024x2048_S256x2048_1_0_0_1_n_n.lhsIdx_val_of_single rfl y _).trans hk)
  have er : dot_S256x1024_S1024x2048_S256x2048_1_0_0_1_n_n.rhsIdx y ((ValueIdx.contrEquiv1 dot_S256x1024_S1024x2048_S256x2048_1_0_0_1_n_n 1024 rfl rfl).symm k)
      = ix2 k ⟨(y 1).val, (y 1).isLt⟩ := funext fun a => Fin.ext (by
    match a with
    | ⟨0, _⟩ => exact (dot_S256x1024_S1024x2048_S256x2048_1_0_0_1_n_n.rhsIdx_val_of_single rfl y _).trans hk
    | ⟨1, _⟩ => exact rhs_branch _ _)
  rw [el, er]
  exact congrArg (fun b : EReal => (a (ix2 ⟨(y 0).val, (y 0).isLt⟩ k) : EReal) * b)
    (shapeCast_apply (t := S1024x2048) w shapeCasts_S1024x2048_S1024x2048 _ _ rfl)

/-- The residual plus the output product at an index. -/
theorem totalChunk_apply (z : FVec Ideal S256x2048 .f32) (x : Vec Ideal S256x2048 .f32) (o : Vec Ideal S2048x2048 .bf16) (y : S256x2048.Idx) :
    totalChunk z x o y = x y + ∑ k : Fin 2048, (z (ix2 ⟨(y 0).val, (y 0).isLt⟩ k) : EReal) * o (ix2 k ⟨(y 1).val, (y 1).isLt⟩) := by
  unfold totalChunk
  simp only [matmul]
  show (shapeCast S256x2048 x shapeCasts_S256x2048_S256x2048 y : EReal) + _ = _
  refine congrArg₂ (fun a b : EReal => a + b) (shapeCast_apply (t := S256x2048) x shapeCasts_S256x2048_S256x2048 y y rfl) ?_
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx y ((ValueIdx.contrEquiv1 dot_S256x2048_S2048x2048_S256x2048_1_0_0_1_n_n 2048 rfl rfl).symm k)
      = ix2 ⟨(y 0).val, (y 0).isLt⟩ k := funext fun a => Fin.ext (by
    match a with
    | ⟨0, _⟩ => exact lhs_total _ _
    | ⟨1, _⟩ => exact (dot_S256x2048_S2048x2048_S256x2048_1_0_0_1_n_n.lhsIdx_val_of_single rfl y _).trans hk)
  have er : dot_S256x2048_S2048x2048_S256x2048_1_0_0_1_n_n.rhsIdx y ((ValueIdx.contrEquiv1 dot_S256x2048_S2048x2048_S256x2048_1_0_0_1_n_n 2048 rfl rfl).symm k)
      = ix2 k ⟨(y 1).val, (y 1).isLt⟩ := funext fun a => Fin.ext (by
    match a with
    | ⟨0, _⟩ => exact (dot_S256x2048_S2048x2048_S256x2048_1_0_0_1_n_n.rhsIdx_val_of_single rfl y _).trans hk
    | ⟨1, _⟩ => exact rhs_total _ _)
  rw [el, er]
  exact congrArg (fun b : EReal => (z (ix2 ⟨(y 0).val, (y 0).isLt⟩ k) : EReal) * b)
    (shapeCast_apply (t := S2048x2048) o shapeCasts_S2048x2048_S2048x2048 _ _ rfl)

/-- A scaled row at an index, when the row is `Z R`. -/
theorem scaledChunk_apply (z : FVec Ideal S256x2048 .f32) (y : S256x2048.Idx) (Z : ℕ → ℕ → EReal) (R : ℕ)
    (hZ : ∀ k : Fin 2048, z (ix2 ⟨(y 0).val, (y 0).isLt⟩ k) = Z R k.val) :
    scaledChunk z y = Z R (y 1).val * inv Z R := by
  have l0 : (y 0).val < 256 := (y 0).isLt
  have l1 : (y 1).val < 2048 := (y 1).isLt
  unfold scaledChunk
  show z y * broadcastTo S256x2048 _ broadcasts_S256x1_S256x2048 y = _
  refine congrArg₂ (fun a b : EReal => a * b) ?_ ?_
  · rw [← hZ ⟨(y 1).val, l1⟩]
    refine congrArg z (funext fun a => Fin.ext ?_)
    match a with
    | ⟨0, _⟩ => rfl
    | ⟨1, _⟩ => rfl
  · refine Eq.trans (broadcastTo_apply (t := S256x2048) _ broadcasts_S256x1_S256x2048 y (ix2 ⟨(y 0).val, l0⟩ 0 : S256x1.Idx) (fun a => ?_)) ?_
    · match a with
      | ⟨0, _⟩ => show (y 0).val = if (256 : ℕ) = 1 then 0 else (y 0).val; rw [if_neg (by decide)]
      | ⟨1, _⟩ => show 0 = if (1 : ℕ) = 1 then 0 else (y 1).val; rw [if_pos rfl]
    unfold Cert.Inproj.inv
    show Ideal.rsqrt (Ideal.div (shapeCast S256x1 _ shapeCasts_S256_S256x1 _) width + eps) = _
    refine congrArg (fun q => Ideal.rsqrt (Ideal.div q width + eps)) ?_
    refine Eq.trans (shapeCast_apply (t := S256x1) _ shapeCasts_S256_S256x1 _ (ix1 ⟨(y 0).val, l0⟩ : S256.Idx)
      (by rw [Shape.rowMajor_val_one, Shape.rowMajor_val_two]; show (y 0).val = (y 0).val * 1 + 0; omega)) ?_
    refine Eq.trans (Ideal.multiReduction_add_single _ 0x00000000#32 reduces_S256x2048_S256 (.inl rfl) rfl (ix1 ⟨(y 0).val, l0⟩ : S256.Idx)) ?_
    refine Finset.sum_congr rfl fun k _ => ?_
    have hk : z (reduces_S256x2048_S256.lift (ix1 ⟨(y 0).val, l0⟩ : S256.Idx) k : S256x2048.Idx) = Z R k.val := by
      rw [← hZ ⟨k.val, k.isLt⟩]
      refine congrArg z (funext fun a => Fin.ext ?_)
      match a with
      | ⟨0, _⟩ => rfl
      | ⟨1, _⟩ => rfl
    exact congrArg₂ (fun a b : EReal => a * b) hk hk

section Read

variable {a b : Vec Ideal S256x1024 .bf16} {u v : Vec Ideal S1024x2048 .bf16} {p q : Vec Ideal S256x2048 .bf16}
  {x : Vec Ideal S256x2048 .f32} {o : Vec Ideal S2048x2048 .bf16} {A B T X U V O : ℕ → ℕ → EReal} {R : ℕ}

/-- The chunk before its gain, in terms of the arguments: row `y 0` is token `R + y 0`. -/
theorem chunk_read (hA : ∀ r k, a (ix2 r k) = A (R + r.val) k.val) (hB : ∀ r k, b (ix2 r k) = B (R + r.val) k.val)
    (hU : ∀ k n, u (ix2 k n) = U k.val n.val) (hV : ∀ k n, v (ix2 k n) = V k.val n.val)
    (hp : ∀ r n, p (ix2 r n) = T (R + r.val) (8192 + n.val)) (hq : ∀ r n, q (ix2 r n) = T (R + r.val) (10240 + n.val))
    (hX : ∀ r n, x (ix2 r n) = X (R + r.val) n.val) (hO : ∀ k n, o (ix2 k n) = O k.val n.val) (y : S256x2048.Idx) :
    scaledChunk (totalChunk (mixedChunk a u b v p q) x o) y
      = total A B T X U V O (R + (y 0).val) (y 1).val * inv (total A B T X U V O) (R + (y 0).val) := by
  have mix : ∀ (r : Fin 256) (n : Fin 2048), mixedChunk a u b v p q (ix2 r n) = mixed A B T U V (R + r.val) n.val := fun r n => by
    unfold mixedChunk mixed branch
    show (p (ix2 r n) : EReal) * branchChunk a u (ix2 r n) + (q (ix2 r n) : EReal) * branchChunk b v (ix2 r n) = _
    rw [branchChunk_apply, branchChunk_apply, hp, hq]
    refine congrArg₂ (fun c d : EReal => c + d) (congrArg (_ * ·) ?_) (congrArg (_ * ·) ?_)
    · exact Finset.sum_congr rfl fun k _ => congrArg₂ (fun c d : EReal => c * d) (hA r k) (hU k n)
    · exact Finset.sum_congr rfl fun k _ => congrArg₂ (fun c d : EReal => c * d) (hB r k) (hV k n)
  refine scaledChunk_apply _ y (total A B T X U V O) _ fun n => ?_
  rw [totalChunk_apply, hX]
  unfold total
  refine congrArg (_ + ·) (Finset.sum_congr rfl fun k _ => ?_)
  exact congrArg₂ (fun c d : EReal => c * d) (mix _ k) (hO k n)

end Read

/-- The gain's row, repeated. -/
theorem gain_apply (g : Vec Ideal S1x2048 .f32) (y : S256x2048.Idx) : k0_pay3 (F := Ideal) g y = g (ix2 0 ⟨(y 1).val, (y 1).isLt⟩) := by
  unfold k0_pay3
  refine Eq.trans (broadcastTo_apply (t := S256x2048) _ broadcasts_S1x2048_S256x2048 y (ix2 0 ⟨(y 1).val, (y 1).isLt⟩ : S1x2048.Idx) (fun a => ?_)) ?_
  · match a with
    | ⟨0, _⟩ => show 0 = if (1 : ℕ) = 1 then 0 else (y 0).val; rw [if_pos rfl]
    | ⟨1, _⟩ => show (y 1).val = if (2048 : ℕ) = 1 then 0 else (y 1).val; rw [if_neg (by decide)]
  · exact shapeCast_apply (t := S1x2048) g shapeCasts_S1x2048_S1x2048 _ _ rfl

end Cert.Kernel2Ideal.Merge
-- ==== Proof.Merge.Out.lean ====
/- The merge's result after the kernel's run, in terms of the arguments. -/
module

public import proofs.«01_k».proof.Proof.Merge.Blocks
public import proofs.«01_k».proof.Proof.Merge.Tile
public import Idealize.ShloMosaic.Lib.Pipeline.CanonAppend

@[expose] public section

set_option maxRecDepth 16384

noncomputable section

namespace Cert.Kernel2Ideal.Merge

open Cert.Kernel2Ideal Cert.Kernel2Ideal.Gen Cert.Inproj Cert.Merge
open Idealize Idealize.ShloMosaic Idealize.ShloMosaic.TcCoe Idealize.ShloMosaic.ValueIdx

variable (m : (ℓ : Loc nD τ sig) → Buf (Elt Ideal) ℓ) (c : Dev nD) (t : Fin cfg0.N)

/-- The layer's output before its norm. -/
abbrev sumRow : ℕ → ℕ → EReal := total (argA m c) (argB m c) (argT m c) (argX m c) (argU m c) (argV m c) (argO m c)

/-- The result. -/
def outArr : Vec Ideal S8192x2048 .f32 := fun i => hid (sumRow m c) (argF m c) (i 0).val (i 1).val

/-- What a grid point leaves in the result's window. -/
def outBlock : S512x2048.Idx → Elt Ideal .f32 := fun y => hid (sumRow m c) (argF m c) (512 * t.val + (y 0).val) (y 1).val

/-- The first 256 rows of a grid point. -/
theorem first_rows (y : S256x2048.Idx) :
    k0_pay4 (F := Ideal) (k0_pay2 (View.ld (iblk m c 0 t) r0_0) (View.ld (iblk m c 5 t) r0_1) (View.ld (iblk m c 1 t) r0_0)
      (View.ld (iblk m c 6 t) r0_1) (View.ld (iblk m c 2 t) r0_2) (View.ld (iblk m c 3 t) r0_2) (View.ld (iblk m c 4 t) r0_2)
      (View.ld (iblk m c 7 t) r0_3)) (k0_pay3 (View.ld (iblk m c 8 t) r0_4)) y = outBlock m c t (r0_2.emb y) := by
  rw [first_chunk]
  refine Eq.trans (congrArg₂ (fun a b : EReal => a * b) (chunk_read (A := argA m c) (B := argB m c) (T := argT m c) (X := argX m c)
    (U := argU m c) (V := argV m c) (O := argO m c) (R := 512 * t.val)
    (fun r k => (block_0 m c t (r0_0.idx (ix2 r k))).trans (congrArg₂ (argA m c) (by show 512 * t.val + (0 + 1 * r.val) = _; omega) (by show 0 + 1 * k.val = _; omega)))
    (fun r k => (block_1 m c t (r0_0.idx (ix2 r k))).trans (congrArg₂ (argB m c) (by show 512 * t.val + (0 + 1 * r.val) = _; omega) (by show 0 + 1 * k.val = _; omega)))
    (fun k n => (block_5 m c t (r0_1.idx (ix2 k n))).trans (congrArg₂ (argU m c) (by show 0 + 1 * k.val = _; omega) (by show 0 + 1 * n.val = _; omega)))
    (fun k n => (block_6 m c t (r0_1.idx (ix2 k n))).trans (congrArg₂ (argV m c) (by show 0 + 1 * k.val = _; omega) (by show 0 + 1 * n.val = _; omega)))
    (fun r n => (block_2 m c t (r0_2.idx (ix2 r n))).trans (congrArg₂ (argT m c) (by show 512 * t.val + (0 + 1 * r.val) = _; omega) (by show 8192 + (0 + 1 * n.val) = _; omega)))
    (fun r n => (block_3 m c t (r0_2.idx (ix2 r n))).trans (congrArg₂ (argT m c) (by show 512 * t.val + (0 + 1 * r.val) = _; omega) (by show 10240 + (0 + 1 * n.val) = _; omega)))
    (fun r n => (block_4 m c t (r0_2.idx (ix2 r n))).trans (congrArg₂ (argX m c) (by show 512 * t.val + (0 + 1 * r.val) = _; omega) (by show 0 + 1 * n.val = _; omega)))
    (fun k n => (block_7 m c t (r0_3.idx (ix2 k n))).trans (congrArg₂ (argO m c) (by show 0 + 1 * k.val = _; omega) (by show 0 + 1 * n.val = _; omega))) y)
    ((gain_apply _ y).trans ((block_8 m c t (r0_4.idx (ix2 0 ⟨(y 1).val, (y 1).isLt⟩))).trans
      (congrArg (argF m c) (show 0 + 1 * (y 1).val = (y 1).val by omega))))) ?_
  show hid (sumRow m c) (argF m c) (512 * t.val + (y 0).val) (y 1).val = hid (sumRow m c) (argF m c) (512 * t.val + (0 + 1 * (y 0).val)) (0 + 1 * (y 1).val)
  exact congrArg₂ (hid (sumRow m c) (argF m c)) (by omega) (by omega)

/-- The last 256 rows of a grid point. -/
theorem last_rows (y : S256x2048.Idx) :
    k0_pay1 (F := Ideal) (k0_pay5 (View.ld (iblk m c 0 t) r0_5) (View.ld (iblk m c 5 t) r0_1) (View.ld (iblk m c 1 t) r0_5)
      (View.ld (iblk m c 6 t) r0_1) (View.ld (iblk m c 2 t) r0_6) (View.ld (iblk m c 3 t) r0_6) (View.ld (iblk m c 4 t) r0_6)
      (View.ld (iblk m c 7 t) r0_3)) (View.ld (iblk m c 8 t) r0_4) y = outBlock m c t (r0_6.emb y) := by
  rw [second_chunk]
  refine Eq.trans (congrArg₂ (fun a b : EReal => a * b) (chunk_read (A := argA m c) (B := argB m c) (T := argT m c) (X := argX m c)
    (U := argU m c) (V := argV m c) (O := argO m c) (R := 512 * t.val + 256)
    (fun r k => (block_0 m c t (r0_5.idx (ix2 r k))).trans (congrArg₂ (argA m c) (by show 512 * t.val + (256 + 1 * r.val) = _; omega) (by show 0 + 1 * k.val = _; omega)))
    (fun r k => (block_1 m c t (r0_5.idx (ix2 r k))).trans (congrArg₂ (argB m c) (by show 512 * t.val + (256 + 1 * r.val) = _; omega) (by show 0 + 1 * k.val = _; omega)))
    (fun k n => (block_5 m c t (r0_1.idx (ix2 k n))).trans (congrArg₂ (argU m c) (by show 0 + 1 * k.val = _; omega) (by show 0 + 1 * n.val = _; omega)))
    (fun k n => (block_6 m c t (r0_1.idx (ix2 k n))).trans (congrArg₂ (argV m c) (by show 0 + 1 * k.val = _; omega) (by show 0 + 1 * n.val = _; omega)))
    (fun r n => (block_2 m c t (r0_6.idx (ix2 r n))).trans (congrArg₂ (argT m c) (by show 512 * t.val + (256 + 1 * r.val) = _; omega) (by show 8192 + (0 + 1 * n.val) = _; omega)))
    (fun r n => (block_3 m c t (r0_6.idx (ix2 r n))).trans (congrArg₂ (argT m c) (by show 512 * t.val + (256 + 1 * r.val) = _; omega) (by show 10240 + (0 + 1 * n.val) = _; omega)))
    (fun r n => (block_4 m c t (r0_6.idx (ix2 r n))).trans (congrArg₂ (argX m c) (by show 512 * t.val + (256 + 1 * r.val) = _; omega) (by show 0 + 1 * n.val = _; omega)))
    (fun k n => (block_7 m c t (r0_3.idx (ix2 k n))).trans (congrArg₂ (argO m c) (by show 0 + 1 * k.val = _; omega) (by show 0 + 1 * n.val = _; omega))) y)
    ((gain_apply _ y).trans ((block_8 m c t (r0_4.idx (ix2 0 ⟨(y 1).val, (y 1).isLt⟩))).trans
      (congrArg (argF m c) (show 0 + 1 * (y 1).val = (y 1).val by omega))))) ?_
  show hid (sumRow m c) (argF m c) (512 * t.val + 256 + (y 0).val) (y 1).val = hid (sumRow m c) (argF m c) (512 * t.val + (256 + 1 * (y 0).val)) (0 + 1 * (y 1).val)
  exact congrArg₂ (hid (sumRow m c) (argF m c)) (by omega) (by omega)

/-- Two pieces that agree with `G` on the two halves of the window make `G`. -/
theorem two_pieces (G : S512x2048.Idx → Elt Ideal .f32) (p q : Vec Ideal S256x2048 .f32) (hp : ∀ x, p x = G (r0_6.emb x))
    (hq : ∀ x, q x = G (r0_2.emb x)) (y : S512x2048.Idx) :
    View.canon ([⟨r0_6, p⟩, ⟨r0_2, q⟩] : List (View.Piece (Elt Ideal) S512x2048 .f32)) y = G y := by
  have h := View.canon_append_of_pieces (Val := Elt Ideal) G [] ([⟨r0_6, p⟩, ⟨r0_2, q⟩] : List (View.Piece (Elt Ideal) S512x2048 .f32))
    (List.forall_mem_cons.mpr ⟨hp, List.forall_mem_cons.mpr ⟨hq, fun p hp => absurd hp List.not_mem_nil⟩⟩) y (cover0_9 p q y)
  rw [List.append_nil] at h
  exact h

/-- What the body leaves in the window. -/
theorem block_read (y : S512x2048.Idx) : out0_9 (iblk m c 0 t) (iblk m c 1 t) (iblk m c 2 t) (iblk m c 3 t) (iblk m c 4 t) (iblk m c 5 t)
    (iblk m c 6 t) (iblk m c 7 t) (iblk m c 8 t) y = outBlock m c t y := by
  unfold out0_9
  exact two_pieces _ _ _ (last_rows m c t) (first_rows m c t) y

theorem emb_9 (y : S512x2048.Idx) : (((cfg0.win 9).blk t).view.emb y 0).val = 512 * t.val + (y 0).val
    ∧ (((cfg0.win 9).blk t).view.emb y 1).val = (y 1).val := by
  have e := index_9 t
  constructor
  · show win0_9.index t (0 : Fin 2) * 512 + 1 * (y 0).val = _
    omega
  · show win0_9.index t (1 : Fin 2) * 2048 + 1 * (y 1).val = _
    omega

/-- Every index of the result lies in a block that is written back. -/
theorem covered_9 (i : S8192x2048.Idx) : ∃ t : Fin cfg0.N, (cfg0.win 9).flush t = true ∧ i ∈ ((cfg0.win 9).blk t).view.set := by
  have l0 : (i 0).val < 8192 := (i 0).isLt
  have l1 : (i 1).val < 2048 := (i 1).isLt
  obtain ⟨t, ht⟩ : ∃ t : Fin cfg0.N, t.val = (i 0).val / 512 := ⟨⟨(i 0).val / 512, by show _ < 16; omega⟩, rfl⟩
  refine ⟨t, flush0_9 t, ?_⟩
  have h := ((cfg0.win 9).blk t).view.emb_mem_set (ix2 ⟨(i 0).val % 512, by omega⟩ ⟨(i 1).val, l1⟩ : S512x2048.Idx)
  have e := emb_9 t (ix2 ⟨(i 0).val % 512, by omega⟩ ⟨(i 1).val, l1⟩ : S512x2048.Idx)
  have hi : ((cfg0.win 9).blk t).view.emb (ix2 ⟨(i 0).val % 512, by omega⟩ ⟨(i 1).val, l1⟩ : S512x2048.Idx) = i := by
    funext a
    apply Fin.ext
    match a with
    | ⟨0, _⟩ =>
      refine e.1.trans ?_
      show 512 * t.val + (i 0).val % 512 = (i 0).val
      omega
    | ⟨1, _⟩ => exact e.2
  rwa [hi] at h

/-- The result after the run. -/
theorem final_9 : (dats m 0 c).arrAt 9 cfg0.N = outArr m c := by
  refine (dats m 0 c).arrAt_eq_of_cover 9 (outArr m c) (fun t _ => ?_) covered_9
  funext y
  show (dats m 0 c).after 9 t y = outArr m c (((cfg0.win 9).blk t).view.emb y)
  rw [after0_9]
  refine (block_read m c t y).trans ?_
  have e := emb_9 t y
  unfold outArr outBlock
  rw [e.1, e.2]

end Cert.Kernel2Ideal.Merge
-- ==== Proof.Merge.Agree.lean ====
/- The certificate's claims about the merge. -/
module

public import proofs.«01_k».proof.Defs
public import proofs.«01_k».proof.Proof.Gen.Reference2Ideal.Run
public import proofs.«01_k».proof.Proof.Merge.Ref
public import proofs.«01_k».proof.Proof.Merge.Out

@[expose] public section

set_option maxRecDepth 16384

noncomputable section

namespace Cert.Merge

open Idealize Idealize.ShloMosaic Idealize.ShloMosaic.TcCoe Idealize.ShloMosaic.ValueIdx
open Idealize.SL.Sem

/-- The reference runs to its end and leaves its arguments alone. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

section Reference
open Cert.Reference2Ideal

/-- The reference's run, with its result as a function of the arguments. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = (fun i => Cert.Inproj.hid (total (bOf (m ((c.tc : Thread nD τ).loc main_arg0))) (bOf (m ((c.tc : Thread nD τ).loc main_arg1)))
              (tOf (m ((c.tc : Thread nD τ).loc main_arg2))) (Cert.Inproj.xOf (m ((c.tc : Thread nD τ).loc main_arg3)))
              (uOf (m ((c.tc : Thread nD τ).loc main_arg4))) (uOf (m ((c.tc : Thread nD τ).loc main_arg5)))
              (oOf (m ((c.tc : Thread nD τ).loc main_arg6)))) (fOf (m ((c.tc : Thread nD τ).loc main_arg7))) (i 0).val (i 1).val :
              Vec Ideal S8192x2048 .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun r h c =>
    ⟨((h c).1.trans (Cert.Reference2Ideal.Read.val_main_v32_eq m c)).trans (funext fun i => Ref.result_read _ _ _ _ _ _ _ _ i), (h c).2⟩)
    (Cert.Reference2Ideal.Value.run (F := Ideal) m ρ)

end Reference

/-- The kernel computes what the reference does. -/
theorem agree : Cert.algebraic_Kernel2Ideal_Reference2Ideal := by
  intro m g m' g' _ hm
  refine ⟨fun c => Cert.Kernel2Ideal.Merge.outArr m c, ?_, ?_⟩
  · exact (θ_run Cert.Kernel2Ideal.defs _ _).mono (fun r h c => ⟨(h c).1.trans (Cert.Kernel2Ideal.Merge.final_9 m c), (h c).2⟩)
      (Cert.Kernel2Ideal.Value.run_blocks (F := Ideal) m g)
  · refine (θ_run Cert.Reference2Ideal.defs _ _).mono (fun r h c => ⟨(h c).1.trans ?_, (h c).2⟩) (run_reference m' g')
    rw [(hm c).1, (hm c).2.1, (hm c).2.2.1, (hm c).2.2.2.1, (hm c).2.2.2.2.1, (hm c).2.2.2.2.2.1, (hm c).2.2.2.2.2.2.1, (hm c).2.2.2.2.2.2.2]
    rfl

end Cert.Merge
-- ==== Proof.Safe.lean ====
/- Programs that run without a fault on buffers held at any contents: what a kernel's frame needs of its body. -/
module

public import Idealize.ShloMosaic.Lib.Exec.Context
public import Idealize.ShloMosaic.Lib.Pipeline.Frame

@[expose] public section

noncomputable section

namespace Cert.Safe

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {sp : Space} {s : Shape} {e : EltTy} {α β : Type}

local notation "𝕄" => MT nD τ sig Ix Val Name U Lvl

/-- The state `P` holds the memref's elements, at some contents. -/
def Holds (c : Thread nD τ) (P : sProp 𝕄) (m : Memref sig c.2.kind sp s e) : Prop :=
  ∃ (R : sProp 𝕄) (S : Finset (Idx (m.view.loc c))), m.view.set ⊆ S ∧ (P ⊣⊢ iprop(R ∗ ∃ f, (m.view.loc c ↦[S]{fullShare} f)))

/-- From the state `P` the program runs to its end, whatever it returns, and leaves `P`. -/
def Safe (defs : Defs nD τ sig Val Λ) (𝒱 : Variants) (c : Thread nD τ) (bd : Option 𝒱.V) (E : Set Name) (P : sProp 𝕄)
    (p : Prog (TpuEff nD τ sig Val Λ c.2) α) : Prop :=
  P ⊢ wp frame (wpE defs 𝒱 c bd) E p (fun _ => P)

theorem safe_pure {P : sProp 𝕄} (a : α) : Safe defs 𝒱 c bd E P (pure a : Prog (TpuEff nD τ sig Val Λ c.2) α) :=
  exec_ret 𝒱 c bd E a .rfl

theorem safe_bind {P : sProp 𝕄} {p : Prog (TpuEff nD τ sig Val Λ c.2) β} {k : β → Prog (TpuEff nD τ sig Val Λ c.2) α}
    (h : Safe defs 𝒱 c bd E P p) (hk : ∀ b, Safe defs 𝒱 c bd E P (k b)) : Safe defs 𝒱 c bd E P (p >>= k) := by
  refine exec_bind 𝒱 c bd E p k (h.trans (wp_mono _ _ _ fun b => hk b))

theorem safe_dite {P : sProp 𝕄} {C : Prop} [dec : Decidable C] {p : C → Prog (TpuEff nD τ sig Val Λ c.2) α}
    {q : ¬C → Prog (TpuEff nD τ sig Val Λ c.2) α} (hp : ∀ h, Safe defs 𝒱 c bd E P (p h)) (hq : ∀ h, Safe defs 𝒱 c bd E P (q h)) :
    Safe defs 𝒱 c bd E P (dite C p q) := by
  by_cases h : C
  · rw [dif_pos h]; exact hp h
  · rw [dif_neg h]; exact hq h

theorem safe_load {P : sProp 𝕄} {cs : CoreSpace} {m : Memref sig c.2.kind cs s e} {r : LoadRect s} {hl : m.view.LoadsAt r} (h : Holds c P m) :
    Safe defs 𝒱 c bd E P (Prog.lift (.load m r hl) : Prog (TpuEff nD τ sig Val Λ c.2) _) := by
  obtain ⟨R, S, hS, hP⟩ := h
  refine hP.1.trans ?_
  show _ ⊢ wp frame (wpE defs 𝒱 c bd) E (.op (.load m r hl) .ret) (fun _ => P)
  iintro ⟨HR, %f, Hf⟩
  iapply (wp_load 𝒱 c bd E ((m.view.setOn_subset_set _).trans hS)) $$ Hf
  iintro Hf
  iapply (le_wp_ret _ _ _ _ _)
  iapply hP.2
  isplitl [HR]; · iexact HR
  iexists f; iexact Hf

theorem safe_store {P : sProp 𝕄} {cs : CoreSpace} {m : Memref sig c.2.kind cs s e} {r : Rect s} {w : r.shape.Idx → Val e}
    {Mk : Finset r.shape.Idx} {hx : (m.access r).Stores Mk} {hm : Mk = Finset.univ ∨ ∀ a, r.stride a = 1} (h : Holds c P m) :
    Safe defs 𝒱 c bd E P (Prog.lift (.store m r w Mk hx hm) : Prog (TpuEff nD τ sig Val Λ c.2) _) := by
  obtain ⟨R, S, hS, hP⟩ := h
  refine hP.1.trans ?_
  show _ ⊢ wp frame (wpE defs 𝒱 c bd) E (.op (.store m r w Mk hx hm) .ret) (fun _ => P)
  iintro ⟨HR, %f, Hf⟩
  iapply (wp_store 𝒱 c bd E (hx := hx) (hm := hm) (f := f) (((m.access r).setOn_subset_set _).trans ((m.view.set_slice_subset r).trans hS))) $$ Hf
  iintro Hf
  iapply (le_wp_ret _ _ _ _ _)
  iapply hP.2
  isplitl [HR]; · iexact HR
  iexists _; iexact Hf

omit [Preorder Lvl] in
theorem holds_left {P Q : sProp 𝕄} {m : Memref sig c.2.kind sp s e} (h : Holds c P m) : Holds c iprop(P ∗ Q) m := by
  obtain ⟨R, S, hS, hP⟩ := h
  refine ⟨iprop(R ∗ Q), S, hS, ?_, ?_⟩
  · iintro ⟨HP, HQ⟩
    ihave H := hP.1 $$ HP
    icases H with ⟨HR, Hf⟩
    isplitl [HR HQ]
    · isplitl [HR]; · iexact HR
      iexact HQ
    iexact Hf
  · iintro ⟨⟨HR, HQ⟩, Hf⟩
    isplitl [HR Hf]
    · iapply hP.2
      isplitl [HR]; · iexact HR
      iexact Hf
    iexact HQ

omit [Preorder Lvl] in
theorem holds_right {P Q : sProp 𝕄} {m : Memref sig c.2.kind sp s e} (h : Holds c Q m) : Holds c iprop(P ∗ Q) m := by
  obtain ⟨R, S, hS, hP⟩ := h
  refine ⟨iprop(P ∗ R), S, hS, ?_, ?_⟩
  · iintro ⟨HP, HQ⟩
    ihave H := hP.1 $$ HQ
    icases H with ⟨HR, Hf⟩
    isplitl [HR HP]
    · isplitl [HP]; · iexact HP
      iexact HR
    iexact Hf
  · iintro ⟨⟨HP, HR⟩, Hf⟩
    isplitl [HP]; · iexact HP
    iapply hP.2
    isplitl [HR]; · iexact HR
    iexact Hf

omit [Preorder Lvl] in
/-- The elements at some contents, alone. -/
theorem holds_self {m : Memref sig c.2.kind sp s e} {S : Finset (Idx (m.view.loc c))} (hS : m.view.set ⊆ S) :
    Holds c (iprop(∃ f, (m.view.loc c ↦[S]{fullShare} f)) : sProp 𝕄) m := by
  refine ⟨iprop(emp), S, hS, ?_, ?_⟩
  · iintro H
    isplitr; · iempintro
    iexact H
  · iintro ⟨-, H⟩
    iexact H

omit [Preorder Lvl] in
/-- The memref owned, whatever is read through it. -/
theorem holds_owns {m : Memref sig c.2.kind sp s e} : Holds c (iprop(∃ X, owns c m fullShare X) : sProp 𝕄) m := by
  refine ⟨iprop(emp), m.view.set, subset_rfl, ?_, ?_⟩
  · unfold owns
    iintro ⟨%X, %f, -, H⟩
    isplitr; · iempintro
    iexists f; iexact H
  · iintro ⟨-, %f, H⟩
    iexists (m.view.read Val f)
    iapply (owns_intro c m fullShare f)
    iexact H

end Cert.Safe

end
-- ==== Proof.Moba.Body.lean ====
/- The body of the MoBA call runs, whatever its buffers hold. -/
module

public import proofs.«01_k».proof.Proof.Safe
public import proofs.«01_k».proof.Proof.Gen.Kernel3.Frame

@[expose] public section

set_option maxRecDepth 16384

noncomputable section

namespace Cert.Kernel3.Body

open Cert.Kernel3 Cert.Kernel3.Gen Cert.Safe
open Idealize.ShloMosaic Idealize.ShloMosaic.TcCoe
open Idealize.SL Idealize.SL.RA Idealize.SL.Sem
open Idealize.SL.BI (sProp)

variable {F : FTy → Type} [FloatOps F]

local notation "𝕄" => MT nD τ sig Unit (Elt F) ℕ (UR sig nD τ) ℕ

/-- The state holds every memref that the body is called with. -/
structure Has (c : Dev nD) (P : sProp 𝕄) (arg2 : Memref sig .tc .vmem S2048x128 .bf16) (arg3 : Memref sig .tc .vmem S2048x128 .bf16) (arg4 : Memref sig .tc .vmem S2048x128 .bf16) (arg5 : Memref sig .tc .vmem S2048x128 .bf16) (arg6 : Memref sig .tc .vmem S128x2048 .f32) (arg7 : Memref sig .tc .vmem S128x2048 .f32) (arg8 : Memref sig .tc .vmem S128x2048 .f32) (arg9 : Memref sig .tc .vmem S2048x128 .bf16) (arg10 : Memref sig .tc .vmem S128x2048 .bf16) (arg11 : Memref sig .tc .vmem S128x2048 .bf16) (arg12 : Memref sig .tc .vmem S128x2048 .bf16) (arg13 : Memref sig .tc .vmem S2048x256 .bf16) (arg14 : Memref sig .tc .vmem S2048x256 .bf16) (arg15 : Memref sig .tc .vmem S8x144x256 .bf16) (arg16 : Memref sig .tc .vmem S8x2048 .f32) (arg17 : Memref sig .tc .vmem S2x8x256x256 .f32) : Prop where
  harg2 : Holds (c : Thread nD τ) P arg2
  harg3 : Holds (c : Thread nD τ) P arg3
  harg4 : Holds (c : Thread nD τ) P arg4
  harg5 : Holds (c : Thread nD τ) P arg5
  harg6 : Holds (c : Thread nD τ) P arg6
  harg7 : Holds (c : Thread nD τ) P arg7
  harg8 : Holds (c : Thread nD τ) P arg8
  harg9 : Holds (c : Thread nD τ) P arg9
  harg10 : Holds (c : Thread nD τ) P arg10
  harg11 : Holds (c : Thread nD τ) P arg11
  harg12 : Holds (c : Thread nD τ) P arg12
  harg13 : Holds (c : Thread nD τ) P arg13
  harg14 : Holds (c : Thread nD τ) P arg14
  harg15 : Holds (c : Thread nD τ) P arg15
  harg16 : Holds (c : Thread nD τ) P arg16
  harg17 : Holds (c : Thread nD τ) P arg17

variable {c : Dev nD} {P : sProp (MT nD τ sig Unit (Elt F) ℕ (UR sig nD τ) ℕ)} (i : grid0.Coords)  (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S2048x128 .bf16) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S8x144x256 .bf16) (harg15 : arg15.IsWhole) (arg16 : Memref sig .tc .vmem S8x2048 .f32) (harg16 : arg16.IsWhole) (arg17 : Memref sig .tc .vmem S2x8x256x256 .f32) (harg17 : arg17.IsWhole)
  (H : Has c P arg2 arg3 arg4 arg5 arg6 arg7 arg8 arg9 arg10 arg11 arg12 arg13 arg14 arg15 arg16 arg17)

include H
theorem safe_k0_part1 : ∀ v0, Safe (defs₀ (F := F)) Variants.none (c : Thread nD τ) none Set.univ P (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0) := by
  intro v0
  delta Cert.Kernel3.k0_part1
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part2 : ∀ v0 v1, Safe (defs₀ (F := F)) Variants.none (c : Thread nD τ) none Set.univ P (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1) := by
  intro v0 v1
  delta Cert.Kernel3.k0_part2
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part3 : Safe (defs₀ (F := F)) Variants.none (c : Thread nD τ) none Set.univ P (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  delta Cert.Kernel3.k0_part3
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17
    | exact safe_k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _
    | exact safe_k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _

theorem safe_k0_part4 : ∀ v0 v1, Safe (defs₀ (F := F)) Variants.none (c : Thread nD τ) none Set.univ P (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1) := by
  intro v0 v1
  delta Cert.Kernel3.k0_part4
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part5 : Safe (defs₀ (F := F)) Variants.none (c : Thread nD τ) none Set.univ P (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  delta Cert.Kernel3.k0_part5
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part6 : ∀ v0 v1 v2 v3 v4 v5 v6 v7, Safe (defs₀ (F := F)) Variants.none (c : Thread nD τ) none Set.univ P (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3 v4 v5 v6 v7) := by
  intro v0 v1 v2 v3 v4 v5 v6 v7
  delta Cert.Kernel3.k0_part6
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part7 : ∀ v0 v1 v2, Safe (defs₀ (F := F)) Variants.none (c : Thread nD τ) none Set.univ P (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part7
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part8 : ∀ v0 v1, Safe (defs₀ (F := F)) Variants.none (c : Thread nD τ) none Set.univ P (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1) := by
  intro v0 v1
  delta Cert.Kernel3.k0_part8
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part9 : ∀ v0 v1 v2 v3, Safe (defs₀ (F := F)) Variants.none (c : Thread nD τ) none Set.univ P (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part9
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part10 : ∀ v0 v1 v2 v3 v4 v5, Safe (defs₀ (F := F)) Variants.none (c : Thread nD τ) none Set.univ P (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3 v4 v5) := by
  intro v0 v1 v2 v3 v4 v5
  delta Cert.Kernel3.k0_part10
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part11 : ∀ v0 v1, Safe (defs₀ (F := F)) Variants.none (c : Thread nD τ) none Set.univ P (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1) := by
  intro v0 v1
  delta Cert.Kernel3.k0_part11
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part12 : ∀ v0 v1 v2, Safe (defs₀ (F := F)) Variants.none (c : Thread nD τ) none Set.univ P (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part12
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part13 : ∀ v0 v1 v2, Safe (defs₀ (F := F)) Variants.none (c : Thread nD τ) none Set.univ P (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part13
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part14 : ∀ v0 v1, Safe (defs₀ (F := F)) Variants.none (c : Thread nD τ) none Set.univ P (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1) := by
  intro v0 v1
  delta Cert.Kernel3.k0_part14
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part15 : ∀ v0 v1 v2 v3 v4, Safe (defs₀ (F := F)) Variants.none (c : Thread nD τ) none Set.univ P (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3 v4) := by
  intro v0 v1 v2 v3 v4
  delta Cert.Kernel3.k0_part15
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part16 : ∀ v0 v1 v2 v3 v4, Safe (defs₀ (F := F)) Variants.none (c : Thread nD τ) none Set.univ P (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3 v4) := by
  intro v0 v1 v2 v3 v4
  delta Cert.Kernel3.k0_part16
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part17 : ∀ v0 v1 v2, Safe (defs₀ (F := F)) Variants.none (c : Thread nD τ) none Set.univ P (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part17
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part18 : ∀ v0 v1 v2 v3, Safe (defs₀ (F := F)) Variants.none (c : Thread nD τ) none Set.univ P (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part18
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part19 : ∀ v0 v1 v2 v3 v4, Safe (defs₀ (F := F)) Variants.none (c : Thread nD τ) none Set.univ P (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3 v4) := by
  intro v0 v1 v2 v3 v4
  delta Cert.Kernel3.k0_part19
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part20 : ∀ v0 v1 v2 v3, Safe (defs₀ (F := F)) Variants.none (c : Thread nD τ) none Set.univ P (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part20
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part21 : ∀ v0 v1 v2, Safe (defs₀ (F := F)) Variants.none (c : Thread nD τ) none Set.univ P (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part21
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part22 : ∀ v0 v1, Safe (defs₀ (F := F)) Variants.none (c : Thread nD τ) none Set.univ P (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1) := by
  intro v0 v1
  delta Cert.Kernel3.k0_part22
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part23 : ∀ v0 v1 v2, Safe (defs₀ (F := F)) Variants.none (c : Thread nD τ) none Set.univ P (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part23
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part24 : ∀ v0 v1 v2, Safe (defs₀ (F := F)) Variants.none (c : Thread nD τ) none Set.univ P (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part24
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part25 : ∀ v0 v1 v2, Safe (defs₀ (F := F)) Variants.none (c : Thread nD τ) none Set.univ P (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part25
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part26 : ∀ v0 v1 v2 v3 v4, Safe (defs₀ (F := F)) Variants.none (c : Thread nD τ) none Set.univ P (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3 v4) := by
  intro v0 v1 v2 v3 v4
  delta Cert.Kernel3.k0_part26
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part27 : ∀ v0 v1 v2 v3, Safe (defs₀ (F := F)) Variants.none (c : Thread nD τ) none Set.univ P (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part27
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part28 : ∀ v0 v1 v2, Safe (defs₀ (F := F)) Variants.none (c : Thread nD τ) none Set.univ P (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part28
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part29 : ∀ v0 v1 v2 v3, Safe (defs₀ (F := F)) Variants.none (c : Thread nD τ) none Set.univ P (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part29
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part30 : ∀ v0 v1 v2 v3, Safe (defs₀ (F := F)) Variants.none (c : Thread nD τ) none Set.univ P (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part30
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part31 : ∀ v0 v1 v2 v3, Safe (defs₀ (F := F)) Variants.none (c : Thread nD τ) none Set.univ P (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part31
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part32 : ∀ v0 v1 v2, Safe (defs₀ (F := F)) Variants.none (c : Thread nD τ) none Set.univ P (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part32
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part33 : ∀ v0 v1 v2 v3 v4, Safe (defs₀ (F := F)) Variants.none (c : Thread nD τ) none Set.univ P (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3 v4) := by
  intro v0 v1 v2 v3 v4
  delta Cert.Kernel3.k0_part33
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part34 : ∀ v0 v1 v2 v3, Safe (defs₀ (F := F)) Variants.none (c : Thread nD τ) none Set.univ P (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part34
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part35 : ∀ v0 v1 v2 v3, Safe (defs₀ (F := F)) Variants.none (c : Thread nD τ) none Set.univ P (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2 v3) := by
  intro v0 v1 v2 v3
  delta Cert.Kernel3.k0_part35
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part36 : ∀ v0 v1 v2, Safe (defs₀ (F := F)) Variants.none (c : Thread nD τ) none Set.univ P (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v1 v2) := by
  intro v0 v1 v2
  delta Cert.Kernel3.k0_part36
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17

theorem safe_k0_part37 : Safe (defs₀ (F := F)) Variants.none (c : Thread nD τ) none Set.univ P (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  delta Cert.Kernel3.k0_part37
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17
    | exact safe_k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _ _ _
    | exact safe_k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _
    | exact safe_k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _
    | exact safe_k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _ _
    | exact safe_k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _ _
    | exact safe_k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _ _
    | exact safe_k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _
    | exact safe_k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _ _
    | exact safe_k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H
    | exact safe_k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _ _
    | exact safe_k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _
    | exact safe_k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _
    | exact safe_k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H
    | exact safe_k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _ _ _ _ _
    | exact safe_k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _
    | exact safe_k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _
    | exact safe_k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H _ _ _ _

theorem safe_cc0_moba : Safe (defs₀ (F := F)) Variants.none (c : Thread nD τ) none Set.univ P (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  delta Cert.Kernel3.cc0_moba
  with_reducible repeat' first
    | exact safe_pure _
    | refine safe_bind ?_ fun _ => ?_
    | refine safe_dite (fun _ => ?_) (fun _ => ?_)
    | refine safe_load ?_
    | refine safe_store ?_
    | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16 | exact H.harg17
    | exact safe_k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 H

end Cert.Kernel3.Body

end
-- ==== Proof.Moba.Frame.lean ====
/- The frame of the MoBA call. -/
module

public import proofs.«01_k».proof.Proof.Moba.Body

@[expose] public section

set_option maxRecDepth 16384

noncomputable section

namespace Cert.Kernel3.Body

open Cert.Kernel3 Cert.Kernel3.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, and no window's contents after the body named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

/-- Every window is forgotten. -/
abbrev all : Fin cfg0.W → Bool := fun _ => true

/-- What the body finds and leaves at a point: the scratch and every window at some contents. -/
def state (c : Dev nD) (t : Fin cfg0.N) (O : sProp 𝕄) : sProp 𝕄 :=
  iprop((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ ∃ r, prngReg c r) ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X) ∗ (∃ X, owns (c : Thread nD τ) (st0_10 t) fullShare X))

set_option maxHeartbeats 1600000 in
theorem has (c : Dev nD) (t : Fin cfg0.N) (O : sProp 𝕄) : Has c (state c t O) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (Memref.whole cc0_scratch0) (Memref.whole cc0_scratch1) (Memref.whole cc0_scratch2) (Memref.whole cc0_scratch3) (Memref.whole cc0_scratch4) := by
  unfold state
  exact ⟨holds_right (holds_right (holds_left (holds_owns))),
    holds_right (holds_right (holds_right (holds_left (holds_owns)))),
    holds_right (holds_right (holds_right (holds_right (holds_left (holds_owns))))),
    holds_right (holds_right (holds_right (holds_right (holds_right (holds_left (holds_owns)))))),
    holds_right (holds_right (holds_right (holds_right (holds_right (holds_right (holds_left (holds_owns))))))),
    holds_right (holds_right (holds_right (holds_right (holds_right (holds_right (holds_right (holds_left (holds_owns)))))))),
    holds_right (holds_right (holds_right (holds_right (holds_right (holds_right (holds_right (holds_right (holds_left (holds_owns))))))))),
    holds_right (holds_right (holds_right (holds_right (holds_right (holds_right (holds_right (holds_right (holds_right (holds_left (holds_owns)))))))))),
    holds_right (holds_right (holds_right (holds_right (holds_right (holds_right (holds_right (holds_right (holds_right (holds_right (holds_left (holds_owns))))))))))),
    holds_right (holds_right (holds_right (holds_right (holds_right (holds_right (holds_right (holds_right (holds_right (holds_right (holds_right (holds_left (holds_owns)))))))))))),
    holds_right (holds_right (holds_right (holds_right (holds_right (holds_right (holds_right (holds_right (holds_right (holds_right (holds_right (holds_right (holds_owns)))))))))))),
    holds_left (holds_left (holds_left (holds_self (S := Finset.univ) (Finset.subset_univ _)))),
    holds_left (holds_left (holds_right (holds_left (holds_self (S := Finset.univ) (Finset.subset_univ _))))),
    holds_left (holds_left (holds_right (holds_right (holds_left (holds_self (S := Finset.univ) (Finset.subset_univ _)))))),
    holds_left (holds_left (holds_right (holds_right (holds_right (holds_left (holds_self (S := Finset.univ) (Finset.subset_univ _))))))),
    holds_left (holds_left (holds_right (holds_right (holds_right (holds_right (holds_self (S := Finset.univ) (Finset.subset_univ _)))))))⟩

theorem safe_body (c : Dev nD) (t : Fin cfg0.N) (O : sProp 𝕄) :
    Safe (defs₀ (F := F)) Variants.none (c : Thread nD τ) none Set.univ (state c t O) (bodyAt0 t) :=
  safe_cc0_moba (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (has c t O)

theorem body_row (t : Fin cfg0.N) : defs₀ (F := F) .tc cfg0.body (cfg0.bodyArgs t (cfg0.slots t)) = bodyAt0 t := by
  unfold defs₀; rw [Defs.onTc_tc]

theorem phi_eq (c : Dev nD) (u) : (dats (F := F) m 0 c).Φ u = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ ∃ r, prngReg c r) := by
  show Pipeline.ΦA spec0 c = _
  unfold Pipeline.ΦA
  rw [scopedRest0_eq]

theorem body_obligation (c : Dev nD) : BodyObligation (dats (F := F) m 0 c) (defs₀ (F := F)) Variants.none () Set.univ all := fun t => by
  rw [bigSep_W0]
  have hrow := body_row (F := F) t
  refine triple_restated (safe_body c t ((dats (F := F) m 0 c).owesAt () t.castSucc)) (by rw [hrow]) ?_ fun _ => ?_
  · unfold state
    rw [← phi_eq m c t.castSucc]
    try exact .rfl
  · unfold state
    rw [← phi_eq m c t.succ]
    try exact .rfl

/-- An input array holds at the end what the region found in it. -/
theorem kept (c : Dev nD) (w : Fin cfg0.W) (hw : (cfg0.win w).isOut = false) (X)
    (h : ((dats (F := F) m 0 c).toRForget all).ArrAt w cfg0.N X) : X = V m c (Pipeline.arrRef spec0 w) := by
  rw [RDat.ArrAt_in _ w hw] at h
  exact h.trans (dats_A m c w)

set_option backward.isDefEq.respectTransparency.types false in
set_option maxHeartbeats 800000 in
theorem run_main : θ_run defs (onTc (τ := τ) (main (F := F))) (s₀ m ρ)
    (fun r => RDat.FramePost cfg0 (fun c => (dats (F := F) m 0 c).toRForget all) (V m) r ∧ r.2.sem = fun _ => 0) :=
  Pipeline.θ_run_frame_forget_shared (Q' := _) cfgs (dats m) (0 : Fin 1) launch₀0 defs₀ Variants.none all m ρ main
    (hbody := fun c => (body_obligation m c).loose) (hq := fun _ _ _ => rfl)
    (howed := fun _ _ => rfl) (V := V m) (hmain := hmain m Variants.none) (hA := dats_A m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r (h : _ ∧ _) => ⟨fun c => ⟨(kept m c 3 rfl _ ((h.1 c).1 3)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel3.Body

end
-- ==== Proof.Delta.Body.lean ====
/- The body of the delta-rule call runs, whatever its buffers hold. -/
module

public import proofs.«01_k».proof.Proof.Safe
public import proofs.«01_k».proof.Proof.Gen.Kernel4.Frame

@[expose] public section

set_option maxRecDepth 16384

noncomputable section

namespace Cert.Kernel4.Body

open Cert.Kernel4 Cert.Kernel4.Gen Cert.Safe
open Idealize.ShloMosaic Idealize.ShloMosaic.TcCoe
open Idealize.SL Idealize.SL.RA Idealize.SL.Sem
open Idealize.SL.BI (sProp)

variable {F : FTy → Type} [FloatOps F]

local notation "𝕄" => MT nD τ sig Unit (Elt F) ℕ (UR sig nD τ) ℕ

/-- The state holds every memref that the body is called with. -/
structure Has (c : Dev nD) (P : sProp 𝕄) (arg1 : Memref sig .tc .vmem S256x1024 .bf16) (arg2 : Memref sig .tc .vmem S256x1024 .bf16) (arg3 : Memref sig .tc .vmem S256x1024 .bf16) (arg4 : Memref sig .tc .vmem S256x1024 .bf16) (arg5 : Memref sig .tc .vmem S256x128 .f32) (arg6 : Memref sig .tc .vmem S1x128 .f32) (arg7 : Memref sig .tc .vmem S1x128 .f32) (arg8 : Memref sig .tc .vmem S1x128 .f32) (arg9 : Memref sig .tc .vmem S256x1024 .bf16) (arg10 : Memref sig .tc .vmem S8x128x128 .f32) (arg11 : Memref sig .tc .vmem S2x4x4x128x128 .f32) (arg12 : Memref sig .tc .vmem S2x4x4x128x128 .bf16) (arg13 : Memref sig .tc .vmem S2x4x4x128x128 .bf16) (arg14 : Memref sig .tc .vmem S2x4x4x128x128 .bf16) (arg15 : Memref sig .tc .vmem S2x4x4x128x128 .bf16) (arg16 : Memref sig .tc .vmem S2x4x8x128 .f32) : Prop where
  harg1 : Holds (c : Thread nD τ) P arg1
  harg2 : Holds (c : Thread nD τ) P arg2
  harg3 : Holds (c : Thread nD τ) P arg3
  harg4 : Holds (c : Thread nD τ) P arg4
  harg5 : Holds (c : Thread nD τ) P arg5
  harg6 : Holds (c : Thread nD τ) P arg6
  harg7 : Holds (c : Thread nD τ) P arg7
  harg8 : Holds (c : Thread nD τ) P arg8
  harg9 : Holds (c : Thread nD τ) P arg9
  harg10 : Holds (c : Thread nD τ) P arg10
  harg11 : Holds (c : Thread nD τ) P arg11
  harg12 : Holds (c : Thread nD τ) P arg12
  harg13 : Holds (c : Thread nD τ) P arg13
  harg14 : Holds (c : Thread nD τ) P arg14
  harg15 : Holds (c : Thread nD τ) P arg15
  harg16 : Holds (c : Thread nD τ) P arg16

variable {c : Dev nD} {P : sProp (MT nD τ sig Unit (Elt F) ℕ (UR sig nD τ) ℕ)} (i : grid0.Coords)  (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S8x128x128 .f32) (harg10 : arg10.IsWhole) (arg11 : Memref sig .tc .vmem S2x4x4x128x128 .f32) (harg11 : arg11.IsWhole) (arg12 : Memref sig .tc .vmem S2x4x4x128x128 .bf16) (harg12 : arg12.IsWhole) (arg13 : Memref sig .tc .vmem S2x4x4x128x128 .bf16) (harg13 : arg13.IsWhole) (arg14 : Memref sig .tc .vmem S2x4x4x128x128 .bf16) (harg14 : arg14.IsWhole) (arg15 : Memref sig .tc .vmem S2x4x4x128x128 .bf16) (harg15 : arg15.IsWhole) (arg16 : Memref sig .tc .vmem S2x4x8x128 .f32) (harg16 : arg16.IsWhole)
  (H : Has c P arg1 arg2 arg3 arg4 arg5 arg6 arg7 arg8 arg9 arg10 arg11 arg12 arg13 arg14 arg15 arg16)

include H
theorem safe_k0_part1 : Safe (defs₀ (F := F)) Variants.none (c : Thread nD τ) none Set.univ P (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  delta Cert.Kernel4.k0_part1
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part2 : Safe (defs₀ (F := F)) Variants.none (c : Thread nD τ) none Set.univ P (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  delta Cert.Kernel4.k0_part2
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16
    | exact safe_k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H

theorem safe_k0_part3 : ∀ v0 v1, Safe (defs₀ (F := F)) Variants.none (c : Thread nD τ) none Set.univ P (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1) := by
  intro v0 v1
  delta Cert.Kernel4.k0_part3
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part4 : ∀ v0 v1 v2 v3 v4 v5 v6, Safe (defs₀ (F := F)) Variants.none (c : Thread nD τ) none Set.univ P (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part4
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part5 : ∀ v0 v1 v2 v3 v4 v5 v6 v7 v8 v9 v10 v11 v12 v13, Safe (defs₀ (F := F)) Variants.none (c : Thread nD τ) none Set.univ P (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13) := by
  intro v0 v1 v2 v3 v4 v5 v6 v7 v8 v9 v10 v11 v12 v13
  delta Cert.Kernel4.k0_part5
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part6 : ∀ v0 v1 v2 v3 v4 v5 v6 v7, Safe (defs₀ (F := F)) Variants.none (c : Thread nD τ) none Set.univ P (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part6
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part7 : ∀ v0 v1 v2 v3 v4 v5 v6 v7 v8 v9 v10 v11 v12, Safe (defs₀ (F := F)) Variants.none (c : Thread nD τ) none Set.univ P (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12) := by
  intro v0 v1 v2 v3 v4 v5 v6 v7 v8 v9 v10 v11 v12
  delta Cert.Kernel4.k0_part7
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part8 : ∀ v0 v1 v2 v3 v4 v5 v6 v7 v8 v9 v10 v11 v12 v13, Safe (defs₀ (F := F)) Variants.none (c : Thread nD τ) none Set.univ P (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13) := by
  intro v0 v1 v2 v3 v4 v5 v6 v7 v8 v9 v10 v11 v12 v13
  delta Cert.Kernel4.k0_part8
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part9 : ∀ v0 v1 v2 v3 v4 v5 v6 v7 v8 v9, Safe (defs₀ (F := F)) Variants.none (c : Thread nD τ) none Set.univ P (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9) := by
  intro v0 v1 v2 v3 v4 v5 v6 v7 v8 v9
  delta Cert.Kernel4.k0_part9
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part10 : ∀ v0 v1 v2 v3 v4 v5 v6 v7 v8 v9 v10 v11 v12, Safe (defs₀ (F := F)) Variants.none (c : Thread nD τ) none Set.univ P (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12) := by
  intro v0 v1 v2 v3 v4 v5 v6 v7 v8 v9 v10 v11 v12
  delta Cert.Kernel4.k0_part10
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part11 : ∀ v0 v1 v2 v3 v4, Safe (defs₀ (F := F)) Variants.none (c : Thread nD τ) none Set.univ P (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4) := by
  intro v0 v1 v2 v3 v4
  delta Cert.Kernel4.k0_part11
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part12 : ∀ v0 v1 v2 v3 v4 v5 v6 v7, Safe (defs₀ (F := F)) Variants.none (c : Thread nD τ) none Set.univ P (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part12
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part13 : ∀ v0 v1 v2 v3 v4 v5 v6 v7 v8 v9 v10 v11 v12 v13, Safe (defs₀ (F := F)) Variants.none (c : Thread nD τ) none Set.univ P (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13) := by
  intro v0 v1 v2 v3 v4 v5 v6 v7 v8 v9 v10 v11 v12 v13
  delta Cert.Kernel4.k0_part13
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part14 : ∀ v0 v1 v2 v3 v4 v5 v6 v7 v8 v9 v10, Safe (defs₀ (F := F)) Variants.none (c : Thread nD τ) none Set.univ P (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10) := by
  intro v0 v1 v2 v3 v4 v5 v6 v7 v8 v9 v10
  delta Cert.Kernel4.k0_part14
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part15 : ∀ v0 v1 v2 v3 v4 v5 v6 v7 v8 v9 v10, Safe (defs₀ (F := F)) Variants.none (c : Thread nD τ) none Set.univ P (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10) := by
  intro v0 v1 v2 v3 v4 v5 v6 v7 v8 v9 v10
  delta Cert.Kernel4.k0_part15
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part16 : ∀ v0 v1 v2 v3 v4 v5 v6 v7 v8 v9 v10 v11 v12 v13 v14, Safe (defs₀ (F := F)) Variants.none (c : Thread nD τ) none Set.univ P (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14) := by
  intro v0 v1 v2 v3 v4 v5 v6 v7 v8 v9 v10 v11 v12 v13 v14
  delta Cert.Kernel4.k0_part16
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part17 : ∀ v0 v1 v2 v3 v4 v5 v6 v7 v8, Safe (defs₀ (F := F)) Variants.none (c : Thread nD τ) none Set.univ P (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part17
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part18 : ∀ v0 v1 v2 v3 v4 v5 v6 v7 v8, Safe (defs₀ (F := F)) Variants.none (c : Thread nD τ) none Set.univ P (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part18
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part19 : ∀ v0 v1 v2 v3 v4, Safe (defs₀ (F := F)) Variants.none (c : Thread nD τ) none Set.univ P (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4) := by
  intro v0 v1 v2 v3 v4
  delta Cert.Kernel4.k0_part19
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part20 : ∀ v0 v1 v2 v3 v4 v5 v6 v7, Safe (defs₀ (F := F)) Variants.none (c : Thread nD τ) none Set.univ P (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part20
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part21 : ∀ v0 v1 v2 v3 v4 v5 v6 v7 v8 v9 v10 v11 v12, Safe (defs₀ (F := F)) Variants.none (c : Thread nD τ) none Set.univ P (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12) := by
  intro v0 v1 v2 v3 v4 v5 v6 v7 v8 v9 v10 v11 v12
  delta Cert.Kernel4.k0_part21
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part22 : ∀ v0 v1 v2 v3 v4 v5 v6 v7 v8 v9 v10 v11 v12 v13, Safe (defs₀ (F := F)) Variants.none (c : Thread nD τ) none Set.univ P (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13) := by
  intro v0 v1 v2 v3 v4 v5 v6 v7 v8 v9 v10 v11 v12 v13
  delta Cert.Kernel4.k0_part22
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part23 : ∀ v0 v1 v2 v3 v4 v5 v6 v7 v8 v9, Safe (defs₀ (F := F)) Variants.none (c : Thread nD τ) none Set.univ P (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9) := by
  intro v0 v1 v2 v3 v4 v5 v6 v7 v8 v9
  delta Cert.Kernel4.k0_part23
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part24 : ∀ v0 v1 v2 v3 v4 v5 v6 v7 v8 v9 v10 v11 v12 v13 v14 v15, Safe (defs₀ (F := F)) Variants.none (c : Thread nD τ) none Set.univ P (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15) := by
  intro v0 v1 v2 v3 v4 v5 v6 v7 v8 v9 v10 v11 v12 v13 v14 v15
  delta Cert.Kernel4.k0_part24
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part25 : ∀ v0 v1 v2 v3 v4 v5 v6 v7, Safe (defs₀ (F := F)) Variants.none (c : Thread nD τ) none Set.univ P (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part25
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part26 : ∀ v0 v1 v2 v3 v4 v5 v6 v7, Safe (defs₀ (F := F)) Variants.none (c : Thread nD τ) none Set.univ P (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part26
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part27 : ∀ v0 v1 v2 v3, Safe (defs₀ (F := F)) Variants.none (c : Thread nD τ) none Set.univ P (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3) := by
  intro v0 v1 v2 v3
  delta Cert.Kernel4.k0_part27
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part28 : ∀ v0 v1 v2 v3 v4 v5 v6 v7 v8 v9 v10 v11, Safe (defs₀ (F := F)) Variants.none (c : Thread nD τ) none Set.univ P (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11) := by
  intro v0 v1 v2 v3 v4 v5 v6 v7 v8 v9 v10 v11
  delta Cert.Kernel4.k0_part28
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part29 : ∀ v0 v1 v2 v3 v4 v5 v6 v7 v8 v9 v10, Safe (defs₀ (F := F)) Variants.none (c : Thread nD τ) none Set.univ P (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10) := by
  intro v0 v1 v2 v3 v4 v5 v6 v7 v8 v9 v10
  delta Cert.Kernel4.k0_part29
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part30 : ∀ v0 v1 v2 v3 v4 v5 v6 v7 v8 v9 v10 v11 v12 v13 v14 v15, Safe (defs₀ (F := F)) Variants.none (c : Thread nD τ) none Set.univ P (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15) := by
  intro v0 v1 v2 v3 v4 v5 v6 v7 v8 v9 v10 v11 v12 v13 v14 v15
  delta Cert.Kernel4.k0_part30
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part31 : ∀ v0 v1 v2 v3 v4 v5 v6 v7 v8, Safe (defs₀ (F := F)) Variants.none (c : Thread nD τ) none Set.univ P (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part31
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part32 : ∀ v0 v1 v2 v3 v4 v5 v6 v7 v8 v9 v10 v11 v12 v13, Safe (defs₀ (F := F)) Variants.none (c : Thread nD τ) none Set.univ P (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13) := by
  intro v0 v1 v2 v3 v4 v5 v6 v7 v8 v9 v10 v11 v12 v13
  delta Cert.Kernel4.k0_part32
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part33 : ∀ v0 v1 v2 v3 v4 v5 v6 v7, Safe (defs₀ (F := F)) Variants.none (c : Thread nD τ) none Set.univ P (k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part33
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part34 : ∀ v0 v1 v2 v3 v4 v5 v6 v7, Safe (defs₀ (F := F)) Variants.none (c : Thread nD τ) none Set.univ P (k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part34
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part35 : ∀ v0, Safe (defs₀ (F := F)) Variants.none (c : Thread nD τ) none Set.univ P (k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0) := by
  intro v0
  delta Cert.Kernel4.k0_part35
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part36 : ∀ v0 v1 v2 v3 v4 v5 v6 v7 v8 v9 v10 v11 v12 v13 v14 v15 v16 v17 v18 v19 v20 v21 v22, Safe (defs₀ (F := F)) Variants.none (c : Thread nD τ) none Set.univ P (k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22) := by
  intro v0 v1 v2 v3 v4 v5 v6 v7 v8 v9 v10 v11 v12 v13 v14 v15 v16 v17 v18 v19 v20 v21 v22
  delta Cert.Kernel4.k0_part36
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part37 : ∀ v0 v1 v2 v3 v4 v5 v6 v7 v8 v9 v10, Safe (defs₀ (F := F)) Variants.none (c : Thread nD τ) none Set.univ P (k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10) := by
  intro v0 v1 v2 v3 v4 v5 v6 v7 v8 v9 v10
  delta Cert.Kernel4.k0_part37
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part38 : ∀ v0 v1 v2 v3 v4 v5 v6 v7 v8 v9 v10 v11 v12 v13 v14 v15 v16 v17, Safe (defs₀ (F := F)) Variants.none (c : Thread nD τ) none Set.univ P (k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17) := by
  intro v0 v1 v2 v3 v4 v5 v6 v7 v8 v9 v10 v11 v12 v13 v14 v15 v16 v17
  delta Cert.Kernel4.k0_part38
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part39 : ∀ v0 v1 v2 v3 v4 v5 v6 v7 v8 v9 v10 v11 v12 v13 v14 v15 v16 v17 v18 v19 v20 v21 v22 v23 v24 v25 v26 v27 v28 v29 v30 v31 v32 v33 v34, Safe (defs₀ (F := F)) Variants.none (c : Thread nD τ) none Set.univ P (k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31 v32 v33 v34) := by
  intro v0 v1 v2 v3 v4 v5 v6 v7 v8 v9 v10 v11 v12 v13 v14 v15 v16 v17 v18 v19 v20 v21 v22 v23 v24 v25 v26 v27 v28 v29 v30 v31 v32 v33 v34
  delta Cert.Kernel4.k0_part39
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part40 : ∀ v0 v1 v2 v3 v4 v5 v6 v7 v8, Safe (defs₀ (F := F)) Variants.none (c : Thread nD τ) none Set.univ P (k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part40
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part41 : ∀ v0 v1 v2 v3 v4 v5 v6 v7 v8, Safe (defs₀ (F := F)) Variants.none (c : Thread nD τ) none Set.univ P (k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part41
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part42 : ∀ v0 v1 v2 v3 v4 v5 v6, Safe (defs₀ (F := F)) Variants.none (c : Thread nD τ) none Set.univ P (k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part42
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part43 : ∀ v0 v1 v2 v3 v4 v5 v6 v7, Safe (defs₀ (F := F)) Variants.none (c : Thread nD τ) none Set.univ P (k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part43
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part44 : ∀ v0 v1 v2 v3 v4 v5 v6 v7 v8 v9 v10 v11 v12 v13 v14 v15 v16 v17 v18 v19 v20 v21 v22 v23 v24 v25 v26 v27 v28 v29 v30 v31, Safe (defs₀ (F := F)) Variants.none (c : Thread nD τ) none Set.univ P (k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31) := by
  intro v0 v1 v2 v3 v4 v5 v6 v7 v8 v9 v10 v11 v12 v13 v14 v15 v16 v17 v18 v19 v20 v21 v22 v23 v24 v25 v26 v27 v28 v29 v30 v31
  delta Cert.Kernel4.k0_part44
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part45 : ∀ v0 v1 v2 v3, Safe (defs₀ (F := F)) Variants.none (c : Thread nD τ) none Set.univ P (k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3) := by
  intro v0 v1 v2 v3
  delta Cert.Kernel4.k0_part45
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part46 : ∀ v0 v1 v2 v3, Safe (defs₀ (F := F)) Variants.none (c : Thread nD τ) none Set.univ P (k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3) := by
  intro v0 v1 v2 v3
  delta Cert.Kernel4.k0_part46
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part47 : ∀ v0 v1 v2 v3 v4 v5 v6 v7 v8 v9 v10 v11 v12 v13 v14 v15 v16 v17 v18 v19 v20 v21 v22 v23 v24 v25, Safe (defs₀ (F := F)) Variants.none (c : Thread nD τ) none Set.univ P (k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25) := by
  intro v0 v1 v2 v3 v4 v5 v6 v7 v8 v9 v10 v11 v12 v13 v14 v15 v16 v17 v18 v19 v20 v21 v22 v23 v24 v25
  delta Cert.Kernel4.k0_part47
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part48 : ∀ v0 v1 v2 v3 v4 v5 v6 v7 v8 v9 v10 v11 v12 v13 v14 v15 v16 v17 v18 v19 v20 v21 v22 v23 v24 v25 v26 v27 v28 v29 v30 v31 v32 v33 v34, Safe (defs₀ (F := F)) Variants.none (c : Thread nD τ) none Set.univ P (k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31 v32 v33 v34) := by
  intro v0 v1 v2 v3 v4 v5 v6 v7 v8 v9 v10 v11 v12 v13 v14 v15 v16 v17 v18 v19 v20 v21 v22 v23 v24 v25 v26 v27 v28 v29 v30 v31 v32 v33 v34
  delta Cert.Kernel4.k0_part48
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part49 : ∀ v0 v1 v2 v3 v4 v5 v6 v7 v8, Safe (defs₀ (F := F)) Variants.none (c : Thread nD τ) none Set.univ P (k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part49
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part50 : ∀ v0 v1 v2, Safe (defs₀ (F := F)) Variants.none (c : Thread nD τ) none Set.univ P (k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2) := by
  intro v0 v1 v2
  delta Cert.Kernel4.k0_part50
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part51 : ∀ v0 v1 v2 v3 v4 v5 v6 v7 v8 v9 v10 v11 v12 v13 v14 v15 v16 v17 v18 v19, Safe (defs₀ (F := F)) Variants.none (c : Thread nD τ) none Set.univ P (k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19) := by
  intro v0 v1 v2 v3 v4 v5 v6 v7 v8 v9 v10 v11 v12 v13 v14 v15 v16 v17 v18 v19
  delta Cert.Kernel4.k0_part51
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part52 : ∀ v0 v1 v2 v3 v4 v5 v6 v7 v8 v9 v10 v11 v12 v13 v14 v15 v16, Safe (defs₀ (F := F)) Variants.none (c : Thread nD τ) none Set.univ P (k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16) := by
  intro v0 v1 v2 v3 v4 v5 v6 v7 v8 v9 v10 v11 v12 v13 v14 v15 v16
  delta Cert.Kernel4.k0_part52
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part53 : ∀ v0 v1 v2 v3 v4 v5 v6 v7 v8, Safe (defs₀ (F := F)) Variants.none (c : Thread nD τ) none Set.univ P (k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part53
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part54 : ∀ v0 v1 v2 v3 v4 v5 v6 v7, Safe (defs₀ (F := F)) Variants.none (c : Thread nD τ) none Set.univ P (k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part54
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part55 : ∀ v0 v1 v2 v3 v4 v5 v6, Safe (defs₀ (F := F)) Variants.none (c : Thread nD τ) none Set.univ P (k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part55
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part56 : ∀ v0 v1 v2 v3 v4 v5 v6 v7 v8 v9 v10 v11 v12 v13 v14 v15 v16, Safe (defs₀ (F := F)) Variants.none (c : Thread nD τ) none Set.univ P (k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16) := by
  intro v0 v1 v2 v3 v4 v5 v6 v7 v8 v9 v10 v11 v12 v13 v14 v15 v16
  delta Cert.Kernel4.k0_part56
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part57 : ∀ v0 v1 v2 v3 v4 v5 v6 v7 v8 v9 v10 v11 v12 v13 v14 v15 v16 v17 v18 v19 v20 v21 v22 v23 v24 v25 v26 v27 v28 v29, Safe (defs₀ (F := F)) Variants.none (c : Thread nD τ) none Set.univ P (k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29) := by
  intro v0 v1 v2 v3 v4 v5 v6 v7 v8 v9 v10 v11 v12 v13 v14 v15 v16 v17 v18 v19 v20 v21 v22 v23 v24 v25 v26 v27 v28 v29
  delta Cert.Kernel4.k0_part57
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part58 : ∀ v0 v1 v2 v3 v4 v5 v6 v7 v8 v9 v10 v11 v12 v13 v14 v15 v16 v17 v18 v19 v20 v21 v22 v23 v24 v25 v26 v27 v28 v29 v30 v31, Safe (defs₀ (F := F)) Variants.none (c : Thread nD τ) none Set.univ P (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31) := by
  intro v0 v1 v2 v3 v4 v5 v6 v7 v8 v9 v10 v11 v12 v13 v14 v15 v16 v17 v18 v19 v20 v21 v22 v23 v24 v25 v26 v27 v28 v29 v30 v31
  delta Cert.Kernel4.k0_part58
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part59 : ∀ v0 v1 v2 v3 v4, Safe (defs₀ (F := F)) Variants.none (c : Thread nD τ) none Set.univ P (k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4) := by
  intro v0 v1 v2 v3 v4
  delta Cert.Kernel4.k0_part59
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part60 : ∀ v0 v1 v2 v3 v4, Safe (defs₀ (F := F)) Variants.none (c : Thread nD τ) none Set.univ P (k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4) := by
  intro v0 v1 v2 v3 v4
  delta Cert.Kernel4.k0_part60
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part61 : ∀ v0 v1 v2 v3 v4 v5 v6 v7 v8 v9 v10 v11 v12 v13 v14 v15 v16 v17 v18 v19 v20 v21 v22 v23 v24 v25 v26 v27 v28 v29 v30 v31 v32 v33, Safe (defs₀ (F := F)) Variants.none (c : Thread nD τ) none Set.univ P (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31 v32 v33) := by
  intro v0 v1 v2 v3 v4 v5 v6 v7 v8 v9 v10 v11 v12 v13 v14 v15 v16 v17 v18 v19 v20 v21 v22 v23 v24 v25 v26 v27 v28 v29 v30 v31 v32 v33
  delta Cert.Kernel4.k0_part61
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part62 : ∀ v0 v1 v2, Safe (defs₀ (F := F)) Variants.none (c : Thread nD τ) none Set.univ P (k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2) := by
  intro v0 v1 v2
  delta Cert.Kernel4.k0_part62
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part63 : ∀ v0, Safe (defs₀ (F := F)) Variants.none (c : Thread nD τ) none Set.univ P (k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0) := by
  intro v0
  delta Cert.Kernel4.k0_part63
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part64 : ∀ v0 v1 v2 v3 v4 v5 v6 v7 v8 v9 v10 v11 v12 v13 v14 v15 v16 v17 v18 v19 v20 v21 v22 v23 v24 v25 v26 v27 v28 v29 v30, Safe (defs₀ (F := F)) Variants.none (c : Thread nD τ) none Set.univ P (k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30) := by
  intro v0 v1 v2 v3 v4 v5 v6 v7 v8 v9 v10 v11 v12 v13 v14 v15 v16 v17 v18 v19 v20 v21 v22 v23 v24 v25 v26 v27 v28 v29 v30
  delta Cert.Kernel4.k0_part64
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part65 : ∀ v0 v1 v2 v3 v4 v5 v6 v7 v8 v9 v10 v11 v12 v13 v14 v15 v16 v17 v18 v19 v20 v21 v22 v23 v24 v25 v26 v27 v28 v29 v30 v31 v32 v33 v34 v35, Safe (defs₀ (F := F)) Variants.none (c : Thread nD τ) none Set.univ P (k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31 v32 v33 v34 v35) := by
  intro v0 v1 v2 v3 v4 v5 v6 v7 v8 v9 v10 v11 v12 v13 v14 v15 v16 v17 v18 v19 v20 v21 v22 v23 v24 v25 v26 v27 v28 v29 v30 v31 v32 v33 v34 v35
  delta Cert.Kernel4.k0_part65
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part66 : ∀ v0 v1 v2 v3 v4 v5 v6 v7 v8 v9 v10, Safe (defs₀ (F := F)) Variants.none (c : Thread nD τ) none Set.univ P (k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10) := by
  intro v0 v1 v2 v3 v4 v5 v6 v7 v8 v9 v10
  delta Cert.Kernel4.k0_part66
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part67 : ∀ v0 v1 v2 v3 v4 v5 v6 v7 v8, Safe (defs₀ (F := F)) Variants.none (c : Thread nD τ) none Set.univ P (k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part67
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part68 : ∀ v0 v1 v2 v3 v4 v5 v6 v7 v8, Safe (defs₀ (F := F)) Variants.none (c : Thread nD τ) none Set.univ P (k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part68
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part69 : ∀ v0 v1 v2 v3 v4 v5 v6 v7 v8 v9, Safe (defs₀ (F := F)) Variants.none (c : Thread nD τ) none Set.univ P (k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9) := by
  intro v0 v1 v2 v3 v4 v5 v6 v7 v8 v9
  delta Cert.Kernel4.k0_part69
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part70 : ∀ v0 v1 v2 v3 v4 v5 v6 v7 v8 v9 v10 v11 v12 v13 v14 v15 v16 v17 v18 v19 v20 v21 v22 v23 v24 v25 v26 v27 v28 v29 v30 v31, Safe (defs₀ (F := F)) Variants.none (c : Thread nD τ) none Set.univ P (k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31) := by
  intro v0 v1 v2 v3 v4 v5 v6 v7 v8 v9 v10 v11 v12 v13 v14 v15 v16 v17 v18 v19 v20 v21 v22 v23 v24 v25 v26 v27 v28 v29 v30 v31
  delta Cert.Kernel4.k0_part70
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part71 : ∀ v0 v1 v2 v3 v4 v5 v6 v7 v8, Safe (defs₀ (F := F)) Variants.none (c : Thread nD τ) none Set.univ P (k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part71
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part72 : ∀ v0 v1 v2 v3, Safe (defs₀ (F := F)) Variants.none (c : Thread nD τ) none Set.univ P (k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3) := by
  intro v0 v1 v2 v3
  delta Cert.Kernel4.k0_part72
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part73 : ∀ v0 v1 v2 v3 v4 v5 v6 v7 v8 v9 v10 v11 v12 v13 v14 v15, Safe (defs₀ (F := F)) Variants.none (c : Thread nD τ) none Set.univ P (k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15) := by
  intro v0 v1 v2 v3 v4 v5 v6 v7 v8 v9 v10 v11 v12 v13 v14 v15
  delta Cert.Kernel4.k0_part73
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part74 : ∀ v0 v1 v2 v3 v4 v5 v6 v7 v8 v9 v10 v11 v12 v13 v14 v15 v16 v17 v18 v19 v20 v21 v22 v23 v24 v25 v26 v27, Safe (defs₀ (F := F)) Variants.none (c : Thread nD τ) none Set.univ P (k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27) := by
  intro v0 v1 v2 v3 v4 v5 v6 v7 v8 v9 v10 v11 v12 v13 v14 v15 v16 v17 v18 v19 v20 v21 v22 v23 v24 v25 v26 v27
  delta Cert.Kernel4.k0_part74
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part75 : ∀ v0 v1 v2 v3 v4 v5 v6 v7 v8 v9 v10 v11 v12 v13 v14 v15 v16 v17 v18 v19 v20 v21 v22 v23 v24 v25 v26 v27 v28 v29 v30 v31 v32 v33, Safe (defs₀ (F := F)) Variants.none (c : Thread nD τ) none Set.univ P (k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31 v32 v33) := by
  intro v0 v1 v2 v3 v4 v5 v6 v7 v8 v9 v10 v11 v12 v13 v14 v15 v16 v17 v18 v19 v20 v21 v22 v23 v24 v25 v26 v27 v28 v29 v30 v31 v32 v33
  delta Cert.Kernel4.k0_part75
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part76 : ∀ v0 v1 v2 v3 v4 v5 v6, Safe (defs₀ (F := F)) Variants.none (c : Thread nD τ) none Set.univ P (k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part76
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part77 : ∀ v0 v1 v2 v3 v4 v5, Safe (defs₀ (F := F)) Variants.none (c : Thread nD τ) none Set.univ P (k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5) := by
  intro v0 v1 v2 v3 v4 v5
  delta Cert.Kernel4.k0_part77
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part78 : ∀ v0 v1 v2 v3 v4 v5 v6 v7 v8 v9 v10 v11 v12 v13 v14 v15 v16 v17 v18 v19 v20 v21 v22 v23 v24 v25 v26 v27 v28 v29 v30 v31 v32 v33, Safe (defs₀ (F := F)) Variants.none (c : Thread nD τ) none Set.univ P (k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31 v32 v33) := by
  intro v0 v1 v2 v3 v4 v5 v6 v7 v8 v9 v10 v11 v12 v13 v14 v15 v16 v17 v18 v19 v20 v21 v22 v23 v24 v25 v26 v27 v28 v29 v30 v31 v32 v33
  delta Cert.Kernel4.k0_part78
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part79 : ∀ v0 v1 v2 v3 v4 v5 v6 v7 v8, Safe (defs₀ (F := F)) Variants.none (c : Thread nD τ) none Set.univ P (k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8) := by
  intro v0 v1 v2 v3 v4 v5 v6 v7 v8
  delta Cert.Kernel4.k0_part79
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part80 : ∀ v0 v1 v2 v3 v4 v5 v6 v7, Safe (defs₀ (F := F)) Variants.none (c : Thread nD τ) none Set.univ P (k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part80
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part81 : ∀ v0 v1 v2 v3 v4 v5 v6, Safe (defs₀ (F := F)) Variants.none (c : Thread nD τ) none Set.univ P (k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part81
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part82 : ∀ v0 v1 v2 v3 v4 v5, Safe (defs₀ (F := F)) Variants.none (c : Thread nD τ) none Set.univ P (k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5) := by
  intro v0 v1 v2 v3 v4 v5
  delta Cert.Kernel4.k0_part82
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part83 : ∀ v0 v1 v2 v3 v4 v5 v6 v7 v8 v9 v10 v11 v12 v13 v14 v15 v16 v17 v18 v19 v20 v21 v22 v23 v24 v25 v26 v27 v28 v29 v30 v31, Safe (defs₀ (F := F)) Variants.none (c : Thread nD τ) none Set.univ P (k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31) := by
  intro v0 v1 v2 v3 v4 v5 v6 v7 v8 v9 v10 v11 v12 v13 v14 v15 v16 v17 v18 v19 v20 v21 v22 v23 v24 v25 v26 v27 v28 v29 v30 v31
  delta Cert.Kernel4.k0_part83
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part84 : ∀ v0 v1 v2 v3 v4 v5 v6, Safe (defs₀ (F := F)) Variants.none (c : Thread nD τ) none Set.univ P (k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part84
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part85 : ∀ v0 v1 v2 v3 v4, Safe (defs₀ (F := F)) Variants.none (c : Thread nD τ) none Set.univ P (k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4) := by
  intro v0 v1 v2 v3 v4
  delta Cert.Kernel4.k0_part85
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part86 : ∀ v0 v1 v2 v3 v4 v5 v6 v7, Safe (defs₀ (F := F)) Variants.none (c : Thread nD τ) none Set.univ P (k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part86
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part87 : ∀ v0 v1 v2 v3 v4 v5 v6, Safe (defs₀ (F := F)) Variants.none (c : Thread nD τ) none Set.univ P (k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part87
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part88 : ∀ v0 v1 v2 v3 v4 v5 v6 v7, Safe (defs₀ (F := F)) Variants.none (c : Thread nD τ) none Set.univ P (k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part88
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part89 : ∀ v0 v1 v2 v3 v4 v5 v6, Safe (defs₀ (F := F)) Variants.none (c : Thread nD τ) none Set.univ P (k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part89
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part90 : ∀ v0 v1 v2 v3 v4 v5 v6 v7, Safe (defs₀ (F := F)) Variants.none (c : Thread nD τ) none Set.univ P (k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7) := by
  intro v0 v1 v2 v3 v4 v5 v6 v7
  delta Cert.Kernel4.k0_part90
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part91 : ∀ v0 v1 v2 v3 v4 v5 v6, Safe (defs₀ (F := F)) Variants.none (c : Thread nD τ) none Set.univ P (k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6) := by
  intro v0 v1 v2 v3 v4 v5 v6
  delta Cert.Kernel4.k0_part91
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16

theorem safe_k0_part92 : Safe (defs₀ (F := F)) Variants.none (c : Thread nD τ) none Set.univ P (k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  delta Cert.Kernel4.k0_part92
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16
    | exact safe_k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _
    | exact safe_k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _
    | exact safe_k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _
    | exact safe_k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _
    | exact safe_k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _
    | exact safe_k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _
    | exact safe_k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _
    | exact safe_k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H
    | exact safe_k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _
    | exact safe_k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _
    | exact safe_k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _
    | exact safe_k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _
    | exact safe_k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _
    | exact safe_k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _
    | exact safe_k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _
    | exact safe_k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _
    | exact safe_k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _
    | exact safe_k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _
    | exact safe_k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _
    | exact safe_k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _
    | exact safe_k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _
    | exact safe_k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _
    | exact safe_k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _ _ _ _
    | exact safe_k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _
    | exact safe_k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _
    | exact safe_k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _
    | exact safe_k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _
    | exact safe_k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _ _ _ _
    | exact safe_k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _
    | exact safe_k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _
    | exact safe_k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _
    | exact safe_k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _
    | exact safe_k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _
    | exact safe_k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _
    | exact safe_k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _
    | exact safe_k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _
    | exact safe_k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _
    | exact safe_k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _ _ _
    | exact safe_k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _
    | exact safe_k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _
    | exact safe_k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _

theorem safe_k0_part93 : ∀ v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69, Safe (defs₀ (F := F)) Variants.none (c : Thread nD τ) none Set.univ P (k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69) := by
  intro v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69
  delta Cert.Kernel4.k0_part93
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16
    | exact safe_k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _
    | exact safe_k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _
    | exact safe_k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _
    | exact safe_k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _ _ _ _ _
    | exact safe_k0_part66 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _
    | exact safe_k0_part67 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part68 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part69 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _
    | exact safe_k0_part70 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _
    | exact safe_k0_part71 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part72 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _
    | exact safe_k0_part73 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _
    | exact safe_k0_part74 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _
    | exact safe_k0_part75 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _ _ _
    | exact safe_k0_part76 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part77 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _
    | exact safe_k0_part78 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _ _ _
    | exact safe_k0_part79 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _
    | exact safe_k0_part80 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part81 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part82 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _
    | exact safe_k0_part83 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _
    | exact safe_k0_part84 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part85 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _
    | exact safe_k0_part86 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part87 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part88 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part89 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _
    | exact safe_k0_part90 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _
    | exact safe_k0_part91 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _

theorem safe_cc0_deltanet : Safe (defs₀ (F := F)) Variants.none (c : Thread nD τ) none Set.univ P (cc0_deltanet i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  delta Cert.Kernel4.cc0_deltanet
  with_reducible repeat' first
    | exact safe_pure _
    | refine safe_bind ?_ fun _ => ?_
    | refine safe_dite (fun _ => ?_) (fun _ => ?_)
    | refine safe_load ?_
    | refine safe_store ?_
    | exact H.harg1 | exact H.harg2 | exact H.harg3 | exact H.harg4 | exact H.harg5 | exact H.harg6 | exact H.harg7 | exact H.harg8 | exact H.harg9 | exact H.harg10 | exact H.harg11 | exact H.harg12 | exact H.harg13 | exact H.harg14 | exact H.harg15 | exact H.harg16
    | exact safe_k0_part92 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H
    | exact safe_k0_part93 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 H _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

end Cert.Kernel4.Body

end
-- ==== Proof.Delta.Frame.lean ====
/- The frame of the delta-rule call. -/
module

public import proofs.«01_k».proof.Proof.Delta.Body

@[expose] public section

set_option maxRecDepth 16384

noncomputable section

namespace Cert.Kernel4.Body

open Cert.Kernel4 Cert.Kernel4.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, and no window's contents after the body named. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

/-- Every window is forgotten. -/
abbrev all : Fin cfg0.W → Bool := fun _ => true

/-- What the body finds and leaves at a point: the scratch and every window at some contents. -/
def state (c : Dev nD) (t : Fin cfg0.N) (O : sProp 𝕄) : sProp 𝕄 :=
  iprop((((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) ∗ ∃ r, prngReg c r) ∗ O ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X))

set_option maxHeartbeats 1600000 in
theorem has (c : Dev nD) (t : Fin cfg0.N) (O : sProp 𝕄) : Has c (state c t O) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (Memref.whole cc0_scratch0) (Memref.whole cc0_scratch1) (Memref.whole cc0_scratch2) (Memref.whole cc0_scratch3) (Memref.whole cc0_scratch4) (Memref.whole cc0_scratch5) (Memref.whole cc0_scratch6) := by
  unfold state
  exact ⟨holds_right (holds_right (holds_left (holds_owns))),
    holds_right (holds_right (holds_right (holds_left (holds_owns)))),
    holds_right (holds_right (holds_right (holds_right (holds_left (holds_owns))))),
    holds_right (holds_right (holds_right (holds_right (holds_right (holds_left (holds_owns)))))),
    holds_right (holds_right (holds_right (holds_right (holds_right (holds_right (holds_left (holds_owns))))))),
    holds_right (holds_right (holds_right (holds_right (holds_right (holds_right (holds_right (holds_left (holds_owns)))))))),
    holds_right (holds_right (holds_right (holds_right (holds_right (holds_right (holds_right (holds_right (holds_left (holds_owns))))))))),
    holds_right (holds_right (holds_right (holds_right (holds_right (holds_right (holds_right (holds_right (holds_right (holds_left (holds_owns)))))))))),
    holds_right (holds_right (holds_right (holds_right (holds_right (holds_right (holds_right (holds_right (holds_right (holds_right (holds_owns)))))))))),
    holds_left (holds_left (holds_left (holds_self (S := Finset.univ) (Finset.subset_univ _)))),
    holds_left (holds_left (holds_right (holds_left (holds_self (S := Finset.univ) (Finset.subset_univ _))))),
    holds_left (holds_left (holds_right (holds_right (holds_left (holds_self (S := Finset.univ) (Finset.subset_univ _)))))),
    holds_left (holds_left (holds_right (holds_right (holds_right (holds_left (holds_self (S := Finset.univ) (Finset.subset_univ _))))))),
    holds_left (holds_left (holds_right (holds_right (holds_right (holds_right (holds_left (holds_self (S := Finset.univ) (Finset.subset_univ _)))))))),
    holds_left (holds_left (holds_right (holds_right (holds_right (holds_right (holds_right (holds_left (holds_self (S := Finset.univ) (Finset.subset_univ _))))))))),
    holds_left (holds_left (holds_right (holds_right (holds_right (holds_right (holds_right (holds_right (holds_self (S := Finset.univ) (Finset.subset_univ _)))))))))⟩

theorem safe_body (c : Dev nD) (t : Fin cfg0.N) (O : sProp 𝕄) :
    Safe (defs₀ (F := F)) Variants.none (c : Thread nD τ) none Set.univ (state c t O) (bodyAt0 t) :=
  safe_cc0_deltanet (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (has c t O)

theorem body_row (t : Fin cfg0.N) : defs₀ (F := F) .tc cfg0.body (cfg0.bodyArgs t (cfg0.slots t)) = bodyAt0 t := by
  unfold defs₀; rw [Defs.onTc_tc]

theorem phi_eq (c : Dev nD) (u) : (dats (F := F) m 0 c).Φ u = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) ∗ ∃ r, prngReg c r) := by
  show Pipeline.ΦA spec0 c = _
  unfold Pipeline.ΦA
  rw [scopedRest0_eq]

theorem body_obligation (c : Dev nD) : BodyObligation (dats (F := F) m 0 c) (defs₀ (F := F)) Variants.none () Set.univ all := fun t => by
  rw [bigSep_W0]
  have hrow := body_row (F := F) t
  refine triple_restated (safe_body c t ((dats (F := F) m 0 c).owesAt () t.castSucc)) (by rw [hrow]) ?_ fun _ => ?_
  · unfold state
    rw [← phi_eq m c t.castSucc]
    try exact .rfl
  · unfold state
    rw [← phi_eq m c t.succ]
    try exact .rfl

/-- An input array holds at the end what the region found in it. -/
theorem kept (c : Dev nD) (w : Fin cfg0.W) (hw : (cfg0.win w).isOut = false) (X)
    (h : ((dats (F := F) m 0 c).toRForget all).ArrAt w cfg0.N X) : X = V m c (Pipeline.arrRef spec0 w) := by
  rw [RDat.ArrAt_in _ w hw] at h
  exact h.trans (dats_A m c w)

set_option backward.isDefEq.respectTransparency.types false in
set_option maxHeartbeats 800000 in
theorem run_main : θ_run defs (onTc (τ := τ) (main (F := F))) (s₀ m ρ)
    (fun r => RDat.FramePost cfg0 (fun c => (dats (F := F) m 0 c).toRForget all) (V m) r ∧ r.2.sem = fun _ => 0) :=
  Pipeline.θ_run_frame_forget_shared (Q' := _) cfgs (dats m) (0 : Fin 1) launch₀0 defs₀ Variants.none all m ρ main
    (hbody := fun c => (body_obligation m c).loose) (hq := fun _ _ _ => rfl)
    (howed := fun _ _ => rfl) (V := V m) (hmain := hmain m Variants.none) (hA := dats_A m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r (h : _ ∧ _) => ⟨fun c => ⟨(kept m c 3 rfl _ ((h.1 c).1 3)).trans (V_main_arg0 m c),
      (kept m c 4 rfl _ ((h.1 c).1 4)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel4.Body

end
-- ==== Proof.lean ====
/- The certificate: the input projection and the merge of the layer compute what their references say, and all four calls run. -/
module

public import proofs.«01_k».proof.Defs
public import proofs.«01_k».proof.Proof.Gen.Kernel
public import proofs.«01_k».proof.Proof.Gen.KernelIdeal
public import proofs.«01_k».proof.Proof.Inproj.Agree
public import proofs.«01_k».proof.Proof.Gen.Kernel2
public import proofs.«01_k».proof.Proof.Gen.Kernel2.Frame
public import proofs.«01_k».proof.Proof.Gen.Kernel2Ideal
public import proofs.«01_k».proof.Proof.Merge.Agree
public import proofs.«01_k».proof.Proof.Gen.Kernel3
public import proofs.«01_k».proof.Proof.Gen.Kernel4
public import proofs.«01_k».proof.Proof.Moba.Frame
public import proofs.«01_k».proof.Proof.Delta.Frame

@[expose] public section

noncomputable section

namespace Cert.Proof

/-- The frames of the four kernels, and for the first two those of their references, their idealizations, and the equality of
their results. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel4.Gen.facts, Cert.Inproj.facts_pre,
    Cert.Inproj.frame_kernel, Cert.Inproj.frame_ideal, Cert.Inproj.frame_ideal_pre, Cert.Inproj.frame_reference,
    Cert.Inproj.frame_reference_pre, fun m ρ _ => Cert.Kernel2.Gen.frame m ρ, fun m ρ _ => Cert.Kernel2Ideal.Gen.frame m ρ,
    Cert.Merge.frame_reference, fun m ρ _ => Cert.Kernel3.Body.frame m ρ, fun m ρ _ => Cert.Kernel4.Body.frame m ρ, trivial, Cert.Inproj.agree, trivial, Cert.Merge.agree⟩

end Cert.Proof

end
